-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_attendable [hPre_attendable : Cert.Pre_attendable.Facts] (m : (ℓ : Loc Cert.KernelIdeal.nD Cert.KernelIdeal.τ Cert.KernelIdeal.sig) → Buf (Elt Ideal) ℓ) : Prop :=
  ∀ c : Dev Cert.KernelIdeal.nD,
    (Cert.Pre_attendable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_attendable [hPre_attendable : Cert.Pre_attendable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_attendable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_tiles_in_range : Cert.Pre_tiles_in_range.Facts] (m : (ℓ : Loc Cert.Kernel2.nD Cert.Kernel2.τ Cert.Kernel2.sig) → Buf (Elt Bits) ℓ) : Prop :=
  ∀ c : Dev Cert.Kernel2.nD,
    (Cert.Pre_tiles_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tiles_in_range : Cert.Pre_tiles_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_in_range [hPre_tiles_in_range : Cert.Pre_tiles_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_down_tiles_in_range : Cert.Pre_down_tiles_in_range.Facts] (m : (ℓ : Loc Cert.Kernel3.nD Cert.Kernel3.τ Cert.Kernel3.sig) → Buf (Elt Bits) ℓ) : Prop :=
  ∀ c : Dev Cert.Kernel3.nD,
    (Cert.Pre_down_tiles_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_down_tiles_in_range : Cert.Pre_down_tiles_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_down_tiles_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_down_tiles_in_range [hPre_down_tiles_in_range : Cert.Pre_down_tiles_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_down_tiles_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_attendable [hKernelIdeal : Cert.KernelIdeal.Facts] [hPre_attendable : Cert.Pre_attendable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_attendable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_attendable [hReferenceIdeal : Cert.ReferenceIdeal.Facts] [hPre_attendable : Cert.Pre_attendable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_attendable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_tiles_in_range : Cert.Pre_tiles_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tiles_in_range : Cert.Pre_tiles_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tiles_in_range [hReference2Ideal : Cert.Reference2Ideal.Facts] [hPre_tiles_in_range : Cert.Pre_tiles_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_down_tiles_in_range : Cert.Pre_down_tiles_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_down_tiles_in_range : Cert.Pre_down_tiles_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_down_tiles_in_range [hReference3Ideal : Cert.Reference3Ideal.Facts] [hPre_down_tiles_in_range : Cert.Pre_down_tiles_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_down_tiles_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_attendable [hKernelIdeal : Cert.KernelIdeal.Facts] [hReferenceIdeal : Cert.ReferenceIdeal.Facts] [hPre_attendable : Cert.Pre_attendable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_attendable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_on_rows_used [hKernel2Ideal : Cert.Kernel2Ideal.Facts] [hReference2Ideal : Cert.Reference2Ideal.Facts] [hPre_tiles_in_range : Cert.Pre_tiles_in_range.Facts] [hOn_rows_used : Cert.On_rows_used.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![147456, 2048]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Kernel2Ideal.nD Cert.Kernel2Ideal.τ).loc Cert.Kernel2Ideal.main_v2) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![147456, 2048]⟩ : Shape).Idx, (Cert.On_rows_used.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) i = 1#1 → r.2.mem ((c.tc : Thread Cert.Reference2Ideal.nD Cert.Reference2Ideal.τ).loc Cert.Reference2Ideal.main_v37) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_on_down_rows_used [hKernel3Ideal : Cert.Kernel3Ideal.Facts] [hReference3Ideal : Cert.Reference3Ideal.Facts] [hPre_down_tiles_in_range : Cert.Pre_down_tiles_in_range.Facts] [hOn_down_rows_used : Cert.On_down_rows_used.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![147456, 2048]⟩ : Shape).Idx, (Cert.On_down_rows_used.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Kernel3Ideal.nD Cert.Kernel3Ideal.τ).loc Cert.Kernel3Ideal.main_v2) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![147456, 2048]⟩ : Shape).Idx, (Cert.On_down_rows_used.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) i = 1#1 → r.2.mem ((c.tc : Thread Cert.Reference3Ideal.nD Cert.Reference3Ideal.τ).loc Cert.Reference3Ideal.main_v20) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_attendable : Cert.Pre_attendable.Facts) (hPre_tiles_in_range : Cert.Pre_tiles_in_range.Facts) (hPre_down_tiles_in_range : Cert.Pre_down_tiles_in_range.Facts) (hOn_rows_used : Cert.On_rows_used.Facts) (hOn_down_rows_used : Cert.On_down_rows_used.Facts),
    quiescent_Kernel (hKernel := hKernel)
    ∧ quiescent_KernelIdeal (hKernelIdeal := hKernelIdeal)
    ∧ quiescent_KernelIdeal_pre_attendable (hKernelIdeal := hKernelIdeal) (hPre_attendable := hPre_attendable)
    ∧ quiescent_ReferenceIdeal (hReferenceIdeal := hReferenceIdeal)
    ∧ quiescent_ReferenceIdeal_pre_attendable (hReferenceIdeal := hReferenceIdeal) (hPre_attendable := hPre_attendable)
    ∧ quiescent_Kernel2 (hKernel2 := hKernel2) (hPre_tiles_in_range := hPre_tiles_in_range)
    ∧ quiescent_Kernel2Ideal (hKernel2Ideal := hKernel2Ideal) (hPre_tiles_in_range := hPre_tiles_in_range)
    ∧ quiescent_Reference2Ideal (hReference2Ideal := hReference2Ideal)
    ∧ quiescent_Reference2Ideal_pre_tiles_in_range (hReference2Ideal := hReference2Ideal) (hPre_tiles_in_range := hPre_tiles_in_range)
    ∧ quiescent_Kernel3 (hKernel3 := hKernel3) (hPre_down_tiles_in_range := hPre_down_tiles_in_range)
    ∧ quiescent_Kernel3Ideal (hKernel3Ideal := hKernel3Ideal) (hPre_down_tiles_in_range := hPre_down_tiles_in_range)
    ∧ quiescent_Reference3Ideal (hReference3Ideal := hReference3Ideal)
    ∧ quiescent_Reference3Ideal_pre_down_tiles_in_range (hReference3Ideal := hReference3Ideal) (hPre_down_tiles_in_range := hPre_down_tiles_in_range)
    ∧ preserves_Kernel_KernelIdeal
    ∧ algebraic_KernelIdeal_ReferenceIdeal_pre_attendable (hKernelIdeal := hKernelIdeal) (hReferenceIdeal := hReferenceIdeal) (hPre_attendable := hPre_attendable)
    ∧ preserves_Kernel2_Kernel2Ideal
    ∧ algebraic_Kernel2Ideal_Reference2Ideal_on_rows_used (hKernel2Ideal := hKernel2Ideal) (hReference2Ideal := hReference2Ideal) (hPre_tiles_in_range := hPre_tiles_in_range) (hOn_rows_used := hOn_rows_used)
    ∧ preserves_Kernel3_Kernel3Ideal
    ∧ algebraic_Kernel3Ideal_Reference3Ideal_on_down_rows_used (hKernel3Ideal := hKernel3Ideal) (hReference3Ideal := hReference3Ideal) (hPre_down_tiles_in_range := hPre_down_tiles_in_range) (hOn_down_rows_used := hOn_down_rows_used)
-- ==== On_down_rows_used.lean ====
abbrev S288 : Shape := ⟨1, ![288]⟩
abbrev S1 : Shape := ⟨1, ![1]⟩
abbrev S147456x2048 : Shape := ⟨2, ![147456, 2048]⟩
abbrev S32x2048x2048 : Shape := ⟨3, ![32, 2048, 2048]⟩
abbrev S32x2048 : Shape := ⟨2, ![32, 2048]⟩
abbrev S_ : Shape := ⟨0, ![]⟩

class Facts : Prop where
  shapeCasts_S1_S_ : S1.ShapeCasts S_
  bcast_S_S147456x2048 : S_.BroadcastsInDim S147456x2048 (![] : Fin 0 → Fin S147456x2048.rank)

variable [Facts]

def fn {F : FTy → Type} [FloatOps F] (main_arg0 : IVec S288 32) (main_arg1 : IVec S1 32) (main_arg2 : FVec F S147456x2048 .bf16) (main_arg3 : FVec F S32x2048x2048 .f32) (main_arg4 : FVec F S32x2048 .f32) : IVec S147456x2048 1 :=
  let main_v0 : IVec S147456x2048 32 := iotaInDim S147456x2048 32 0
  let main_v1 : IVec S_ 32 := shapeCast S_ main_arg1 shapeCasts_S1_S_
  let main_c : IVec S_ 32 := constantI S_ 32 512#32
  let main_v2 : IVec S_ 32 := muli main_v1 main_c
  let main_v3 : IVec S147456x2048 32 := broadcastInDim S147456x2048 ![] bcast_S_S147456x2048 main_v2
  let main_v4 : IVec S147456x2048 1 := cmpi .slt main_v0 main_v3
  main_v4
-- ==== On_rows_used.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S_ : Shape := ⟨0, ![]⟩

class Facts : Prop where
  shapeCasts_S1_S_ : S1.ShapeCasts S_
  bcast_S_S147456x2048 : S_.BroadcastsInDim S147456x2048 (![] : Fin 0 → Fin S147456x2048.rank)

variable [Facts]

def fn {F : FTy → Type} [FloatOps F] (main_arg0 : IVec S288 32) (main_arg1 : IVec S1 32) (main_arg2 : FVec F S147456x2048 .f32) (main_arg3 : FVec F S32x2048x4096 .f32) (main_arg4 : FVec F S32x4096 .f32) : IVec S147456x2048 1 :=
  let main_v0 : IVec S147456x2048 32 := iotaInDim S147456x2048 32 0
  let main_v1 : IVec S_ 32 := shapeCast S_ main_arg1 shapeCasts_S1_S_
  let main_c : IVec S_ 32 := constantI S_ 32 512#32
  let main_v2 : IVec S_ 32 := muli main_v1 main_c
  let main_v3 : IVec S147456x2048 32 := broadcastInDim S147456x2048 ![] bcast_S_S147456x2048 main_v2
  let main_v4 : IVec S147456x2048 1 := cmpi .slt main_v0 main_v3
  main_v4
-- ==== Pre_attendable.lean ====
abbrev S2x16384x4x128 : Shape := ⟨4, ![2, 16384, 4, 128]⟩
abbrev S2x16384x256 : Shape := ⟨3, ![2, 16384, 256]⟩
abbrev S256 : Shape := ⟨1, ![256]⟩
abbrev S_ : Shape := ⟨0, ![]⟩
abbrev S2x16384x256x1 : Shape := ⟨4, ![2, 16384, 256, 1]⟩
abbrev S2x16384x1x256 : Shape := ⟨4, ![2, 16384, 1, 256]⟩
abbrev S2x16384x256x256 : Shape := ⟨4, ![2, 16384, 256, 256]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S16384 : Shape := ⟨1, ![16384]⟩
abbrev S1x16384x1 : Shape := ⟨3, ![1, 16384, 1]⟩
abbrev S2x16384 : Shape := ⟨2, ![2, 16384]⟩

class Facts : Prop where
  bcast_S_S2x16384x4x128 : S_.BroadcastsInDim S2x16384x4x128 (![] : Fin 0 → Fin S2x16384x4x128.rank)
  reducesTo_S2x16384x4x128_S_d0_1_2_3 : S2x16384x4x128.ReducesTo [0, 1, 2, 3] S_
  h_S_ : 0 < S_.numel
  bcast_S_S2x16384x256 : S_.BroadcastsInDim S2x16384x256 (![] : Fin 0 → Fin S2x16384x256.rank)
  reducesTo_S2x16384x256_S_d0_1_2 : S2x16384x256.ReducesTo [0, 1, 2] S_
  bcast_S2x16384x256_S2x16384x256x1_0_1_2 : S2x16384x256.BroadcastsInDim S2x16384x256x1 (![0, 1, 2] : Fin 3 → Fin S2x16384x256x1.rank)
  bcast_S2x16384x256_S2x16384x1x256_0_1_3 : S2x16384x256.BroadcastsInDim S2x16384x1x256 (![0, 1, 3] : Fin 3 → Fin S2x16384x1x256.rank)
  bcast_S2x16384x256x1_S2x16384x256x256_0_1_2_3 : S2x16384x256x1.BroadcastsInDim S2x16384x256x256 (![0, 1, 2, 3] : Fin 4 → Fin S2x16384x256x256.rank)
  bcast_S2x16384x1x256_S2x16384x256x256_0_1_2_3 : S2x16384x1x256.BroadcastsInDim S2x16384x256x256 (![0, 1, 2, 3] : Fin 4 → Fin S2x16384x256x256.rank)
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S256x256_S1x1x256x256_2_3 : S256x256.BroadcastsInDim S1x1x256x256 (![2, 3] : Fin 2 → Fin S1x1x256x256.rank)
  bcast_S1x1x256x256_S2x16384x256x256_0_1_2_3 : S1x1x256x256.BroadcastsInDim S2x16384x256x256 (![0, 1, 2, 3] : Fin 4 → Fin S2x16384x256x256.rank)
  reducesTo_S2x16384x256x256_S_d0_1_2_3 : S2x16384x256x256.ReducesTo [0, 1, 2, 3] S_
  bcast_S_S16384 : S_.BroadcastsInDim S16384 (![] : Fin 0 → Fin S16384.rank)
  bcast_S16384_S1x16384x1_1 : S16384.BroadcastsInDim S1x16384x1 (![1] : Fin 1 → Fin S1x16384x1.rank)
  bcast_S1x16384x1_S2x16384x256_0_1_2 : S1x16384x1.BroadcastsInDim S2x16384x256 (![0, 1, 2] : Fin 3 → Fin S2x16384x256.rank)
  reducesTo_S2x16384x256_S2x16384_d2 : S2x16384x256.ReducesTo [2] S2x16384
  reducesTo_S2x16384_S_d0_1 : S2x16384.ReducesTo [0, 1] S_

variable [Facts]

def fn_where {F : FTy → Type} [FloatOps F] (arg0 : IVec S16384 1) (arg1 : IVec S16384 32) (arg2 : IVec S16384 32) : IVec S16384 32 :=
  let v0 : IVec S16384 32 := select arg0 arg1 arg2
  v0

def fn_floor_divide {F : FTy → Type} [FloatOps F] (arg0 : IVec S16384 32) (arg1 : IVec S_ 32) : IVec S16384 32 :=
  let v0 : IVec S_ 32 := id arg1
  let v1 : IVec S16384 32 := broadcastInDim S16384 ![] bcast_S_S16384 v0
  let v2 : IVec S16384 32 := Host.divsi arg0 v1
  let v3 : IVec S16384 32 := signi arg0
  let v4 : IVec S_ 32 := signi v0
  let v5 : IVec S16384 32 := broadcastInDim S16384 ![] bcast_S_S16384 v4
  let v6 : IVec S16384 1 := cmpi .ne v3 v5
  let v7 : IVec S16384 32 := broadcastInDim S16384 ![] bcast_S_S16384 v0
  let v8 : IVec S16384 32 := Host.remsi arg0 v7
  let c : IVec S_ 32 := constantI S_ 32 0#32
  let v9 : IVec S16384 32 := broadcastInDim S16384 ![] bcast_S_S16384 c
  let v10 : IVec S16384 1 := cmpi .ne v8 v9
  let v11 : IVec S16384 1 := andi v6 v10
  let c_0 : IVec S_ 32 := constantI S_ 32 1#32
  let v12 : IVec S16384 32 := broadcastInDim S16384 ![] bcast_S_S16384 c_0
  let v13 : IVec S16384 32 := subi v2 v12
  let v14 : IVec S16384 32 := fn_where (F := F) v11 v13 v2
  v14

def fn_where_1 {F : FTy → Type} [FloatOps F] (arg0 : IVec S2x16384x256 1) (arg1 : IVec S2x16384x256 32) (arg2 : IVec S2x16384x256 32) : IVec S2x16384x256 32 :=
  let v0 : IVec S2x16384x256 32 := select arg0 arg1 arg2
  v0

def fn_floor_divide_0 {F : FTy → Type} [FloatOps F] (arg0 : IVec S2x16384x256 32) (arg1 : IVec S_ 32) : IVec S2x16384x256 32 :=
  let v0 : IVec S_ 32 := id arg1
  let v1 : IVec S2x16384x256 32 := broadcastInDim S2x16384x256 ![] bcast_S_S2x16384x256 v0
  let v2 : IVec S2x16384x256 32 := Host.divsi arg0 v1
  let v3 : IVec S2x16384x256 32 := signi arg0
  let v4 : IVec S_ 32 := signi v0
  let v5 : IVec S2x16384x256 32 := broadcastInDim S2x16384x256 ![] bcast_S_S2x16384x256 v4
  let v6 : IVec S2x16384x256 1 := cmpi .ne v3 v5
  let v7 : IVec S2x16384x256 32 := broadcastInDim S2x16384x256 ![] bcast_S_S2x16384x256 v0
  let v8 : IVec S2x16384x256 32 := Host.remsi arg0 v7
  let c : IVec S_ 32 := constantI S_ 32 0#32
  let v9 : IVec S2x16384x256 32 := broadcastInDim S2x16384x256 ![] bcast_S_S2x16384x256 c
  let v10 : IVec S2x16384x256 1 := cmpi .ne v8 v9
  let v11 : IVec S2x16384x256 1 := andi v6 v10
  let c_0 : IVec S_ 32 := constantI S_ 32 1#32
  let v12 : IVec S2x16384x256 32 := broadcastInDim S2x16384x256 ![] bcast_S_S2x16384x256 c_0
  let v13 : IVec S2x16384x256 32 := subi v2 v12
  let v14 : IVec S2x16384x256 32 := fn_where_1 (F := F) v11 v13 v2
  v14

def fn_part2 {F : FTy → Type} [FloatOps F] (main_v9 : IVec S_ 1) (main_v15 : IVec S_ 1) (main_v30 : IVec S_ 1) (main_v36 : IVec S2x16384x256 1) (main_c_8 : IVec S_ 1) : IVec S_ 1 :=
  let main_v37 : IVec S2x16384 1 := (fun x v => Host.reduce IntOp.ori x v reducesTo_S2x16384x256_S2x16384_d2 h_S_) main_v36 main_c_8
  let main_c_9 : IVec S_ 1 := constantI S_ 1 1#1
  let main_v38 : IVec S_ 1 := (fun x v => Host.reduce IntOp.andi x v reducesTo_S2x16384_S_d0_1 h_S_) main_v37 main_c_9
  let main_v39 : IVec S_ 1 := andi main_v9 main_v15
  let main_v40 : IVec S_ 1 := andi main_v39 main_v30
  let main_v41 : IVec S_ 1 := andi main_v40 main_v38
  main_v41

def fn_part1 {F : FTy → Type} [FloatOps F] (main_arg3 : IVec S2x16384x256 32) (main_v0 : IVec S256 32) (main_v9 : IVec S_ 1) (main_v15 : IVec S_ 1) (main_v16 : IVec S2x16384x256x1 32) : IVec S_ 1 :=
  let main_v17 : IVec S2x16384x1x256 32 := broadcastInDim S2x16384x1x256 ![0, 1, 3] bcast_S2x16384x256_S2x16384x1x256_0_1_3 main_arg3
  let main_v18 : IVec S2x16384x256x256 32 := broadcastInDim S2x16384x256x256 ![0, 1, 2, 3] bcast_S2x16384x256x1_S2x16384x256x256_0_1_2_3 main_v16
  let main_v19 : IVec S2x16384x256x256 32 := broadcastInDim S2x16384x256x256 ![0, 1, 2, 3] bcast_S2x16384x1x256_S2x16384x256x256_0_1_2_3 main_v17
  let main_v20 : IVec S2x16384x256x256 1 := cmpi .eq main_v18 main_v19
  let main_v21 : IVec S2x16384x256x256 1 := noti main_v20
  let main_v22 : IVec S256x1 32 := broadcastInDim S256x1 ![0] bcast_S256_S256x1_0 main_v0
  let main_v23 : IVec S1x256 32 := broadcastInDim S1x256 ![1] bcast_S256_S1x256_1 main_v0
  let main_v24 : IVec S256x256 32 := broadcastInDim S256x256 ![0, 1] bcast_S256x1_S256x256_0_1 main_v22
  let main_v25 : IVec S256x256 32 := broadcastInDim S256x256 ![0, 1] bcast_S1x256_S256x256_0_1 main_v23
  let main_v26 : IVec S256x256 1 := cmpi .eq main_v24 main_v25
  let main_v27 : IVec S1x1x256x256 1 := broadcastInDim S1x1x256x256 ![2, 3] bcast_S256x256_S1x1x256x256_2_3 main_v26
  let main_v28 : IVec S2x16384x256x256 1 := broadcastInDim S2x16384x256x256 ![0, 1, 2, 3] bcast_S1x1x256x256_S2x16384x256x256_0_1_2_3 main_v27
  let main_v29 : IVec S2x16384x256x256 1 := ori main_v21 main_v28
  let main_c_5 : IVec S_ 1 := constantI S_ 1 1#1
  let main_v30 : IVec S_ 1 := (fun x v => Host.reduce IntOp.andi x v reducesTo_S2x16384x256x256_S_d0_1_2_3 h_S_) main_v29 main_c_5
  let main_v31 : IVec S16384 32 := iotaInDim S16384 32 0
  let main_c_6 : IVec S_ 32 := constantI S_ 32 64#32
  let main_v32 : IVec S16384 32 := fn_floor_divide (F := F) main_v31 main_c_6
  let main_c_7 : IVec S_ 32 := constantI S_ 32 64#32
  let main_v33 : IVec S2x16384x256 32 := fn_floor_divide_0 (F := F) main_arg3 main_c_7
  let main_v34 : IVec S1x16384x1 32 := broadcastInDim S1x16384x1 ![1] bcast_S16384_S1x16384x1_1 main_v32
  let main_v35 : IVec S2x16384x256 32 := broadcastInDim S2x16384x256 ![0, 1, 2] bcast_S1x16384x1_S2x16384x256_0_1_2 main_v34
  let main_v36 : IVec S2x16384x256 1 := cmpi .sle main_v33 main_v35
  let main_c_8 : IVec S_ 1 := constantI S_ 1 0#1
  fn_part2 (F := F) main_v9 main_v15 main_v30 main_v36 main_c_8

def fn {F : FTy → Type} [FloatOps F] (main_arg0 : FVec F S2x16384x4x128 .f32) (main_arg1 : FVec F S2x16384x4x128 .f32) (main_arg2 : FVec F S2x16384x4x128 .f32) (main_arg3 : IVec S2x16384x256 32) : IVec S_ 1 :=
  let main_v0 : IVec S256 32 := iotaInDim S256 32 0
  let main_v1 : FVec F S2x16384x4x128 .f32 := Host.absf main_arg0
  let main_cst : FVec F S_ .f32 := constant S_ .f32 0x7F800000#32
  let main_v2 : FVec F S2x16384x4x128 .f32 := broadcastInDim S2x16384x4x128 ![] bcast_S_S2x16384x4x128 main_cst
  let main_v3 : IVec S2x16384x4x128 1 := cmpf .olt main_v1 main_v2
  let main_c : IVec S_ 1 := constantI S_ 1 1#1
  let main_v4 : IVec S_ 1 := (fun x v => Host.reduce IntOp.andi x v reducesTo_S2x16384x4x128_S_d0_1_2_3 h_S_) main_v3 main_c
  let main_v5 : FVec F S2x16384x4x128 .f32 := Host.absf main_arg1
  let main_cst_0 : FVec F S_ .f32 := constant S_ .f32 0x7F800000#32
  let main_v6 : FVec F S2x16384x4x128 .f32 := broadcastInDim S2x16384x4x128 ![] bcast_S_S2x16384x4x128 main_cst_0
  let main_v7 : IVec S2x16384x4x128 1 := cmpf .olt main_v5 main_v6
  let main_c_1 : IVec S_ 1 := constantI S_ 1 1#1
  let main_v8 : IVec S_ 1 := (fun x v => Host.reduce IntOp.andi x v reducesTo_S2x16384x4x128_S_d0_1_2_3 h_S_) main_v7 main_c_1
  let main_v9 : IVec S_ 1 := andi main_v4 main_v8
  let main_c_2 : IVec S_ 32 := constantI S_ 32 0#32
  let main_v10 : IVec S2x16384x256 32 := broadcastInDim S2x16384x256 ![] bcast_S_S2x16384x256 main_c_2
  let main_v11 : IVec S2x16384x256 1 := cmpi .sge main_arg3 main_v10
  let main_c_3 : IVec S_ 32 := constantI S_ 32 16384#32
  let main_v12 : IVec S2x16384x256 32 := broadcastInDim S2x16384x256 ![] bcast_S_S2x16384x256 main_c_3
  let main_v13 : IVec S2x16384x256 1 := cmpi .slt main_arg3 main_v12
  let main_v14 : IVec S2x16384x256 1 := andi main_v11 main_v13
  let main_c_4 : IVec S_ 1 := constantI S_ 1 1#1
  let main_v15 : IVec S_ 1 := (fun x v => Host.reduce IntOp.andi x v reducesTo_S2x16384x256_S_d0_1_2 h_S_) main_v14 main_c_4
  let main_v16 : IVec S2x16384x256x1 32 := broadcastInDim S2x16384x256x1 ![0, 1, 2] bcast_S2x16384x256_S2x16384x256x1_0_1_2 main_arg3
  fn_part1 (F := F) main_arg3 main_v0 main_v9 main_v15 main_v16
-- ==== Pre_down_tiles_in_range.lean ====
abbrev S288 : Shape := ⟨1, ![288]⟩
abbrev S1 : Shape := ⟨1, ![1]⟩
abbrev S147456x2048 : Shape := ⟨2, ![147456, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S147456x2048 .bf16) (main_arg3 : FVec F S32x2048x2048 .f32) (main_arg4 : FVec F S32x2048 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_tiles_in_range.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S147456x2048 .f32) (main_arg3 : FVec F S32x2048x4096 .f32) (main_arg4 : FVec F S32x4096 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S2x16384x4x128 : Shape := ⟨4, ![2, 16384, 4, 128]⟩
abbrev S2x16384x256 : Shape := ⟨3, ![2, 16384, 256]⟩
abbrev S528 : Shape := ⟨1, ![528]⟩
abbrev S16384 : Shape := ⟨1, ![16384]⟩
abbrev S2x16384x256x1 : Shape := ⟨4, ![2, 16384, 256, 1]⟩
abbrev S1x1x1x16384 : Shape := ⟨4, ![1, 1, 1, 16384]⟩
abbrev S2x16384x256x16384 : Shape := ⟨4, ![2, 16384, 256, 16384]⟩
abbrev S_ : Shape := ⟨0, ![]⟩
abbrev S2x16384x16384 : Shape := ⟨3, ![2, 16384, 16384]⟩
abbrev S1x16384 : Shape := ⟨2, ![1, 16384]⟩
abbrev S16384x1 : Shape := ⟨2, ![16384, 1]⟩
abbrev S16384x16384 : Shape := ⟨2, ![16384, 16384]⟩
abbrev S1x16384x16384 : Shape := ⟨3, ![1, 16384, 16384]⟩
abbrev S2x128x128x32x512 : Shape := ⟨5, ![2, 128, 128, 32, 512]⟩
abbrev S2x128x32x128x512 : Shape := ⟨5, ![2, 128, 32, 128, 512]⟩
abbrev S256x32x128x512 : Shape := ⟨4, ![256, 32, 128, 512]⟩
abbrev S32768x512 : Shape := ⟨2, ![32768, 512]⟩
abbrev S32768x6144 : Shape := ⟨2, ![32768, 6144]⟩
abbrev S512x512 : Shape := ⟨2, ![512, 512]⟩
abbrev S1 : Shape := ⟨1, ![1]⟩
abbrev S4x1x128x512 : Shape := ⟨4, ![4, 1, 128, 512]⟩
abbrev S512x128 : Shape := ⟨2, ![512, 128]⟩
abbrev S512 : Shape := ⟨1, ![512]⟩
abbrev S512x1 : Shape := ⟨2, ![512, 1]⟩

abbrev nBuf : Space → Nat
  | .hbm => 78
  | .vmem => 13
  | .smem => 4
  | _ => 0

abbrev bufTy : (tb : Table) → Fin (tcTables nBuf tb) → BufTy
  | .hbm, ⟨0, _⟩ => ⟨S2x16384x4x128, .f32⟩
  | .hbm, ⟨1, _⟩ => ⟨S2x16384x4x128, .f32⟩
  | .hbm, ⟨2, _⟩ => ⟨S2x16384x4x128, .f32⟩
  | .hbm, ⟨3, _⟩ => ⟨S2x16384x256, .i32⟩
  | .hbm, ⟨4, _⟩ => ⟨S16384, .i32⟩
  | .hbm, ⟨5, _⟩ => ⟨S2x16384x256x1, .i32⟩
  | .hbm, ⟨6, _⟩ => ⟨S1x1x1x16384, .i32⟩
  | .hbm, ⟨7, _⟩ => ⟨S2x16384x256x16384, .i32⟩
  | .hbm, ⟨8, _⟩ => ⟨S2x16384x256x16384, .i32⟩
  | .hbm, ⟨9, _⟩ => ⟨S2x16384x256x16384, .i1⟩
  | .hbm, ⟨10, _⟩ => ⟨S_, .i1⟩
  | .hbm, ⟨11, _⟩ => ⟨S2x16384x16384, .i1⟩
  | .hbm, ⟨12, _⟩ => ⟨S1x16384, .i32⟩
  | .hbm, ⟨13, _⟩ => ⟨S_, .i32⟩
  | .hbm, ⟨14, _⟩ => ⟨S_, .i32⟩
  | .hbm, ⟨15, _⟩ => ⟨S1x16384, .i32⟩
  | .hbm, ⟨16, _⟩ => ⟨S1x16384, .i32⟩
  | .hbm, ⟨17, _⟩ => ⟨S1x16384, .i32⟩
  | .hbm, ⟨18, _⟩ => ⟨S_, .i32⟩
  | .hbm, ⟨19, _⟩ => ⟨S1x16384, .i32⟩
  | .hbm, ⟨20, _⟩ => ⟨S1x16384, .i1⟩
  | .hbm, ⟨21, _⟩ => ⟨S1x16384, .i32⟩
  | .hbm, ⟨22, _⟩ => ⟨S1x16384, .i32⟩
  | .hbm, ⟨23, _⟩ => ⟨S_, .i32⟩
  | .hbm, ⟨24, _⟩ => ⟨S1x16384, .i32⟩
  | .hbm, ⟨25, _⟩ => ⟨S1x16384, .i1⟩
  | .hbm, ⟨26, _⟩ => ⟨S1x16384, .i1⟩
  | .hbm, ⟨27, _⟩ => ⟨S_, .i32⟩
  | .hbm, ⟨28, _⟩ => ⟨S1x16384, .i32⟩
  | .hbm, ⟨29, _⟩ => ⟨S1x16384, .i32⟩
  | .hbm, ⟨30, _⟩ => ⟨S1x16384, .i32⟩
  | .hbm, ⟨31, _⟩ => ⟨S16384x1, .i32⟩
  | .hbm, ⟨32, _⟩ => ⟨S_, .i32⟩
  | .hbm, ⟨33, _⟩ => ⟨S_, .i32⟩
  | .hbm, ⟨34, _⟩ => ⟨S16384x1, .i32⟩
  | .hbm, ⟨35, _⟩ => ⟨S16384x1, .i32⟩
  | .hbm, ⟨36, _⟩ => ⟨S16384x1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S16384x1, .i32⟩
  | .hbm, ⟨41, _⟩ => ⟨S16384x1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i32⟩
  | .hbm, ⟨47, _⟩ => ⟨S16384x1, .i32⟩
  | .hbm, ⟨48, _⟩ => ⟨S16384x1, .i32⟩
  | .hbm, ⟨49, _⟩ => ⟨S16384x1, .i32⟩
  | .hbm, ⟨50, _⟩ => ⟨S16384x16384, .i32⟩
  | .hbm, ⟨51, _⟩ => ⟨S16384x16384, .i32⟩
  | .hbm, ⟨52, _⟩ => ⟨S16384x16384, .i1⟩
  | .hbm, ⟨53, _⟩ => ⟨S1x16384x16384, .i1⟩
  | .hbm, ⟨54, _⟩ => ⟨S2x16384x16384, .i1⟩
  | .hbm, ⟨55, _⟩ => ⟨S2x16384x16384, .i1⟩
  | .hbm, ⟨56, _⟩ => ⟨S_, .f32⟩
  | .hbm, ⟨57, _⟩ => ⟨S_, .f32⟩
  | .hbm, ⟨58, _⟩ => ⟨S2x16384x16384, .f32⟩
  | .hbm, ⟨59, _⟩ => ⟨S2x16384x16384, .f32⟩
  | .hbm, ⟨60, _⟩ => ⟨S2x16384x16384, .f32⟩
  | .hbm, ⟨61, _⟩ => ⟨S2x16384x16384, .bf16⟩
  | .hbm, ⟨62, _⟩ => ⟨S2x128x128x32x512, .bf16⟩
  | .hbm, ⟨63, _⟩ => ⟨S2x128x32x128x512, .bf16⟩
  | .hbm, ⟨64, _⟩ => ⟨S256x32x128x512, .bf16⟩
  | .hbm, ⟨65, _⟩ => ⟨S_, .f32⟩
  | .hbm, ⟨66, _⟩ => ⟨S2x16384x4x128, .f32⟩
  | .hbm, ⟨67, _⟩ => ⟨S2x16384x4x128, .f32⟩
  | .hbm, ⟨68, _⟩ => ⟨S2x16384x4x128, .bf16⟩
  | .hbm, ⟨69, _⟩ => ⟨S32768x512, .bf16⟩
  | .hbm, ⟨70, _⟩ => ⟨S2x16384x4x128, .bf16⟩
  | .hbm, ⟨71, _⟩ => ⟨S32768x512, .bf16⟩
  | .hbm, ⟨72, _⟩ => ⟨S2x16384x4x128, .bf16⟩
  | .hbm, ⟨73, _⟩ => ⟨S32768x512, .bf16⟩
  | .hbm, ⟨74, _⟩ => ⟨S_, .i32⟩
  | .hbm, ⟨75, _⟩ => ⟨S_, .bf16⟩
  | .hbm, ⟨76, _⟩ => ⟨S32768x6144, .bf16⟩
  | .hbm, ⟨77, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S4x1x128x512, .bf16⟩
  | .local _ .vmem, ⟨3, _⟩ => ⟨S4x1x128x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .smem, ⟨0, _⟩ => ⟨S528, .i32⟩
  | .local _ .smem, ⟨1, _⟩ => ⟨S528, .i32⟩
  | .local _ .smem, ⟨2, _⟩ => ⟨S528, .i32⟩
  | .local _ .smem, ⟨3, _⟩ => ⟨S528, .i32⟩
  | _, _ => ⟨S2x16384x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_3 : Ref sig .tc := ⟨.hbm, 10, rfl⟩
abbrev main_v6 : Ref sig .tc := ⟨.hbm, 11, rfl⟩
abbrev main_v7 : Ref sig .tc := ⟨.hbm, 12, rfl⟩
abbrev main_c_4 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst : Ref sig .tc := ⟨.hbm, 56, rfl⟩
abbrev main_cst_6 : Ref sig .tc := ⟨.hbm, 57, rfl⟩
abbrev main_call2_v0 : Ref sig .tc := ⟨.hbm, 58, rfl⟩
abbrev main_call2_v1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_cst_7 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_c_8 : Ref sig .tc := ⟨.hbm, 74, rfl⟩
abbrev main_call3_v0 : Ref sig .tc := ⟨.hbm, 75, rfl⟩
abbrev main_v30 : Ref sig .tc := ⟨.hbm, 76, rfl⟩
abbrev main_v31 : Ref sig .tc := ⟨.hbm, 77, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 528], ![false, false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v1 : Index := Scalar.indexCast arg1
  ![v1.toNat]
def k0_off2 (i : grid0.Coords) : Fin 1 → Nat :=
  let arg1 : BitVec 32 := BitVec.ofNat 32 (i 1).val
  let v165 : Index := Scalar.indexCast arg1
  ![v165.toNat]
def k0_cond2 (v166 : BitVec 32) : BitVec 1 :=
  let c1_i32_87 : BitVec 32 := 1#32
  let v167 : BitVec 1 := Scalar.cmpi .eq v166 c1_i32_87
  let v168 : BitVec 32 := Scalar.extui v167
  let c0_i32_88 : BitVec 32 := 0#32
  let v169 : BitVec 1 := Scalar.cmpi .ne v168 c0_i32_88
  v169

def cc0_transform_0 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S528) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_1 (k0_off1_inb : ∀ i : grid0.Coords, ∀ a, (k0_off1 i) a + S1.size a ≤ S528.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S528) ![v1.toNat] S1.size (k0_off1_inb i)) numel1_S1
  let v3 : BitVec 32 := Scalar.addi v0 v2
  let v4 : Index := Scalar.indexCast arg1
  let v5 : BitVec 32 := pf.at 1 (Rect.unit (s := S528) ![v4.toNat] S1.size (k0_off1_inb i)) numel1_S1
  let c0_i32 : BitVec 32 := 0#32
  let c0_i32_0 : BitVec 32 := 0#32
  let c0_i32_1 : BitVec 32 := 0#32
  ![v3.toNat, v5.toNat, c0_i32.toNat, c0_i32_0.toNat]

def cc0_transform_2 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 1 (Rect.unit (s := S528) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

def cc0_transform_3 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 1 (Rect.unit (s := S528) ![v1.toNat] S1.size (k0_off1_inb i)) numel1_S1
  let v3 : BitVec 32 := Scalar.addi v0 v2
  let c10_i32 : BitVec 32 := 10#32
  let c0_i32 : BitVec 32 := 0#32
  ![v3.toNat, c10_i32.toNat]

def cc0_transform_4 (k0_off1_inb : ∀ i : grid0.Coords, ∀ a, (k0_off1 i) a + S1.size a ≤ S528.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : Index := Scalar.indexCast arg1
  let v2 : BitVec 32 := pf.at 0 (Rect.unit (s := S528) ![v1.toNat] S1.size (k0_off1_inb i)) numel1_S1
  let v3 : BitVec 32 := Scalar.addi v0 v2
  let c0_i32 : BitVec 32 := 0#32
  let c0_i32_0 : BitVec 32 := 0#32
  ![v3.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S2x16384x4x128 : Shape := ⟨4, ![2, 16384, 4, 128]⟩
abbrev S2x16384x256 : Shape := ⟨3, ![2, 16384, 256]⟩
abbrev S2 : Shape := ⟨1, ![2]⟩
abbrev S2x1x1 : Shape := ⟨3, ![2, 1, 1]⟩
abbrev S_ : Shape := ⟨0, ![]⟩
abbrev S2x16384x256x1 : Shape := ⟨4, ![2, 16384, 256, 1]⟩
abbrev S2x16384x256x2 : Shape := ⟨4, ![2, 16384, 256, 2]⟩
abbrev S2x16384x256x4x128 : Shape := ⟨5, ![2, 16384, 256, 4, 128]⟩
abbrev S16384 : Shape := ⟨1, ![16384]⟩
abbrev S1x16384x1 : Shape := ⟨3, ![1, 16384, 1]⟩
abbrev S2x4x16384x256 : Shape := ⟨4, ![2, 4, 16384, 256]⟩
abbrev S2x1x16384x256 : Shape := ⟨4, ![2, 1, 16384, 256]⟩
abbrev S2x4x16384 : Shape := ⟨3, ![2, 4, 16384]⟩
abbrev S2x4x16384x1 : Shape := ⟨4, ![2, 4, 16384, 1]⟩
abbrev S32768x512 : Shape := ⟨2, ![32768, 512]⟩

abbrev nBuf : Space → Nat
  | .hbm => 111
  | .vmem => 0
  | .smem => 0
  | _ => 0

abbrev bufTy : (tb : Table) → Fin (tcTables nBuf tb) → BufTy
  | .hbm, ⟨0, _⟩ => ⟨S2x16384x4x128, .f32⟩
  | .hbm, ⟨1, _⟩ => ⟨S2x16384x4x128, .f32⟩
  | .hbm, ⟨2, _⟩ => ⟨S2x16384x4x128, .f32⟩
  | .hbm, ⟨3, _⟩ => ⟨S2x16384x256, .i32⟩
  | .hbm, ⟨4, _⟩ => ⟨S2, .i32⟩
  | .hbm, ⟨5, _⟩ => ⟨S2x1x1, .i32⟩
  | .hbm, ⟨6, _⟩ => ⟨S_, .i32⟩
  | .hbm, ⟨7, _⟩ => ⟨S2x1x1, .i32⟩
  | .hbm, ⟨8, _⟩ => ⟨S2x1x1, .i1⟩
  | .hbm, ⟨9, _⟩ => ⟨S_, .i32⟩
  | .hbm, ⟨10, _⟩ => ⟨S2x1x1, .i32⟩
  | .hbm, ⟨11, _⟩ => ⟨S2x1x1, .i32⟩
  | .hbm, ⟨12, _⟩ => ⟨S2x1x1, .i32⟩
  | .hbm, ⟨13, _⟩ => ⟨S_, .i32⟩
  | .hbm, ⟨14, _⟩ => ⟨S2x16384x256, .i32⟩
  | .hbm, ⟨15, _⟩ => ⟨S2x16384x256, .i1⟩
  | .hbm, ⟨16, _⟩ => ⟨S_, .i32⟩
  | .hbm, ⟨17, _⟩ => ⟨S2x16384x256, .i32⟩
  | .hbm, ⟨18, _⟩ => ⟨S2x16384x256, .i32⟩
  | .hbm, ⟨19, _⟩ => ⟨S2x16384x256, .i32⟩
  | .hbm, ⟨20, _⟩ => ⟨S2x16384x256, .i32⟩
  | .hbm, ⟨21, _⟩ => ⟨S2x16384x256x1, .i32⟩
  | .hbm, ⟨22, _⟩ => ⟨S2x16384x256x1, .i32⟩
  | .hbm, ⟨23, _⟩ => ⟨S2x16384x256x2, .i32⟩
  | .hbm, ⟨24, _⟩ => ⟨S2x16384x256x4x128, .f32⟩
  | .hbm, ⟨25, _⟩ => ⟨S_, .i32⟩
  | .hbm, ⟨26, _⟩ => ⟨S2x1x1, .i32⟩
  | .hbm, ⟨27, _⟩ => ⟨S2x1x1, .i1⟩
  | .hbm, ⟨28, _⟩ => ⟨S_, .i32⟩
  | .hbm, ⟨29, _⟩ => ⟨S2x1x1, .i32⟩
  | .hbm, ⟨30, _⟩ => ⟨S2x1x1, .i32⟩
  | .hbm, ⟨31, _⟩ => ⟨S2x1x1, .i32⟩
  | .hbm, ⟨32, _⟩ => ⟨S_, .i32⟩
  | .hbm, ⟨33, _⟩ => ⟨S2x16384x256, .i32⟩
  | .hbm, ⟨34, _⟩ => ⟨S2x16384x256, .i1⟩
  | .hbm, ⟨35, _⟩ => ⟨S_, .i32⟩
  | .hbm, ⟨36, _⟩ => ⟨S2x16384x256, .i32⟩
  | .hbm, ⟨37, _⟩ => ⟨S2x16384x256, .i32⟩
  | .hbm, ⟨38, _⟩ => ⟨S2x16384x256, .i32⟩
  | .hbm, ⟨39, _⟩ => ⟨S2x16384x256, .i32⟩
  | .hbm, ⟨40, _⟩ => ⟨S2x16384x256x1, .i32⟩
  | .hbm, ⟨41, _⟩ => ⟨S2x16384x256x1, .i32⟩
  | .hbm, ⟨42, _⟩ => ⟨S2x16384x256x2, .i32⟩
  | .hbm, ⟨43, _⟩ => ⟨S2x16384x256x4x128, .f32⟩
  | .hbm, ⟨44, _⟩ => ⟨S16384, .i32⟩
  | .hbm, ⟨45, _⟩ => ⟨S_, .i32⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S_, .i32⟩
  | .hbm, ⟨51, _⟩ => ⟨S16384, .i32⟩
  | .hbm, ⟨52, _⟩ => ⟨S16384, .i1⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384, .i32⟩
  | .hbm, ⟨57, _⟩ => ⟨S16384, .i1⟩
  | .hbm, ⟨58, _⟩ => ⟨S16384, .i1⟩
  | .hbm, ⟨59, _⟩ => ⟨S_, .i32⟩
  | .hbm, ⟨60, _⟩ => ⟨S16384, .i32⟩
  | .hbm, ⟨61, _⟩ => ⟨S16384, .i32⟩
  | .hbm, ⟨62, _⟩ => ⟨S16384, .i32⟩
  | .hbm, ⟨63, _⟩ => ⟨S_, .i32⟩
  | .hbm, ⟨64, _⟩ => ⟨S_, .i32⟩
  | .hbm, ⟨65, _⟩ => ⟨S2x16384x256, .i32⟩
  | .hbm, ⟨66, _⟩ => ⟨S2x16384x256, .i32⟩
  | .hbm, ⟨67, _⟩ => ⟨S2x16384x256, .i32⟩
  | .hbm, ⟨68, _⟩ => ⟨S_, .i32⟩
  | .hbm, ⟨69, _⟩ => ⟨S2x16384x256, .i32⟩
  | .hbm, ⟨70, _⟩ => ⟨S2x16384x256, .i1⟩
  | .hbm, ⟨71, _⟩ => ⟨S2x16384x256, .i32⟩
  | .hbm, ⟨72, _⟩ => ⟨S2x16384x256, .i32⟩
  | .hbm, ⟨73, _⟩ => ⟨S_, .i32⟩
  | .hbm, ⟨74, _⟩ => ⟨S2x16384x256, .i32⟩
  | .hbm, ⟨75, _⟩ => ⟨S2x16384x256, .i1⟩
  | .hbm, ⟨76, _⟩ => ⟨S2x16384x256, .i1⟩
  | .hbm, ⟨77, _⟩ => ⟨S_, .i32⟩
  | .hbm, ⟨78, _⟩ => ⟨S2x16384x256, .i32⟩
  | .hbm, ⟨79, _⟩ => ⟨S2x16384x256, .i32⟩
  | .hbm, ⟨80, _⟩ => ⟨S2x16384x256, .i32⟩
  | .hbm, ⟨81, _⟩ => ⟨S1x16384x1, .i32⟩
  | .hbm, ⟨82, _⟩ => ⟨S2x16384x256, .i32⟩
  | .hbm, ⟨83, _⟩ => ⟨S2x16384x256, .i1⟩
  | .hbm, ⟨84, _⟩ => ⟨S2x4x16384x256, .f32⟩
  | .hbm, ⟨85, _⟩ => ⟨S_, .f32⟩
  | .hbm, ⟨86, _⟩ => ⟨S2x4x16384x256, .f32⟩
  | .hbm, ⟨87, _⟩ => ⟨S2x4x16384x256, .f32⟩
  | .hbm, ⟨88, _⟩ => ⟨S2x1x16384x256, .i1⟩
  | .hbm, ⟨89, _⟩ => ⟨S_, .f32⟩
  | .hbm, ⟨90, _⟩ => ⟨S_, .f32⟩
  | .hbm, ⟨91, _⟩ => ⟨S2x4x16384x256, .i1⟩
  | .hbm, ⟨92, _⟩ => ⟨S2x4x16384x256, .f32⟩
  | .hbm, ⟨93, _⟩ => ⟨S2x4x16384x256, .f32⟩
  | .hbm, ⟨94, _⟩ => ⟨S_, .f32⟩
  | .hbm, ⟨95, _⟩ => ⟨S2x4x16384, .f32⟩
  | .hbm, ⟨96, _⟩ => ⟨S_, .f32⟩
  | .hbm, ⟨97, _⟩ => ⟨S2x4x16384, .f32⟩
  | .hbm, ⟨98, _⟩ => ⟨S2x4x16384, .f32⟩
  | .hbm, ⟨99, _⟩ => ⟨S2x4x16384x1, .f32⟩
  | .hbm, ⟨100, _⟩ => ⟨S2x4x16384x256, .f32⟩
  | .hbm, ⟨101, _⟩ => ⟨S2x4x16384x256, .f32⟩
  | .hbm, ⟨102, _⟩ => ⟨S2x4x16384x256, .f32⟩
  | .hbm, ⟨103, _⟩ => ⟨S_, .f32⟩
  | .hbm, ⟨104, _⟩ => ⟨S2x4x16384, .f32⟩
  | .hbm, ⟨105, _⟩ => ⟨S2x4x16384x1, .f32⟩
  | .hbm, ⟨106, _⟩ => ⟨S2x4x16384x256, .f32⟩
  | .hbm, ⟨107, _⟩ => ⟨S2x4x16384x256, .f32⟩
  | .hbm, ⟨108, _⟩ => ⟨S2x16384x4x128, .f32⟩
  | .hbm, ⟨109, _⟩ => ⟨S32768x512, .f32⟩
  | .hbm, ⟨110, _⟩ => ⟨S32768x512, .bf16⟩
  | _, _ => ⟨S2x16384x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_c_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_v6 : Ref sig .tc := ⟨.hbm, 52, rfl⟩
abbrev main_call0_v7 : Ref sig .tc := ⟨.hbm, 53, rfl⟩
abbrev main_call0_v8 : Ref sig .tc := ⟨.hbm, 54, rfl⟩
abbrev main_call0_c : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_c_0 : Ref sig .tc := ⟨.hbm, 59, rfl⟩
abbrev main_call0_v12 : Ref sig .tc := ⟨.hbm, 60, rfl⟩
abbrev main_call0_v13 : Ref sig .tc := ⟨.hbm, 61, rfl⟩
abbrev main_v33 : Ref sig .tc := ⟨.hbm, 62, rfl⟩
abbrev main_c_8 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_c : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_0 : Ref sig .tc := ⟨.hbm, 77, rfl⟩
abbrev main_call1_v12 : Ref sig .tc := ⟨.hbm, 78, rfl⟩
abbrev main_call1_v13 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_9 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v42 : Ref sig .tc := ⟨.hbm, 93, rfl⟩
abbrev main_cst_10 : Ref sig .tc := ⟨.hbm, 94, rfl⟩
abbrev main_v43 : Ref sig .tc := ⟨.hbm, 95, rfl⟩
abbrev main_cst_11 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_12 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩

abbrev nD : Nat := 1
abbrev τ : Topo := Topo.v7x

variable {F : FTy → Type} [FloatOps F]
-- ==== Kernel2.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S1x32x2048x4096 : Shape := ⟨4, ![1, 32, 2048, 4096]⟩
abbrev S1x32x1x4096 : Shape := ⟨4, ![1, 32, 1, 4096]⟩
abbrev S512x2048 : Shape := ⟨2, ![512, 2048]⟩
abbrev S1x1x2048x512 : Shape := ⟨4, ![1, 1, 2048, 512]⟩
abbrev S1x1x1x512 : Shape := ⟨4, ![1, 1, 1, 512]⟩
abbrev S512x512 : Shape := ⟨2, ![512, 512]⟩
abbrev S2048x512 : Shape := ⟨2, ![2048, 512]⟩
abbrev S1x512 : Shape := ⟨2, ![1, 512]⟩

abbrev nBuf : Space → Nat
  | .hbm => 6
  | .vmem => 14
  | .smem => 2
  | _ => 0

abbrev bufTy : (tb : Table) → Fin (tcTables nBuf tb) → BufTy
  | .hbm, ⟨0, _⟩ => ⟨S147456x2048, .f32⟩
  | .hbm, ⟨1, _⟩ => ⟨S32x2048x4096, .f32⟩
  | .hbm, ⟨2, _⟩ => ⟨S32x4096, .f32⟩
  | .hbm, ⟨3, _⟩ => ⟨S1x32x2048x4096, .f32⟩
  | .hbm, ⟨4, _⟩ => ⟨S1x32x1x4096, .f32⟩
  | .hbm, ⟨5, _⟩ => ⟨S147456x2048, .bf16⟩
  | .local _ .vmem, ⟨0, _⟩ => ⟨S512x2048, .f32⟩
  | .local _ .vmem, ⟨1, _⟩ => ⟨S512x2048, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x2048x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S288, .i32⟩
  | .local _ .smem, ⟨1, _⟩ => ⟨S1, .i32⟩
  | _, _ => ⟨S147456x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 288], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  let c0_i32_1 : BitVec 32 := 0#32
  ![c0_i32.toNat, v1.toNat, c0_i32_0.toNat, v2.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S288 : Shape := ⟨1, ![288]⟩
abbrev S1 : Shape := ⟨1, ![1]⟩
abbrev S147456x2048 : Shape := ⟨2, ![147456, 2048]⟩
abbrev S32x2048x4096 : Shape := ⟨3, ![32, 2048, 4096]⟩
abbrev S32x4096 : Shape := ⟨2, ![32, 4096]⟩
abbrev S288x512x2048 : Shape := ⟨3, ![288, 512, 2048]⟩
abbrev S_ : Shape := ⟨0, ![]⟩
abbrev S288x1 : Shape := ⟨2, ![288, 1]⟩
abbrev S288x2048x4096 : Shape := ⟨3, ![288, 2048, 4096]⟩
abbrev S288x512x4096 : Shape := ⟨3, ![288, 512, 4096]⟩
abbrev S288x4096 : Shape := ⟨2, ![288, 4096]⟩
abbrev S288x1x4096 : Shape := ⟨3, ![288, 1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x2048, .f32⟩
  | .hbm, ⟨3, _⟩ => ⟨S32x2048x4096, .f32⟩
  | .hbm, ⟨4, _⟩ => ⟨S32x4096, .f32⟩
  | .hbm, ⟨5, _⟩ => ⟨S288x512x2048, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x2048x4096, .f32⟩
  | .hbm, ⟨15, _⟩ => ⟨S288x512x4096, .f32⟩
  | .hbm, ⟨16, _⟩ => ⟨S_, .i32⟩
  | .hbm, ⟨17, _⟩ => ⟨S288, .i32⟩
  | .hbm, ⟨18, _⟩ => ⟨S288, .i1⟩
  | .hbm, ⟨19, _⟩ => ⟨S_, .i32⟩
  | .hbm, ⟨20, _⟩ => ⟨S288, .i32⟩
  | .hbm, ⟨21, _⟩ => ⟨S288, .i32⟩
  | .hbm, ⟨22, _⟩ => ⟨S288, .i32⟩
  | .hbm, ⟨23, _⟩ => ⟨S288x1, .i32⟩
  | .hbm, ⟨24, _⟩ => ⟨S288x4096, .f32⟩
  | .hbm, ⟨25, _⟩ => ⟨S288x1x4096, .f32⟩
  | .hbm, ⟨26, _⟩ => ⟨S288x512x4096, .f32⟩
  | .hbm, ⟨27, _⟩ => ⟨S288x512x4096, .f32⟩
  | .hbm, ⟨28, _⟩ => ⟨S288x512x2048, .f32⟩
  | .hbm, ⟨29, _⟩ => ⟨S288x512x2048, .f32⟩
  | .hbm, ⟨30, _⟩ => ⟨S_, .f32⟩
  | .hbm, ⟨31, _⟩ => ⟨S288x512x2048, .f32⟩
  | .hbm, ⟨32, _⟩ => ⟨S288x512x2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S288x512x2048, .f32⟩
  | .hbm, ⟨37, _⟩ => ⟨S288x512x2048, .f32⟩
  | .hbm, ⟨38, _⟩ => ⟨S_, .f32⟩
  | .hbm, ⟨39, _⟩ => ⟨S288x512x2048, .f32⟩
  | .hbm, ⟨40, _⟩ => ⟨S288x512x2048, .f32⟩
  | .hbm, ⟨41, _⟩ => ⟨S_, .f32⟩
  | .hbm, ⟨42, _⟩ => ⟨S288x512x2048, .f32⟩
  | .hbm, ⟨43, _⟩ => ⟨S288x512x2048, .f32⟩
  | .hbm, ⟨44, _⟩ => ⟨S288x512x2048, .f32⟩
  | .hbm, ⟨45, _⟩ => ⟨S_, .f32⟩
  | .hbm, ⟨46, _⟩ => ⟨S288x512x2048, .f32⟩
  | .hbm, ⟨47, _⟩ => ⟨S288x512x2048, .f32⟩
  | .hbm, ⟨48, _⟩ => ⟨S288x512x2048, .f32⟩
  | .hbm, ⟨49, _⟩ => ⟨S288x512x2048, .f32⟩
  | .hbm, ⟨50, _⟩ => ⟨S_, .f32⟩
  | .hbm, ⟨51, _⟩ => ⟨S288x512x2048, .f32⟩
  | .hbm, ⟨52, _⟩ => ⟨S288x512x2048, .f32⟩
  | .hbm, ⟨53, _⟩ => ⟨S_, .f32⟩
  | .hbm, ⟨54, _⟩ => ⟨S288x512x2048, .f32⟩
  | .hbm, ⟨55, _⟩ => ⟨S288x512x2048, .f32⟩
  | .hbm, ⟨56, _⟩ => ⟨S288x512x2048, .f32⟩
  | .hbm, ⟨57, _⟩ => ⟨S147456x2048, .f32⟩
  | .hbm, ⟨58, _⟩ => ⟨S147456x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Kernel3.lean ====
abbrev S288 : Shape := ⟨1, ![288]⟩
abbrev S1 : Shape := ⟨1, ![1]⟩
abbrev S147456x2048 : Shape := ⟨2, ![147456, 2048]⟩
abbrev S32x2048x2048 : Shape := ⟨3, ![32, 2048, 2048]⟩
abbrev S32x2048 : Shape := ⟨2, ![32, 2048]⟩
abbrev S1x32x2048x2048 : Shape := ⟨4, ![1, 32, 2048, 2048]⟩
abbrev S1x32x1x2048 : Shape := ⟨4, ![1, 32, 1, 2048]⟩
abbrev S512x2048 : Shape := ⟨2, ![512, 2048]⟩
abbrev S1x1x2048x1024 : Shape := ⟨4, ![1, 1, 2048, 1024]⟩
abbrev S1x1x1x1024 : Shape := ⟨4, ![1, 1, 1, 1024]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 6
  | .vmem => 9
  | .smem => 2
  | _ => 0

abbrev bufTy : (tb : Table) → Fin (tcTables nBuf tb) → BufTy
  | .hbm, ⟨0, _⟩ => ⟨S147456x2048, .bf16⟩
  | .hbm, ⟨1, _⟩ => ⟨S32x2048x2048, .f32⟩
  | .hbm, ⟨2, _⟩ => ⟨S32x2048, .f32⟩
  | .hbm, ⟨3, _⟩ => ⟨S1x32x2048x2048, .f32⟩
  | .hbm, ⟨4, _⟩ => ⟨S1x32x1x2048, .f32⟩
  | .hbm, ⟨5, _⟩ => ⟨S147456x2048, .f32⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .f32⟩
  | .local _ .vmem, ⟨7, _⟩ => ⟨S512x1024, .f32⟩
  | .local _ .vmem, ⟨8, _⟩ => ⟨S2048x1024, .bf16⟩
  | .local _ .smem, ⟨0, _⟩ => ⟨S288, .i32⟩
  | .local _ .smem, ⟨1, _⟩ => ⟨S1, .i32⟩
  | _, _ => ⟨S147456x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 288], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S288 : Shape := ⟨1, ![288]⟩
abbrev S1 : Shape := ⟨1, ![1]⟩
abbrev S147456x2048 : Shape := ⟨2, ![147456, 2048]⟩
abbrev S32x2048x2048 : Shape := ⟨3, ![32, 2048, 2048]⟩
abbrev S32x2048 : Shape := ⟨2, ![32, 2048]⟩
abbrev S288x512x2048 : Shape := ⟨3, ![288, 512, 2048]⟩
abbrev S_ : Shape := ⟨0, ![]⟩
abbrev S288x1 : Shape := ⟨2, ![288, 1]⟩
abbrev S288x2048x2048 : Shape := ⟨3, ![288, 2048, 2048]⟩
abbrev S288x2048 : Shape := ⟨2, ![288, 2048]⟩
abbrev S288x1x2048 : Shape := ⟨3, ![288, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x2048, .bf16⟩
  | .hbm, ⟨3, _⟩ => ⟨S32x2048x2048, .f32⟩
  | .hbm, ⟨4, _⟩ => ⟨S32x2048, .f32⟩
  | .hbm, ⟨5, _⟩ => ⟨S147456x2048, .f32⟩
  | .hbm, ⟨6, _⟩ => ⟨S288x512x2048, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x2048x2048, .f32⟩
  | .hbm, ⟨16, _⟩ => ⟨S288x512x2048, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x2048, .f32⟩
  | .hbm, ⟨26, _⟩ => ⟨S288x1x2048, .f32⟩
  | .hbm, ⟨27, _⟩ => ⟨S288x512x2048, .f32⟩
  | .hbm, ⟨28, _⟩ => ⟨S288x512x2048, .f32⟩
  | .hbm, ⟨29, _⟩ => ⟨S147456x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.AttRun.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.Pipeline.Value

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The four tables as the body is handed them, each a whole buffer. -/
abbrev tabA : Memref sig .tc .smem S528 .i32 := Memref.whole main_c
/-- The second table. -/
abbrev tabB : Memref sig .tc .smem S528 .i32 := Memref.whole main_c_0
abbrev tabC : Memref sig .tc .smem S528 .i32 := Memref.whole main_c_1
abbrev tabD : Memref sig .tc .smem S528 .i32 := Memref.whole main_c_2
abbrev wholeA : tabA.IsWhole := Memref.isWhole_whole _
abbrev wholeB : tabB.IsWhole := Memref.isWhole_whole _
abbrev wholeC : tabC.IsWhole := Memref.isWhole_whole _
abbrev wholeD : tabD.IsWhole := Memref.isWhole_whole _

/-- A table's contents on core `c`. -/
abbrev TabBuf (c : Dev nD) {S : Shape} {e : EltTy} (M : Memref sig .tc .smem S e) : Type := Buf (Elt F) (M.view.loc (c : Thread nD τ))
/-- Half of a table held at given contents on core `c`. -/
abbrev tabPt (c : Dev nD) {S : Shape} {e : EltTy} (M : Memref sig .tc .smem S e) (f : TabBuf (F := F) c M) : sProp 𝕄 :=
  M.view.loc (c : Thread nD τ) ↦{fullShare.right} f

set_option maxHeartbeats 4000000 in
/-- One grid point of the attention: the body, whichever of its two conditionals it takes, turns the three running
    arrays and the result's block from the contents it is handed into the contents `W` names (first the running maxima,
    then the running sums, the running products, the result's block), and gives the inputs and the tables back. -/
def bodyRun (c : Dev nD) (i : grid0.Coords)
    (arg6 : Memref sig .tc .vmem S512x512 .bf16) (harg6 : arg6.IsWhole) (arg7 : Memref sig .tc .vmem S4x1x128x512 .bf16) (harg7 : arg7.IsWhole)
    (arg8 : Memref sig .tc .vmem S512x512 .bf16) (harg8 : arg8.IsWhole) (arg9 : Memref sig .tc .vmem S512x512 .bf16) (harg9 : arg9.IsWhole)
    (arg10 : Memref sig .tc .vmem S512x512 .bf16) (harg10 : arg10.IsWhole)
    (arg11 : Memref sig .tc .vmem S512x512 .f32) (harg11 : arg11.IsWhole) (arg12 : Memref sig .tc .vmem S512x512 .f32) (harg12 : arg12.IsWhole)
    (arg13 : Memref sig .tc .vmem S512x512 .f32) (harg13 : arg13.IsWhole)
    (xq : Vec F S512x512 .bf16) (xb : Vec F S4x1x128x512 .bf16) (xk xv xo : Vec F S512x512 .bf16)
    (sm sl sa : Vec F S512x512 .f32)
    (ta : TabBuf (F := F) c tabA) (tb : TabBuf (F := F) c tabB) (tc : TabBuf (F := F) c tabC) (td : TabBuf (F := F) c tabD) :
    { W : Vec F S512x512 .f32 × Vec F S512x512 .f32 × Vec F S512x512 .f32 × Vec F S512x512 .bf16 //
      ∀ (E : Set ℕ) (K : PUnit → sProp 𝕄),
        iprop(owns (c : Thread nD τ) arg6 fullShare xq ∗ owns (c : Thread nD τ) arg7 fullShare xb ∗ owns (c : Thread nD τ) arg8 fullShare xk
            ∗ owns (c : Thread nD τ) arg9 fullShare xv ∗ owns (c : Thread nD τ) arg10 fullShare xo
            ∗ owns (c : Thread nD τ) arg11 fullShare sm ∗ owns (c : Thread nD τ) arg12 fullShare sl ∗ owns (c : Thread nD τ) arg13 fullShare sa
            ∗ tabPt c tabA ta ∗ tabPt c tabB tb ∗ tabPt c tabC tc ∗ tabPt c tabD td
            ∗ (iprop(owns (c : Thread nD τ) arg6 fullShare xq ∗ owns (c : Thread nD τ) arg7 fullShare xb ∗ owns (c : Thread nD τ) arg8 fullShare xk
            ∗ owns (c : Thread nD τ) arg9 fullShare xv ∗ owns (c : Thread nD τ) arg10 fullShare W.2.2.2
            ∗ owns (c : Thread nD τ) arg11 fullShare W.1 ∗ owns (c : Thread nD τ) arg12 fullShare W.2.1 ∗ owns (c : Thread nD τ) arg13 fullShare W.2.2.1
            ∗ tabPt c tabA ta ∗ tabPt c tabB tb ∗ tabPt c tabC tc ∗ tabPt c tabD td) -∗ K ⟨⟩))
          ⊢ wp frame (wpE (defs₀ (F := F)) Variants.none c none) E
              (cc0_dsa_attention i tabA wholeA tabB wholeB tabC wholeC tabD wholeD arg6 harg6 arg7 harg7 arg8 harg8 arg9 harg9 arg10 harg10
                arg11 harg11 arg12 harg12 arg13 harg13) K } := by
  refine ⟨(?_, ?_, ?_, ?_), fun E K => ?run⟩
  case run =>
    dsimp only
    simp only [cc0_dsa_attention_eq_skeleton]; unfold cc0_dsa_attention_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fm, %hfm, HM⟩, ⟨%fl, %hfl, HL⟩, ⟨%fa, %hfa, HA⟩, HT0, HT1, HT2, HT3, Hk⟩
    obtain rfl := harg6.eq_unread hf0; obtain rfl := harg7.eq_unread hf1; obtain rfl := harg8.eq_unread hf2; obtain rfl := harg9.eq_unread hf3
    obtain rfl := harg10.eq_unread hf4
    obtain rfl := harg11.eq_unread hfm; obtain rfl := harg12.eq_unread hfl; obtain rfl := harg13.eq_unread hfa
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; swap; · iexact H4
      ipureintro; rfl
    isplitl [HM]
    · iexists _; isplitr; swap; · iexact HM
      ipureintro; rfl
    isplitl [HL]
    · iexists _; isplitr; swap; · iexact HL
      ipureintro; rfl
    isplitl [HA]
    · iexists _; isplitr; swap; · iexact HA
      ipureintro; rfl
    isplitl [HT0]; · iexact HT0
    isplitl [HT1]; · iexact HT1
    isplitl [HT2]; · iexact HT2
    iexact HT3

end Cert.KernelIdeal.Att

end
-- ==== Proof.AttStep.lean ====
module

public import proofs.«01_k».proof.Proof.AttRun

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## One point's arrays, head by head -/

/-- The head (a group of 128 columns) an entry of a 512-column block lies in. -/
def headOf (y : S512x512.Idx) : Fin 4 := ⟨(y 1).val / 128, by have := idx2_lt1 y; omega⟩
/-- The entry's row, and its column inside its head. -/
def inHead (y : S512x512.Idx) : S512x128.Idx := ix2 (n0 := 512) (n1 := 128) (y 0) ⟨(y 1).val % 128, Nat.mod_lt _ (by decide)⟩
/-- The entry of the whole block that an entry of head `h` is. -/
def ofHead (h : Fin 4) (j : S512x128.Idx) : S512x512.Idx :=
  ix2 (n0 := 512) (n1 := 512) (j 0) ⟨128 * h.val + (j 1).val, by have := idx2_lt1 j; omega⟩
/-- Head `h`'s 128 columns of a block. -/
def cut {e : EltTy} (h : Fin 4) (X : Vec F S512x512 e) : Vec F S512x128 e := fun j => X (ofHead h j)
/-- A block put together from its four heads. -/
def glue {e : EltTy} (P : Fin 4 → Vec F S512x128 e) : Vec F S512x512 e := fun y => P (headOf y) (inHead y)

theorem headOf_ofHead (h : Fin 4) (j : S512x128.Idx) : headOf (ofHead h j) = h := by
  have := idx2_lt1 j
  apply Fin.ext; show (128 * h.val + (j 1).val) / 128 = h.val; omega
theorem inHead_ofHead (h : Fin 4) (j : S512x128.Idx) : inHead (ofHead h j) = j := by
  have := idx2_lt1 j
  refine Eq.trans ?_ (eq_ix2 j).symm
  funext a
  match a with
  | ⟨0, _⟩ => rfl
  | ⟨1, _⟩ => apply Fin.ext; show (128 * h.val + (j 1).val) % 128 = (j 1).val; omega
theorem ofHead_inHead (y : S512x512.Idx) : ofHead (headOf y) (inHead y) = y := by
  have := idx2_lt1 y
  refine Eq.trans ?_ (eq_ix2 y).symm
  funext a
  match a with
  | ⟨0, _⟩ => rfl
  | ⟨1, _⟩ => apply Fin.ext; show 128 * ((y 1).val / 128) + (y 1).val % 128 = (y 1).val; omega

/-- The running maxima after a point that starts from `sm`. -/
def newM (xq : Vec F S512x512 .bf16) (xb : Vec F S4x1x128x512 .bf16) (xk : Vec F S512x512 .bf16) (sm : Vec F S512x512 .f32) : Vec F S512x512 .f32 :=
  glue fun h => k0_pay15 (k0_pay10 xb (cut h xq) (cut h xk) (cut h sm))
/-- The running sums after a point that starts from `sm` and `sl`. -/
def newL (xq : Vec F S512x512 .bf16) (xb : Vec F S4x1x128x512 .bf16) (xk : Vec F S512x512 .bf16) (sm sl : Vec F S512x512 .f32) : Vec F S512x512 .f32 :=
  glue fun h => k0_pay13 xb (cut h xq) (cut h xk) (cut h sm) (cut h sl)
/-- The running products after a point that starts from `sm` and `sa`. -/
def newA (xq : Vec F S512x512 .bf16) (xb : Vec F S4x1x128x512 .bf16) (xk xv : Vec F S512x512 .bf16) (sm sa : Vec F S512x512 .f32) : Vec F S512x512 .f32 :=
  glue fun h => k0_pay14 (k0_pay11 xb (cut h xq) (cut h xk) (cut h sm)) (k0_pay12 xb (cut h xq) (cut h xk) (cut h sm)) (cut h sa) (cut h xv)

/-! ## Reading the four column groups -/

theorem load0 {e : EltTy} (v : View sig .tc .vmem S512x512 e) (f : v.ty.Contents (Elt F)) (inb : ∀ a, (![0, 0] : Fin 2 → ℕ) a + S512x128.size a ≤ S512x512.size a) :
    v.readAt (Elt F) (Rect.unit (s := S512x512) ![0, 0] S512x128.size inb).toLoadRect f = cut 0 (v.read (Elt F) f) := by
  rw [View.readAt_eq_ld]
  funext j
  show v.read (Elt F) f ((Rect.unit (s := S512x512) ![0, 0] S512x128.size inb).idx j) = v.read (Elt F) f (ofHead 0 j)
  congr 1
  funext a
  match a with
  | ⟨0, _⟩ => apply Fin.ext; show 0 + 1 * (j 0).val = (j 0).val; omega
  | ⟨1, _⟩ => apply Fin.ext; show 0 + 1 * (j 1).val = 128 * 0 + (j 1).val; omega
theorem load0' {e : EltTy} (v : View sig .tc .vmem S512x512 e) (f : v.ty.Contents (Elt F)) (inb : ∀ a, (![0, 0] : Fin 2 → ℕ) a + (![512, 128] : Fin 2 → ℕ) a ≤ S512x512.size a) :
    v.readAt (Elt F) (Rect.unit (s := S512x512) ![0, 0] ![512, 128] inb).toLoadRect f = cut 0 (v.read (Elt F) f) := load0 v f inb
theorem load1 {e : EltTy} (v : View sig .tc .vmem S512x512 e) (f : v.ty.Contents (Elt F)) (inb : ∀ a, (![0, 128] : Fin 2 → ℕ) a + S512x128.size a ≤ S512x512.size a) :
    v.readAt (Elt F) (Rect.unit (s := S512x512) ![0, 128] S512x128.size inb).toLoadRect f = cut 1 (v.read (Elt F) f) := by
  rw [View.readAt_eq_ld]
  funext j
  show v.read (Elt F) f ((Rect.unit (s := S512x512) ![0, 128] S512x128.size inb).idx j) = v.read (Elt F) f (ofHead 1 j)
  congr 1
  funext a
  match a with
  | ⟨0, _⟩ => apply Fin.ext; show 0 + 1 * (j 0).val = (j 0).val; omega
  | ⟨1, _⟩ => apply Fin.ext; show 128 + 1 * (j 1).val = 128 * 1 + (j 1).val; omega
theorem load1' {e : EltTy} (v : View sig .tc .vmem S512x512 e) (f : v.ty.Contents (Elt F)) (inb : ∀ a, (![0, 128] : Fin 2 → ℕ) a + (![512, 128] : Fin 2 → ℕ) a ≤ S512x512.size a) :
    v.readAt (Elt F) (Rect.unit (s := S512x512) ![0, 128] ![512, 128] inb).toLoadRect f = cut 1 (v.read (Elt F) f) := load1 v f inb
theorem load2 {e : EltTy} (v : View sig .tc .vmem S512x512 e) (f : v.ty.Contents (Elt F)) (inb : ∀ a, (![0, 256] : Fin 2 → ℕ) a + S512x128.size a ≤ S512x512.size a) :
    v.readAt (Elt F) (Rect.unit (s := S512x512) ![0, 256] S512x128.size inb).toLoadRect f = cut 2 (v.read (Elt F) f) := by
  rw [View.readAt_eq_ld]
  funext j
  show v.read (Elt F) f ((Rect.unit (s := S512x512) ![0, 256] S512x128.size inb).idx j) = v.read (Elt F) f (ofHead 2 j)
  congr 1
  funext a
  match a with
  | ⟨0, _⟩ => apply Fin.ext; show 0 + 1 * (j 0).val = (j 0).val; omega
  | ⟨1, _⟩ => apply Fin.ext; show 256 + 1 * (j 1).val = 128 * 2 + (j 1).val; omega
theorem load2' {e : EltTy} (v : View sig .tc .vmem S512x512 e) (f : v.ty.Contents (Elt F)) (inb : ∀ a, (![0, 256] : Fin 2 → ℕ) a + (![512, 128] : Fin 2 → ℕ) a ≤ S512x512.size a) :
    v.readAt (Elt F) (Rect.unit (s := S512x512) ![0, 256] ![512, 128] inb).toLoadRect f = cut 2 (v.read (Elt F) f) := load2 v f inb
theorem load3 {e : EltTy} (v : View sig .tc .vmem S512x512 e) (f : v.ty.Contents (Elt F)) (inb : ∀ a, (![0, 384] : Fin 2 → ℕ) a + S512x128.size a ≤ S512x512.size a) :
    v.readAt (Elt F) (Rect.unit (s := S512x512) ![0, 384] S512x128.size inb).toLoadRect f = cut 3 (v.read (Elt F) f) := by
  rw [View.readAt_eq_ld]
  funext j
  show v.read (Elt F) f ((Rect.unit (s := S512x512) ![0, 384] S512x128.size inb).idx j) = v.read (Elt F) f (ofHead 3 j)
  congr 1
  funext a
  match a with
  | ⟨0, _⟩ => apply Fin.ext; show 0 + 1 * (j 0).val = (j 0).val; omega
  | ⟨1, _⟩ => apply Fin.ext; show 384 + 1 * (j 1).val = 128 * 3 + (j 1).val; omega
theorem load3' {e : EltTy} (v : View sig .tc .vmem S512x512 e) (f : v.ty.Contents (Elt F)) (inb : ∀ a, (![0, 384] : Fin 2 → ℕ) a + (![512, 128] : Fin 2 → ℕ) a ≤ S512x512.size a) :
    v.readAt (Elt F) (Rect.unit (s := S512x512) ![0, 384] ![512, 128] inb).toLoadRect f = cut 3 (v.read (Elt F) f) := load3 v f inb

/-- Four stores, one per head, leave the block put together from what they stored. -/
theorem read_four {e : EltTy} (v : View sig .tc .vmem S512x512 e) (f : v.ty.Contents (Elt F))
    (i0 : ∀ a, (![0, 0] : Fin 2 → ℕ) a + S512x128.size a ≤ S512x512.size a) (i1 : ∀ a, (![0, 128] : Fin 2 → ℕ) a + S512x128.size a ≤ S512x512.size a)
    (i2 : ∀ a, (![0, 256] : Fin 2 → ℕ) a + S512x128.size a ≤ S512x512.size a) (i3 : ∀ a, (![0, 384] : Fin 2 → ℕ) a + S512x128.size a ≤ S512x512.size a)
    (P : Fin 4 → Vec F S512x128 e) :
    v.read (Elt F) (v.writes (Elt F) f [⟨Rect.unit ![0, 384] S512x128.size i3, P 3⟩, ⟨Rect.unit ![0, 256] S512x128.size i2, P 2⟩,
      ⟨Rect.unit ![0, 128] S512x128.size i1, P 1⟩, ⟨Rect.unit ![0, 0] S512x128.size i0, P 0⟩]) = glue P := by
  have hemb : ∀ (h : Fin 4) (o : ℕ) (inb : ∀ a, (![0, o] : Fin 2 → ℕ) a + S512x128.size a ≤ S512x512.size a) (j : S512x128.Idx), o = 128 * h.val →
      (Rect.unit (s := S512x512) ![0, o] S512x128.size inb).idx j = ofHead h j := by
    intro h o inb j ho
    subst ho
    funext a
    match a with
    | ⟨0, _⟩ => apply Fin.ext; show 0 + 1 * (j 0).val = (j 0).val; omega
    | ⟨1, _⟩ => apply Fin.ext; show 128 * h.val + 1 * (j 1).val = 128 * h.val + (j 1).val; omega
  have hcov : ∀ y : S512x512.Idx, ∃ p ∈ [(⟨Rect.unit ![0, 384] S512x128.size i3, P 3⟩ : View.Piece (Elt F) S512x512 e), ⟨Rect.unit ![0, 256] S512x128.size i2, P 2⟩,
      ⟨Rect.unit ![0, 128] S512x128.size i1, P 1⟩, ⟨Rect.unit ![0, 0] S512x128.size i0, P 0⟩], y ∈ p.1.set := by
    intro y
    have h0 := idx2_lt0 y
    have h1 := idx2_lt1 y
    have hm : ∀ (o : ℕ) (inb : ∀ a, (![0, o] : Fin 2 → ℕ) a + S512x128.size a ≤ S512x512.size a), o ≤ (y 1).val → (y 1).val < o + 128 →
        y ∈ (Rect.unit (s := S512x512) ![0, o] S512x128.size inb).set := by
      intro o inb ha hb
      rw [Rect.mem_set_unit]
      intro a
      match a with
      | ⟨0, _⟩ => exact ⟨Nat.zero_le _, by show (y 0).val < 0 + 512; omega⟩
      | ⟨1, _⟩ => exact ⟨ha, hb⟩
    by_cases c3 : 384 ≤ (y 1).val
    · exact ⟨_, List.mem_cons_self, hm 384 i3 c3 (by omega)⟩
    by_cases c2 : 256 ≤ (y 1).val
    · exact ⟨_, List.mem_cons_of_mem _ List.mem_cons_self, hm 256 i2 c2 (by omega)⟩
    by_cases c1 : 128 ≤ (y 1).val
    · exact ⟨_, List.mem_cons_of_mem _ (List.mem_cons_of_mem _ List.mem_cons_self), hm 128 i1 c1 (by omega)⟩
    · exact ⟨_, List.mem_cons_of_mem _ (List.mem_cons_of_mem _ (List.mem_cons_of_mem _ List.mem_cons_self)), hm 0 i0 (by omega) (by omega)⟩
  rw [View.read_writes_eq_canon v f _ hcov]
  funext y
  refine View.canon_apply_of_pieces (glue P) _ ?_ y (hcov y)
  have hp : ∀ (h : Fin 4) (j : S512x128.Idx), P h j = glue P (ofHead h j) := by
    intro h j
    unfold glue
    rw [headOf_ofHead, inHead_ofHead]
  intro pc hpc x
  rcases List.mem_cons.mp hpc with rfl | hpc
  · exact (hp 3 x).trans (congrArg (glue P) (hemb 3 384 i3 x rfl).symm)
  rcases List.mem_cons.mp hpc with rfl | hpc
  · exact (hp 2 x).trans (congrArg (glue P) (hemb 2 256 i2 x rfl).symm)
  rcases List.mem_cons.mp hpc with rfl | hpc
  · exact (hp 1 x).trans (congrArg (glue P) (hemb 1 128 i1 x rfl).symm)
  rcases List.mem_cons.mp hpc with rfl | hpc
  · exact (hp 0 x).trans (congrArg (glue P) (hemb 0 0 i0 x rfl).symm)
  · exact absurd hpc (List.not_mem_nil)

/-- An array filled when the condition holds, and left alone otherwise, read back. -/
theorem read_start {p : Prop} [Decidable p] {e : EltTy} (v : View sig .tc .vmem S512x512 e) (f : v.ty.Contents (Elt F))
    (inb : ∀ a, (![0, 0] : Fin 2 → ℕ) a + S512x512.size a ≤ S512x512.size a) (w : Vec F S512x512 e) :
    v.read (Elt F) (if h : p then v.writes (Elt F) f [⟨Rect.unit ![0, 0] S512x512.size inb, w⟩] else f) = if p then w else v.read (Elt F) f := by
  split
  · exact View.read_writes_full v f inb w []
  · rfl

/-- The point is its row's first, by the third table's word. -/
def isFirst (c : Dev nD) (i : grid0.Coords) (tc : TabBuf (F := F) c tabC) : Prop := bodyRun.sl.v4 c i tc = 1#1
instance (c : Dev nD) (i : grid0.Coords) (tc : TabBuf (F := F) c tabC) : Decidable (isFirst c i tc) := by unfold isFirst; infer_instance
/-- The point is its row's last, by the fourth table's word. -/
def isLast (c : Dev nD) (i : grid0.Coords) (td : TabBuf (F := F) c tabD) : Prop := k0_cond2 (bodyRun.sl.r_17 c i td) = 1#1
instance (c : Dev nD) (i : grid0.Coords) (td : TabBuf (F := F) c tabD) : Decidable (isLast c i td) := by unfold isLast; infer_instance

section
variable (c : Dev nD) (i : grid0.Coords)
    (arg6 : Memref sig .tc .vmem S512x512 .bf16) (harg6 : arg6.IsWhole) (arg7 : Memref sig .tc .vmem S4x1x128x512 .bf16) (harg7 : arg7.IsWhole)
    (arg8 : Memref sig .tc .vmem S512x512 .bf16) (harg8 : arg8.IsWhole) (arg9 : Memref sig .tc .vmem S512x512 .bf16) (harg9 : arg9.IsWhole)
    (arg10 : Memref sig .tc .vmem S512x512 .bf16) (harg10 : arg10.IsWhole)
    (arg11 : Memref sig .tc .vmem S512x512 .f32) (harg11 : arg11.IsWhole) (arg12 : Memref sig .tc .vmem S512x512 .f32) (harg12 : arg12.IsWhole)
    (arg13 : Memref sig .tc .vmem S512x512 .f32) (harg13 : arg13.IsWhole)
    (xq : Vec F S512x512 .bf16) (xb : Vec F S4x1x128x512 .bf16) (xk xv xo : Vec F S512x512 .bf16)
    (sm sl sa : Vec F S512x512 .f32)
    (ta : TabBuf (F := F) c tabA) (tb : TabBuf (F := F) c tabB) (tc : TabBuf (F := F) c tabC) (td : TabBuf (F := F) c tabD)

/-- The mask block's load is the whole block. -/
theorem load7 (inb : ∀ a, (![0, 0, 0, 0] : Fin 4 → ℕ) a + (![4, 1, 128, 512] : Fin 4 → ℕ) a ≤ S4x1x128x512.size a) :
    arg7.view.readAt (Elt F) (Rect.unit ![0, 0, 0, 0] ![4, 1, 128, 512] inb).toLoadRect (harg7.unread xb) = xb :=
  (View.readAt_full arg7.view _ inb).trans (harg7.read_unread xb)
theorem start_m0 : bodyRun.sl.v15 c i arg11 harg11 sm tc = cut 0 (if isFirst c i tc then k0_pay5 else sm) := by
  refine (load0 arg11.view _ _).trans (congrArg (cut 0) ((read_start (p := isFirst c i tc) arg11.view _ _ _).trans ?_))
  rw [harg11.read_unread]
theorem start_m1 : bodyRun.sl.v54 c i arg11 harg11 sm tc = cut 1 (if isFirst c i tc then k0_pay5 else sm) := by
  refine (load1 arg11.view _ _).trans (congrArg (cut 1) ((read_start (p := isFirst c i tc) arg11.view _ _ _).trans ?_))
  rw [harg11.read_unread]
theorem start_m2 : bodyRun.sl.v93 c i arg11 harg11 sm tc = cut 2 (if isFirst c i tc then k0_pay5 else sm) := by
  refine (load2 arg11.view _ _).trans (congrArg (cut 2) ((read_start (p := isFirst c i tc) arg11.view _ _ _).trans ?_))
  rw [harg11.read_unread]
theorem start_m3 : bodyRun.sl.v132 c i arg11 harg11 sm tc = cut 3 (if isFirst c i tc then k0_pay5 else sm) := by
  refine (load3 arg11.view _ _).trans (congrArg (cut 3) ((read_start (p := isFirst c i tc) arg11.view _ _ _).trans ?_))
  rw [harg11.read_unread]
theorem start_l0 : bodyRun.sl.v26 c i arg12 harg12 sl tc = cut 0 (if isFirst c i tc then k0_pay6 else sl) := by
  refine (load0 arg12.view _ _).trans (congrArg (cut 0) ((read_start (p := isFirst c i tc) arg12.view _ _ _).trans ?_))
  rw [harg12.read_unread]
theorem start_l1 : bodyRun.sl.v65 c i arg12 harg12 sl tc = cut 1 (if isFirst c i tc then k0_pay6 else sl) := by
  refine (load1 arg12.view _ _).trans (congrArg (cut 1) ((read_start (p := isFirst c i tc) arg12.view _ _ _).trans ?_))
  rw [harg12.read_unread]
theorem start_l2 : bodyRun.sl.v104 c i arg12 harg12 sl tc = cut 2 (if isFirst c i tc then k0_pay6 else sl) := by
  refine (load2 arg12.view _ _).trans (congrArg (cut 2) ((read_start (p := isFirst c i tc) arg12.view _ _ _).trans ?_))
  rw [harg12.read_unread]
theorem start_l3 : bodyRun.sl.v143 c i arg12 harg12 sl tc = cut 3 (if isFirst c i tc then k0_pay6 else sl) := by
  refine (load3 arg12.view _ _).trans (congrArg (cut 3) ((read_start (p := isFirst c i tc) arg12.view _ _ _).trans ?_))
  rw [harg12.read_unread]
theorem start_a0 : bodyRun.sl.v35 c i arg13 harg13 sa tc = cut 0 (if isFirst c i tc then k0_pay7 else sa) := by
  refine (load0 arg13.view _ _).trans (congrArg (cut 0) ((read_start (p := isFirst c i tc) arg13.view _ _ _).trans ?_))
  rw [harg13.read_unread]
theorem start_a1 : bodyRun.sl.v74 c i arg13 harg13 sa tc = cut 1 (if isFirst c i tc then k0_pay7 else sa) := by
  refine (load1 arg13.view _ _).trans (congrArg (cut 1) ((read_start (p := isFirst c i tc) arg13.view _ _ _).trans ?_))
  rw [harg13.read_unread]
theorem start_a2 : bodyRun.sl.v113 c i arg13 harg13 sa tc = cut 2 (if isFirst c i tc then k0_pay7 else sa) := by
  refine (load2 arg13.view _ _).trans (congrArg (cut 2) ((read_start (p := isFirst c i tc) arg13.view _ _ _).trans ?_))
  rw [harg13.read_unread]
theorem start_a3 : bodyRun.sl.v152 c i arg13 harg13 sa tc = cut 3 (if isFirst c i tc then k0_pay7 else sa) := by
  refine (load3 arg13.view _ _).trans (congrArg (cut 3) ((read_start (p := isFirst c i tc) arg13.view _ _ _).trans ?_))
  rw [harg13.read_unread]
set_option maxHeartbeats 4000000 in
/-- What the four stores into the running array leave there: the step's array. -/
theorem read_HM_4 (f : arg11.view.ty.Contents (Elt F)) :
    arg11.view.read (Elt F) (arg11.view.writes (Elt F) f (bodyRun.sl.HM_4 c i arg6 harg6 arg7 harg7 arg8 harg8 arg11 harg11 xq xb xk sm tc))
      = newM xq xb xk (if isFirst c i tc then k0_pay5 else sm) := by
  simp only [bodyRun.sl.HM_4, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, start_m0, start_m1, start_m2, start_m3, start_l0, start_l1, start_l2, start_l3, start_a0, start_a1, start_a2, start_a3, load0, load1, load2, load3, load0', load1', load2', load3', harg6.read_unread, harg7.read_unread, harg8.read_unread]
  simp only [load7]
  exact read_four arg11.view f _ _ _ _ (fun h => k0_pay15 (k0_pay10 xb (cut h xq) (cut h xk) (cut h (if isFirst c i tc then k0_pay5 else sm))))
set_option maxHeartbeats 4000000 in
/-- What the four stores into the running array leave there: the step's array. -/
theorem read_HL_4 (f : arg12.view.ty.Contents (Elt F)) :
    arg12.view.read (Elt F) (arg12.view.writes (Elt F) f (bodyRun.sl.HL_4 c i arg6 harg6 arg7 harg7 arg8 harg8 arg11 harg11 arg12 harg12 xq xb xk sm sl tc))
      = newL xq xb xk (if isFirst c i tc then k0_pay5 else sm) (if isFirst c i tc then k0_pay6 else sl) := by
  simp only [bodyRun.sl.HL_4, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, start_m0, start_m1, start_m2, start_m3, start_l0, start_l1, start_l2, start_l3, start_a0, start_a1, start_a2, start_a3, load0, load1, load2, load3, load0', load1', load2', load3', harg6.read_unread, harg7.read_unread, harg8.read_unread]
  simp only [load7]
  exact read_four arg12.view f _ _ _ _ (fun h => k0_pay13 xb (cut h xq) (cut h xk) (cut h (if isFirst c i tc then k0_pay5 else sm)) (cut h (if isFirst c i tc then k0_pay6 else sl)))
set_option maxHeartbeats 4000000 in
/-- What the four stores into the running array leave there: the step's array. -/
theorem read_HA_4 (f : arg13.view.ty.Contents (Elt F)) :
    arg13.view.read (Elt F) (arg13.view.writes (Elt F) f (bodyRun.sl.HA_4 c i arg6 harg6 arg7 harg7 arg8 harg8 arg9 harg9 arg11 harg11 arg13 harg13 xq xb xk xv sm sa tc))
      = newA xq xb xk xv (if isFirst c i tc then k0_pay5 else sm) (if isFirst c i tc then k0_pay7 else sa) := by
  simp only [bodyRun.sl.HA_4, bodyRun.sl.r_1, bodyRun.sl.r_2, bodyRun.sl.r_3, bodyRun.sl.r_4, bodyRun.sl.r_5, bodyRun.sl.r_6, bodyRun.sl.r_7, bodyRun.sl.r_8, bodyRun.sl.r_9, bodyRun.sl.r_10, bodyRun.sl.r_11, bodyRun.sl.r_12, bodyRun.sl.r_13, bodyRun.sl.r_14, bodyRun.sl.r_15, bodyRun.sl.r_16, start_m0, start_m1, start_m2, start_m3, start_l0, start_l1, start_l2, start_l3, start_a0, start_a1, start_a2, start_a3, load0, load1, load2, load3, load0', load1', load2', load3', harg6.read_unread, harg7.read_unread, harg8.read_unread, harg9.read_unread]
  simp only [load7]
  exact read_four arg13.view f _ _ _ _ (fun h => k0_pay14 (k0_pay11 xb (cut h xq) (cut h xk) (cut h (if isFirst c i tc then k0_pay5 else sm))) (k0_pay12 xb (cut h xq) (cut h xk) (cut h (if isFirst c i tc then k0_pay5 else sm))) (cut h (if isFirst c i tc then k0_pay7 else sa)) (cut h xv))

/-- One point in closed form: the running maxima, sums and products step from their starting contents (the fills at a
    row's first point), and at a row's last point the result's block is the products over the sums, otherwise untouched. -/
theorem bodyRun_val :
    (bodyRun c i arg6 harg6 arg7 harg7 arg8 harg8 arg9 harg9 arg10 harg10 arg11 harg11 arg12 harg12 arg13 harg13 xq xb xk xv xo sm sl sa ta tb tc td).1
      = (newM xq xb xk (if isFirst c i tc then k0_pay5 else sm), newL xq xb xk (if isFirst c i tc then k0_pay5 else sm) (if isFirst c i tc then k0_pay6 else sl), newA xq xb xk xv (if isFirst c i tc then k0_pay5 else sm) (if isFirst c i tc then k0_pay7 else sa),
          if isLast c i td then k0_pay4 (newA xq xb xk xv (if isFirst c i tc then k0_pay5 else sm) (if isFirst c i tc then k0_pay7 else sa)) (newL xq xb xk (if isFirst c i tc then k0_pay5 else sm) (if isFirst c i tc then k0_pay6 else sl)) else xo) := by
  refine Prod.ext ?_ (Prod.ext ?_ (Prod.ext ?_ ?_))
  · exact read_HM_4 c i arg6 harg6 arg7 harg7 arg8 harg8 arg11 harg11 xq xb xk sm tc _
  · exact read_HL_4 c i arg6 harg6 arg7 harg7 arg8 harg8 arg11 harg11 arg12 harg12 xq xb xk sm sl tc _
  · exact read_HA_4 c i arg6 harg6 arg7 harg7 arg8 harg8 arg9 harg9 arg11 harg11 arg13 harg13 xq xb xk xv sm sa tc _
  · refine (read_start (p := isLast c i td) arg10.view _ _ _).trans ?_
    rw [harg10.read_unread]
    refine if_congr Iff.rfl (congrArg₂ k0_pay4 ?_ ?_) rfl
    · exact (View.readAt_full _ _ _).trans (read_HA_4 c i arg6 harg6 arg7 harg7 arg8 harg8 arg9 harg9 arg11 harg11 arg13 harg13 xq xb xk xv sm sa tc _)
    · exact (View.readAt_full _ _ _).trans (read_HL_4 c i arg6 harg6 arg7 harg7 arg8 harg8 arg11 harg11 arg12 harg12 xq xb xk sm sl tc _)

end

end Cert.KernelIdeal.Att

end
-- ==== Proof.AttTables.lean ====
module

public import proofs.«01_k».proof.Proof.AttStep

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

/-- The query tile of the pair at position `s` of the list of tile pairs. -/
def qOf (s : Nat) : Nat := (lit0t s).toNat
/-- The key tile of the pair at position `s`. -/
def kOf (s : Nat) : Nat := (lit1t s).toNat

/-- The pairs are listed row by row of the lower triangle, the first and last pair of each row marked. -/
theorem pairs : ∀ s : Fin 528, qOf s < 32 ∧ kOf s ≤ qOf s ∧ s.val = qOf s * (qOf s + 1) / 2 + kOf s
    ∧ (lit2t s = 1#32 ↔ kOf s = 0) ∧ (lit3t s = 1#32 ↔ kOf s = qOf s) := by decide +kernel
/-- The pair `(i, j)` stands at position `i (i + 1) / 2 + j`. -/
theorem pairs_at : ∀ i : Fin 32, ∀ j : Fin 32, j.val ≤ i.val → i.val * (i.val + 1) / 2 + j.val < 528
    ∧ qOf (i.val * (i.val + 1) / 2 + j.val) = i.val ∧ kOf (i.val * (i.val + 1) / 2 + j.val) = j.val := by decide +kernel

/-- A point's second coordinate as the offset it is used at. -/
theorem off_word : ∀ n : Fin 528, (Scalar.indexCast (BitVec.ofNat 32 n.val)).toNat = n.val := by decide +kernel
theorem off1_eq (i : grid0.Coords) : k0_off1 i = ![(i 1).val] := congrArg (fun n => ![n]) (off_word (i 1))
theorem off2_eq (i : grid0.Coords) : k0_off2 i = ![(i 1).val] := congrArg (fun n => ![n]) (off_word (i 1))

theorem q_word : ∀ b : Fin 2, ∀ s : Fin 528, (Scalar.addi (Scalar.muli (BitVec.ofNat 32 b.val) 32#32) (lit0t s.val)).toNat = 32 * b.val + qOf s := by
  decide +kernel
theorem k_word : ∀ b : Fin 2, ∀ s : Fin 528, (Scalar.addi (Scalar.muli (BitVec.ofNat 32 b.val) 32#32) (lit1t s.val)).toNat = 32 * b.val + kOf s := by
  decide +kernel

variable {F : FTy → Type} [FloatOps F]

local notation "𝕄" => MT nD τ sig Unit (Elt F) ℕ (UR sig nD τ) ℕ

/-- The prefetched tables hold the four printed lists. -/
structure Listed (pf : pre0.Contents (Elt F)) : Prop where
  a : ∀ y : S528.Idx, pf 0 y = lit0 (S528.rowMajor y)
  b : ∀ y : S528.Idx, pf 1 y = lit1 (S528.rowMajor y)
  c : ∀ y : S528.Idx, pf 2 y = lit2 (S528.rowMajor y)
  d : ∀ y : S528.Idx, pf 3 y = lit3 (S528.rowMajor y)

/-- A flag word passes the test exactly when it is one. -/
theorem flag_iff (w : BitVec 32) : Scalar.cmpi .ne (Scalar.extui (Scalar.cmpi .eq w 1#32) : BitVec 32) 0#32 = 1#1 ↔ w = 1#32 := by
  unfold Scalar.cmpi Scalar.extui
  by_cases hw : w = 1#32
  · subst hw; decide
  · refine iff_of_false ?_ hw
    have hf : (w == 1#32) = false := by simp [hw]
    simp only [IntOp.cmpi, hf]; decide

theorem row_first (i : grid0.Coords) (h : ∀ a, ![(Scalar.indexCast (BitVec.ofNat 32 (i 1).val)).toNat] a + S1.size a ≤ S528.size a) (h1 : 0 < S1.numel) :
    (S528.rowMajor ((Rect.unit (s := S528) ![(Scalar.indexCast (BitVec.ofNat 32 (i 1).val)).toNat] S1.size h).emb (Shape.Idx.first h1))).val = (i 1).val := by
  rw [Shape.rowMajor_val_one]
  exact (show _ = (Scalar.indexCast (BitVec.ofNat 32 (i 1).val)).toNat from Nat.add_zero _).trans (off_word (i 1))

/-- A point opens a query tile exactly when its key tile is the first. -/
theorem first_iff (c : Dev nD) (i : grid0.Coords) (tc : TabBuf (F := F) c tabC) (h : ∀ y : S528.Idx, tc y = lit2 (S528.rowMajor y)) :
    isFirst c i tc ↔ kOf (i 1).val = 0 := by
  unfold isFirst
  refine (flag_iff _).trans (Iff.trans (Eq.congr_left ?_) (pairs (i 1)).2.2.2.1)
  exact (h _).trans (congrArg lit2t (row_first i _ _))
/-- A point closes a query tile exactly when its key tile is the query tile's own. -/
theorem last_iff (c : Dev nD) (i : grid0.Coords) (td : TabBuf (F := F) c tabD) (h : ∀ y : S528.Idx, td y = lit3 (S528.rowMajor y)) :
    isLast c i td ↔ kOf (i 1).val = qOf (i 1).val := by
  unfold isLast
  refine (flag_iff _).trans (Iff.trans (Eq.congr_left ?_) (pairs (i 1)).2.2.2.2)
  exact (h _).trans (congrArg lit3t (row_first i _ _))

variable {pf : pre0.Contents (Elt F)} (hL : Listed pf)
include hL

theorem at_a (i : grid0.Coords) (h1 : S1.numel = 1) (h) : pf.at 0 (Rect.unit (s := S528) ![(Scalar.indexCast (BitVec.ofNat 32 (i 1).val)).toNat] S1.size h) h1 = lit0t (i 1).val := by
  refine (hL.a _).trans (congrArg lit0t (row_first i h _))
theorem at_b (i : grid0.Coords) (h1 : S1.numel = 1) (h) : pf.at 1 (Rect.unit (s := S528) ![(Scalar.indexCast (BitVec.ofNat 32 (i 1).val)).toNat] S1.size h) h1 = lit1t (i 1).val := by
  refine (hL.b _).trans (congrArg lit1t (row_first i h _))

theorem tr0 (i : grid0.Coords) : cc0_transform_0 k0_off1_inb numel1_S1 pf i = ![32 * (i 0).val + qOf (i 1).val, 0] := by
  refine (?_ : _ = ![(Scalar.addi (Scalar.muli (BitVec.ofNat 32 (i 0).val) 32#32) (lit0t (i 1).val)).toNat, 0]).trans (congrArg (fun n => ![n, 0]) (q_word (i 0) (i 1)))
  exact congrArg (fun w => ![(Scalar.addi (Scalar.muli (BitVec.ofNat 32 (i 0).val) 32#32) w).toNat, 0]) (at_a hL i _ _)
theorem tr4 (i : grid0.Coords) : cc0_transform_4 k0_off1_inb numel1_S1 pf i = ![32 * (i 0).val + qOf (i 1).val, 0] := tr0 hL i
theorem tr1 (i : grid0.Coords) : cc0_transform_1 k0_off1_inb numel1_S1 pf i = ![32 * (i 0).val + qOf (i 1).val, kOf (i 1).val, 0, 0] := by
  refine (?_ : _ = ![(Scalar.addi (Scalar.muli (BitVec.ofNat 32 (i 0).val) 32#32) (lit0t (i 1).val)).toNat, kOf (i 1).val, 0, 0]).trans (congrArg (fun n => ![n, kOf (i 1).val, 0, 0]) (q_word (i 0) (i 1)))
  exact congrArg₂ (fun w v => ![(Scalar.addi (Scalar.muli (BitVec.ofNat 32 (i 0).val) 32#32) w).toNat, BitVec.toNat v, 0, 0]) (at_a hL i _ _) (at_b hL i _ _)
theorem tr2 (i : grid0.Coords) : cc0_transform_2 k0_off1_inb numel1_S1 pf i = ![32 * (i 0).val + kOf (i 1).val, 0] := by
  refine (?_ : _ = ![(Scalar.addi (Scalar.muli (BitVec.ofNat 32 (i 0).val) 32#32) (lit1t (i 1).val)).toNat, 0]).trans (congrArg (fun n => ![n, 0]) (k_word (i 0) (i 1)))
  exact congrArg (fun w => ![(Scalar.addi (Scalar.muli (BitVec.ofNat 32 (i 0).val) 32#32) w).toNat, 0]) (at_b hL i _ _)
theorem tr3 (i : grid0.Coords) : cc0_transform_3 k0_off1_inb numel1_S1 pf i = ![32 * (i 0).val + kOf (i 1).val, 10] := by
  refine (?_ : _ = ![(Scalar.addi (Scalar.muli (BitVec.ofNat 32 (i 0).val) 32#32) (lit1t (i 1).val)).toNat, 10]).trans (congrArg (fun n => ![n, 10]) (k_word (i 0) (i 1)))
  exact congrArg (fun w => ![(Scalar.addi (Scalar.muli (BitVec.ofNat 32 (i 0).val) 32#32) w).toNat, 10]) (at_b hL i _ _)

/-- Every window's block lies inside its array at every point. -/
theorem ok_of_listed : ok0 (F := F) pf := by
  have hb : ∀ i : grid0.Coords, (i 0).val < 2 := fun i => (i 0).isLt
  have hq : ∀ i : grid0.Coords, qOf (i 1).val < 32 := fun i => (pairs (i 1)).1
  have hk : ∀ i : grid0.Coords, kOf (i 1).val < 32 := fun i => lt_of_le_of_lt (pairs (i 1)).2.1 (hq i)
  refine ⟨fun i => ?_, fun i => ?_, fun i => ?_, fun i => ?_, fun i => ?_⟩
  · have h : ∀ a, (cc0_transform_0 k0_off1_inb numel1_S1 pf i a + 1) * S512x512.size a ≤ S32768x512.size a := by
      rw [tr0 hL]; have := hb i; have := hq i; have := hk i
      refine Fin.forall_fin_two.2 ⟨?_, ?_⟩
      · show (32 * (i 0).val + qOf (i 1).val + 1) * 512 ≤ 32768; omega
      · show (0 + 1) * 512 ≤ 512; omega
    exact ⟨h, Or.inr (Affine.block_words_dvd (by decide) (by decide))⟩
  · have h : ∀ a, (cc0_transform_1 k0_off1_inb numel1_S1 pf i a + 1) * S4x1x128x512.size a ≤ S256x32x128x512.size a := by
      rw [tr1 hL]; have := hb i; have := hq i; have := hk i
      refine Fin.forall_fin_succ.2 ⟨?_, Fin.forall_fin_succ.2 ⟨?_, Fin.forall_fin_two.2 ⟨?_, ?_⟩⟩⟩
      · show (32 * (i 0).val + qOf (i 1).val + 1) * 4 ≤ 256; omega
      · show (kOf (i 1).val + 1) * 1 ≤ 32; omega
      · show (0 + 1) * 128 ≤ 128; omega
      · show (0 + 1) * 512 ≤ 512; omega
    exact ⟨h, Or.inr (Affine.block_words_dvd (by decide) (by decide))⟩
  · have h : ∀ a, (cc0_transform_2 k0_off1_inb numel1_S1 pf i a + 1) * S512x512.size a ≤ S32768x512.size a := by
      rw [tr2 hL]; have := hb i; have := hq i; have := hk i
      refine Fin.forall_fin_two.2 ⟨?_, ?_⟩
      · show (32 * (i 0).val + kOf (i 1).val + 1) * 512 ≤ 32768; omega
      · show (0 + 1) * 512 ≤ 512; omega
    exact ⟨h, Or.inr (Affine.block_words_dvd (by decide) (by decide))⟩
  · have h : ∀ a, (cc0_transform_3 k0_off1_inb numel1_S1 pf i a + 1) * S512x512.size a ≤ S32768x6144.size a := by
      rw [tr3 hL]; have := hb i; have := hq i; have := hk i
      refine Fin.forall_fin_two.2 ⟨?_, ?_⟩
      · show (32 * (i 0).val + kOf (i 1).val + 1) * 512 ≤ 32768; omega
      · show (10 + 1) * 512 ≤ 6144; omega
    exact ⟨h, Or.inr (Affine.block_words_dvd (by decide) (by decide))⟩
  · have h : ∀ a, (cc0_transform_4 k0_off1_inb numel1_S1 pf i a + 1) * S512x512.size a ≤ S32768x512.size a := by
      rw [tr4 hL]; have := hb i; have := hq i; have := hk i
      refine Fin.forall_fin_two.2 ⟨?_, ?_⟩
      · show (32 * (i 0).val + qOf (i 1).val + 1) * 512 ≤ 32768; omega
      · show (0 + 1) * 512 ≤ 512; omega
    exact ⟨h, Or.inr (Affine.block_words_dvd (by decide) (by decide))⟩

/-- The word the last conditional tests. -/
theorem word_d (i : grid0.Coords) : pf.atD 3 (k0_off2 i) = lit3t (i 1).val := by
  have h : ∀ a, k0_off2 i a + 1 ≤ S528.size a := by rw [off2_eq]; exact fun a => by rw [Fin.fin_one_eq_zero a]; exact (i 1).isLt
  exact (dif_pos h).trans ((hL.d _).trans (congrArg lit3t ((Shape.rowMajor_val_one _).trans (off_word (i 1)))))

/-- The result's window is left alone except at a query tile's last pair. -/
theorem idle_out (i : grid0.Coords) : idle0 pf 4 i = !decide (kOf (i 1).val = qOf (i 1).val) := by
  have h : ∀ w : BitVec 32, (k0_cond2 w == 1#1) = decide (w = 1#32) := fun w => by
    rw [Bool.beq_eq_decide_eq]; exact decide_eq_decide.2 (flag_iff w)
  show (!(k0_cond2 (pf.atD 3 (k0_off2 i)) == 1#1)) = _
  rw [word_d hL, h]
  exact congrArg (!·) (decide_eq_decide.2 (pairs (i 1)).2.2.2.2)

end Cert.KernelIdeal.Att
-- ==== Proof.AttFrame.lean ====
module

public import proofs.«01_k».proof.Proof.AttTables
public import Idealize.ShloMosaic.Lib.Claim
public import Idealize.ShloMosaic.Lib.Pipeline.TableIdle
public import Idealize.ShloMosaic.Lib.StableHlo.RunRead

@[expose] public section

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The stretches of host operations, in order. -/
abbrev stretches : List (List (HloOp τ sig (Elt F))) := [hostOps0, hostOps0_1, hostOps0_2, hostOps0_3, hostOps0_4, hostOps0_5, hostOps0_6, hostOps0_7]

/-- What each buffer of core `c` holds when the launch begins. -/
abbrev V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub⟩

theorem stretches_fresh : (stretches : List (List (HloOp τ sig (Elt F)))).Forall fun ops => ops.Forall fun op => op.fresh = ∅ := by
  simp only [List.Forall]; repeat' constructor

set_option maxHeartbeats 1600000 in
/-- The program is its host operations followed by the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-- The buffers the host operations write, in order. -/
abbrev written : List (Ref sig .tc) := [main_c, main_c_0, main_c_1, main_c_2, main_v0, main_v1, main_v2, main_v3, main_v4, main_v5, main_c_3, main_v6, main_v7, main_c_4, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v8, main_v9, main_c_5, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v10, main_v11, main_v12, main_v13, main_v14, main_v15, main_v16, main_cst, main_cst_6, main_call2_v0, main_call2_v1, main_v17, main_v18, main_v19, main_v20, main_v21, main_cst_7, main_v22, main_v23, main_v24, main_v25, main_v26, main_v27, main_v28, main_v29, main_c_8, main_call3_v0, main_v30]

theorem written_eq : (stretches : List (List (HloOp τ sig (Elt F)))).flatten.map HloOp.writes = written.map fun w => {Proc.devRef (τ := τ) .tc w} := rfl

/-- The arguments are as launched. -/
theorem V_arg0 (c : Dev nD) : V m c main_arg0 = m ((c : Thread nD τ).loc main_arg0) := StableHlo.after_unwritten written written_eq (by decide) _
theorem V_arg1 (c : Dev nD) : V m c main_arg1 = m ((c : Thread nD τ).loc main_arg1) := StableHlo.after_unwritten written written_eq (by decide) _
theorem V_arg2 (c : Dev nD) : V m c main_arg2 = m ((c : Thread nD τ).loc main_arg2) := StableHlo.after_unwritten written written_eq (by decide) _
theorem V_arg3 (c : Dev nD) : V m c main_arg3 = m ((c : Thread nD τ).loc main_arg3) := StableHlo.after_unwritten written written_eq (by decide) _

/-! ## The tables -/

/-- The tables' contents at the launch. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl

theorem V_tabA (c : Dev nD) : V m c main_c = fun y => lit0 (S528.rowMajor y) :=
  (StableHlo.after_last_write (i := 0) (written.drop 1) rfl rfl (by decide) _).trans (StableHlo.nullary_result' ..)
theorem V_tabB (c : Dev nD) : V m c main_c_0 = fun y => lit1 (S528.rowMajor y) :=
  (StableHlo.after_last_write (i := 1) (written.drop 2) rfl rfl (by decide) _).trans (StableHlo.nullary_result' ..)
theorem V_tabC (c : Dev nD) : V m c main_c_1 = fun y => lit2 (S528.rowMajor y) :=
  (StableHlo.after_last_write (i := 2) (written.drop 3) rfl rfl (by decide) _).trans (StableHlo.nullary_result' ..)
theorem V_tabD (c : Dev nD) : V m c main_c_2 = fun y => lit3 (S528.rowMajor y) :=
  (StableHlo.after_last_write (i := 3) (written.drop 4) rfl rfl (by decide) _).trans (StableHlo.nullary_result' ..)

theorem listed : Listed (tbl m) where
  a y := congrFun (V_tabA m 0) y
  b y := congrFun (V_tabB m 0) y
  c y := congrFun (V_tabC m 0) y
  d y := congrFun (V_tabD m 0) y

/-- The tables as admitted contents, and the launch at them. -/
abbrev adm : (pcfg0 (F := F)).Adm := ⟨tbl m, ok_of_listed (listed m)⟩
abbrev cfgM : Pipeline.Cfg sig Λ₀ := cfg0 (adm m)

theorem tables_eq (c : Dev nD) : (Pipeline.ΦT pre0 (tbl m) c : sProp 𝕄)
    = iprop(tabPt c tabA (tbl m 0) ∗ tabPt c tabB (tbl m 1) ∗ tabPt c tabC (tbl m 2) ∗ tabPt c tabD (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows -/

/-- Window `w`'s block at point `t` of its array at the launch. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_of_0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem live_0 (t : Fin (cfgM m).N) : (cfgM m).idle 0 (grid0.coords t) = false := rfl
theorem live_1 (t : Fin (cfgM m).N) : (cfgM m).idle 1 (grid0.coords t) = false := rfl
theorem live_2 (t : Fin (cfgM m).N) : (cfgM m).idle 2 (grid0.coords t) = false := rfl
theorem live_3 (t : Fin (cfgM m).N) : (cfgM m).idle 3 (grid0.coords t) = false := rfl
theorem idle_4 (t : Fin (cfgM m).N) : (cfgM m).idle 4 (grid0.coords t) = !decide (kOf (grid0.coords t 1).val = qOf (grid0.coords t 1).val) :=
  idle_out (listed m) (grid0.coords t)

/-- The points' coordinates. -/
theorem coord0 (t : Fin grid0.N) : (grid0.coords t 0).val = t.val / 528 := by
  have ht : t.val < 1056 := Nat.lt_of_lt_of_eq t.isLt N_0
  have e : (grid0.coords t 0).val = t.val / 528 % 2 := Pipeline.Grid.coords_val t 0 (by decide) rfl
  rw [e]; omega
theorem coord1 (t : Fin grid0.N) : (grid0.coords t 1).val = t.val % 528 := by
  have e : (grid0.coords t 1).val = t.val / 1 % 528 := Pipeline.Grid.coords_val t 1 (by decide) rfl
  rw [e, Nat.div_one]

/-- Two neighbouring points of one query tile have one result block. -/
theorem stays : ∀ t : Fin 1056, kOf (t.val % 528) ≠ qOf (t.val % 528) →
    t.val + 1 < 1056 ∧ (t.val + 1) / 528 = t.val / 528 ∧ qOf ((t.val + 1) % 528) = qOf (t.val % 528) := by decide +kernel

/-- A result block that is written back is a query tile's last. -/
theorem flush_last (t : Fin (cfgM m).N) (h : ((cfgM m).win 4).flush t = true) : kOf (grid0.coords t 1).val = qOf (grid0.coords t 1).val := by
  by_contra hne
  rw [coord1] at hne
  obtain ⟨h1, h2, h3⟩ := stays ⟨t.val, Nat.lt_of_lt_of_eq t.isLt N_0⟩ hne
  rw [Pipeline.Window.flush_eq_flushF] at h
  unfold Pipeline.Window.flushF at h
  rw [Bool.and_eq_true, Bool.or_eq_true] at h
  rcases h.2 with h | h
  · have h := of_decide_eq_true h
    have hN : grid0.N = 1056 := N_0
    have e : t.val + 1 = grid0.N := h
    have h1 : t.val + 1 < 1056 := h1
    omega
  · obtain ⟨hn, a, ha⟩ := of_decide_eq_true h
    refine ha (congrFun ?_ a)
    refine (tr4 (listed m) (grid0.coords ⟨t.val + 1, hn⟩)).trans (Eq.trans ?_ (tr4 (listed m) (grid0.coords t)).symm)
    rw [coord0, coord1, coord0, coord1]
    show ![32 * ((t.val + 1) / 528) + qOf ((t.val + 1) % 528), 0] = ![32 * (t.val / 528) + qOf (t.val % 528), 0]
    rw [show (t.val + 1) / 528 = t.val / 528 from h2, show qOf ((t.val + 1) % 528) = qOf (t.val % 528) from h3]

abbrev ms0 (t : Fin (cfgM m).N) : Memref sig .tc .vmem S512x512 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S4x1x128x512 .bf16 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S512x512 .bf16 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S512x512 .bf16 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S512x512 .bf16 := spec0_4.stage ((cfgM m).slots t 4)
abbrev hs4 (t : Fin (cfgM m).N) : (ms4 m t).IsWhole := hstage0_4 (((cfgM m).slots t 4).cast nbuf0_4)
abbrev scM : Memref sig .tc .vmem S512x512 .f32 := Memref.whole cc0_scratch0
abbrev scL : Memref sig .tc .vmem S512x512 .f32 := Memref.whole cc0_scratch1
abbrev scA : Memref sig .tc .vmem S512x512 .f32 := Memref.whole cc0_scratch2

/-- The body at point `t`, at the memrefs the launch hands it. -/
abbrev bodyAt (t : Fin (cfgM m).N) : Prog (TpuEff nD τ sig (Elt F) Λ₀ .tc) PUnit :=
  cc0_dsa_attention (grid0.coords t) tabA wholeA tabB wholeB tabC wholeC tabD wholeD (ms0 m t) (hs0 m t) (ms1 m t) (hs1 m t) (ms2 m t) (hs2 m t)
    (ms3 m t) (hs3 m t) (ms4 m t) (hs4 m t) scM (Memref.isWhole_whole _) scL (Memref.isWhole_whole _) scA (Memref.isWhole_whole _)

theorem rest_eq (c : Dev nD) : (Pipeline.ΦA spec0 c : sProp 𝕄)
    = iprop(((∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest0_eq]; simp only [scM, scL, scA, owns_whole]; try rfl

/-! ## The running state -/

/-- The four input blocks of point `t`, at their shapes: the queries, the mask, the keys, the values. -/
abbrev bq (c : Dev nD) (t : Fin (cfgM m).N) : Vec F S512x512 .bf16 := iblk m c 0 t
abbrev bm (c : Dev nD) (t : Fin (cfgM m).N) : Vec F S4x1x128x512 .bf16 := iblk m c 1 t
abbrev bk (c : Dev nD) (t : Fin (cfgM m).N) : Vec F S512x512 .bf16 := iblk m c 2 t
abbrev bv (c : Dev nD) (t : Fin (cfgM m).N) : Vec F S512x512 .bf16 := iblk m c 3 t

/-- The running maxima, sums and products. -/
abbrev Run (F : FTy → Type) [FloatOps F] := Vec F S512x512 .f32 × Vec F S512x512 .f32 × Vec F S512x512 .f32

/-- The state a query tile starts from. -/
def fresh : Run F := (k0_pay5, k0_pay6, k0_pay7)

/-- One pair of tiles folded into the state. -/
def stepS (xq : Vec F S512x512 .bf16) (xb : Vec F S4x1x128x512 .bf16) (xk xv : Vec F S512x512 .bf16) (s : Run F) : Run F :=
  (newM xq xb xk s.1, newL xq xb xk s.1 s.2.1, newA xq xb xk xv s.1 s.2.2)

/-- The state after the first `n` points. -/
def st (c : Dev nD) : (n : ℕ) → n ≤ (cfgM m).N → Run F
  | 0, _ => fresh
  | n + 1, hn => stepS (bq m c ⟨n, hn⟩) (bm m c ⟨n, hn⟩) (bk m c ⟨n, hn⟩) (bv m c ⟨n, hn⟩)
      (if kOf (grid0.coords (⟨n, hn⟩ : Fin grid0.N) 1).val = 0 then fresh else st c n (Nat.le_of_lt hn))

/-- The result's block after point `t`, when the point writes it. -/
def outS (s : Run F) : Vec F S512x512 .bf16 := k0_pay4 s.2.2 s.2.1

/-- A point's run from a state that agrees with `st` whenever the point does not start afresh. -/
theorem run_step (c : Dev nD) (t : Fin (cfgM m).N) (a6 h6 a7 h7 a8 h8 a9 h9 a10 h10 a11 h11 a12 h12 a13 h13) (xo : Vec F S512x512 .bf16) (sm sl sa : Vec F S512x512 .f32)
    (hs : kOf (grid0.coords t 1).val ≠ 0 → (sm, sl, sa) = st m c t.val (Nat.le_of_lt t.isLt)) :
    (bodyRun c (grid0.coords t) a6 h6 a7 h7 a8 h8 a9 h9 a10 h10 a11 h11 a12 h12 a13 h13 (bq m c t) (bm m c t) (bk m c t) (bv m c t) xo sm sl sa (tbl m 0) (tbl m 1) (tbl m 2) (tbl m 3)).1
      = ((st m c (t.val + 1) t.isLt).1, (st m c (t.val + 1) t.isLt).2.1, (st m c (t.val + 1) t.isLt).2.2,
          if kOf (grid0.coords t 1).val = qOf (grid0.coords t 1).val then outS (st m c (t.val + 1) t.isLt) else xo) := by
  refine (bodyRun_val ..).trans ?_
  have hF := first_iff (F := F) c (grid0.coords t) (tbl m 2) (listed m).c
  have hE := last_iff (F := F) c (grid0.coords t) (tbl m 3) (listed m).d
  have e : st m c (t.val + 1) t.isLt = stepS (bq m c t) (bm m c t) (bk m c t) (bv m c t)
      (if kOf (grid0.coords t 1).val = 0 then fresh else (sm, sl, sa)) := by
    by_cases h0 : kOf (grid0.coords t 1).val = 0
    · rw [if_pos h0]; show stepS _ _ _ _ (if _ then _ else _) = _; rw [if_pos h0]
    · rw [if_neg h0, hs h0]; show stepS _ _ _ _ (if _ then _ else _) = _; rw [if_neg h0]
  rw [e]
  by_cases h0 : kOf (grid0.coords t 1).val = 0
  · by_cases h1 : kOf (grid0.coords t 1).val = qOf (grid0.coords t 1).val
    · simp only [if_pos (hF.2 h0), if_pos (hE.2 h1), if_pos h0, if_pos h1]; rfl
    · simp only [if_pos (hF.2 h0), if_neg (fun h => h1 (hE.1 h)), if_pos h0, if_neg h1]; rfl
  · by_cases h1 : kOf (grid0.coords t 1).val = qOf (grid0.coords t 1).val
    · simp only [if_neg (fun h => h0 (hF.1 h)), if_pos (hE.2 h1), if_neg h0, if_pos h1]; rfl
    · simp only [if_neg (fun h => h0 (hF.1 h)), if_neg (fun h => h1 (hE.1 h)), if_neg h0, if_neg h1]; rfl

/-- The invariant before point `n`. -/
def PhiS (c : Dev nD) : (n : ℕ) → n ≤ (cfgM m).N → sProp 𝕄
  | 0, _ => iprop(Pipeline.ΦA spec0 c ∗ Pipeline.ΦT pre0 (tbl m) c)
  | n + 1, hn => iprop(((owns (c : Thread nD τ) scM fullShare (st m c (n + 1) hn).1 ∗ owns (c : Thread nD τ) scL fullShare (st m c (n + 1) hn).2.1
      ∗ owns (c : Thread nD τ) scA fullShare (st m c (n + 1) hn).2.2) ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl
theorem PhiS_pos (c : Dev nD) (n : ℕ) (h : n ≤ (cfgM m).N) (hz : n ≠ 0) :
    PhiS m c n h = iprop(((owns (c : Thread nD τ) scM fullShare (st m c n h).1 ∗ owns (c : Thread nD τ) scL fullShare (st m c n h).2.1
      ∗ owns (c : Thread nD τ) scA fullShare (st m c n h).2.2) ∗ (∃ r, prngReg c r)) ∗ Pipeline.ΦT pre0 (tbl m) c) := by
  cases n with
  | zero => exact absurd rfl hz
  | succ n => rfl

/-- The launch's proof data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outS (st m c (t.val + 1) t.isLt)
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]
theorem Phi_at (c : Dev nD) (t : Fin (cfgM m).N) : (dats m 0 c).Φ t.castSucc = PhiS m c t.val (Nat.le_of_lt t.isLt) := by
  dsimp only [dats]; exact Pipeline.Dat.Φ_castSucc (PhiS m c) t
theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = outS (st m c (t.val + 1) t.isLt) := by dsimp only [dats]; try rfl
theorem before_0 (c : Dev nD) (t : Fin (cfgM m).N) (d) : (dats m 0 c).before 0 t d = iblk m c 0 t :=
  before_of_0 m (dats m 0 c) (A_eq m c 0) (after_0 m c) t d
theorem before_1 (c : Dev nD) (t : Fin (cfgM m).N) (d) : (dats m 0 c).before 1 t d = iblk m c 1 t :=
  before_of_1 m (dats m 0 c) (A_eq m c 1) (after_1 m c) t d
theorem before_2 (c : Dev nD) (t : Fin (cfgM m).N) (d) : (dats m 0 c).before 2 t d = iblk m c 2 t :=
  before_of_2 m (dats m 0 c) (A_eq m c 2) (after_2 m c) t d
theorem before_3 (c : Dev nD) (t : Fin (cfgM m).N) (d) : (dats m 0 c).before 3 t d = iblk m c 3 t :=
  before_of_3 m (dats m 0 c) (A_eq m c 3) (after_3 m c) t d
theorem leaves_0 (c : Dev nD) (t : Fin (cfgM m).N) : (dats m 0 c).leavesExact 0 t = owns (c : Thread nD τ) (ms0 m t) fullShare (iblk m c 0 t) := by
  unfold Dat.leavesExact; rw [live_0 m t]; exact congrArg (owns (c : Thread nD τ) (ms0 m t) fullShare) (after_0 m c t)
theorem leaves_1 (c : Dev nD) (t : Fin (cfgM m).N) : (dats m 0 c).leavesExact 1 t = owns (c : Thread nD τ) (ms1 m t) fullShare (iblk m c 1 t) := by
  unfold Dat.leavesExact; rw [live_1 m t]; exact congrArg (owns (c : Thread nD τ) (ms1 m t) fullShare) (after_1 m c t)
theorem leaves_2 (c : Dev nD) (t : Fin (cfgM m).N) : (dats m 0 c).leavesExact 2 t = owns (c : Thread nD τ) (ms2 m t) fullShare (iblk m c 2 t) := by
  unfold Dat.leavesExact; rw [live_2 m t]; exact congrArg (owns (c : Thread nD τ) (ms2 m t) fullShare) (after_2 m c t)
theorem leaves_3 (c : Dev nD) (t : Fin (cfgM m).N) : (dats m 0 c).leavesExact 3 t = owns (c : Thread nD τ) (ms3 m t) fullShare (iblk m c 3 t) := by
  unfold Dat.leavesExact; rw [live_3 m t]; exact congrArg (owns (c : Thread nD τ) (ms3 m t) fullShare) (after_3 m c t)
/-- At a query tile's last pair the result's block is as the body leaves it, -/
theorem leaves_last (c : Dev nD) (t : Fin (cfgM m).N) (h : kOf (grid0.coords t 1).val = qOf (grid0.coords t 1).val) :
    (dats m 0 c).leavesExact 4 t = owns (c : Thread nD τ) (ms4 m t) fullShare (outS (st m c (t.val + 1) t.isLt)) := by
  unfold Dat.leavesExact; rw [idle_4 m t, decide_eq_true h]; exact congrArg (owns (c : Thread nD τ) (ms4 m t) fullShare) (after_4 m c t)
/-- elsewhere as it was found. -/
theorem leaves_idle (c : Dev nD) (t : Fin (cfgM m).N) (h : kOf (grid0.coords t 1).val ≠ qOf (grid0.coords t 1).val) :
    (dats m 0 c).leavesExact 4 t = iprop(∃ d, owns (c : Thread nD τ) (ms4 m t) fullShare ((dats m 0 c).before 4 t d)) :=
  (dats m 0 c).leavesExact_idle 4 t ((idle_4 m t).trans (by rw [decide_eq_false h]; rfl))
    (Bool.eq_false_iff.2 fun hf => h (flush_last m t hf))

/-! ## The body -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d)))
def bodyPost (c : Dev nD) (t : Fin (cfgM m).N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t)

/-- What the body leaves in the result's buffer is what the launch expects of it. -/
theorem leaves_out (c : Dev nD) (t : Fin (cfgM m).N) (d) (xo : Vec F S512x512 .bf16) (hx : xo = (dats m 0 c).before 4 t d) :
    owns (c : Thread nD τ) (ms4 m t) fullShare (if kOf (grid0.coords t 1).val = qOf (grid0.coords t 1).val then outS (st m c (t.val + 1) t.isLt) else xo)
      ⊢ (dats m 0 c).leavesExact 4 t := by
  by_cases h : kOf (grid0.coords t 1).val = qOf (grid0.coords t 1).val
  · rw [if_pos h, leaves_last m c t h]
  · rw [if_neg h, leaves_idle m c t h, hx]; iintro H; iexists d; iexact H

theorem first_zero : kOf 0 = 0 := by decide +kernel

/-- The point's run from the buffers' contents to the next state, the inputs and the tables given back. -/
theorem body_core (c : Dev nD) (t : Fin (cfgM m).N) (d : _) (sm sl sa : Vec F S512x512 .f32)
    (hs : kOf (grid0.coords t 1).val ≠ 0 → (sm, sl, sa) = st m c t.val (Nat.le_of_lt t.isLt)) (K : PUnit → sProp 𝕄) :
    iprop(owns (c : Thread nD τ) (ms0 m t) fullShare (iblk m c 0 t) ∗ owns (c : Thread nD τ) (ms1 m t) fullShare (iblk m c 1 t)
        ∗ owns (c : Thread nD τ) (ms2 m t) fullShare (iblk m c 2 t) ∗ owns (c : Thread nD τ) (ms3 m t) fullShare (iblk m c 3 t)
        ∗ owns (c : Thread nD τ) (ms4 m t) fullShare ((dats m 0 c).before 4 t d)
        ∗ owns (c : Thread nD τ) scM fullShare sm ∗ owns (c : Thread nD τ) scL fullShare sl ∗ owns (c : Thread nD τ) scA fullShare sa
        ∗ Pipeline.ΦT pre0 (tbl m) c
        ∗ (iprop(owns (c : Thread nD τ) (ms0 m t) fullShare (iblk m c 0 t) ∗ owns (c : Thread nD τ) (ms1 m t) fullShare (iblk m c 1 t)
          ∗ owns (c : Thread nD τ) (ms2 m t) fullShare (iblk m c 2 t) ∗ owns (c : Thread nD τ) (ms3 m t) fullShare (iblk m c 3 t)
          ∗ (dats m 0 c).leavesExact 4 t
          ∗ owns (c : Thread nD τ) scM fullShare (st m c (t.val + 1) t.isLt).1 ∗ owns (c : Thread nD τ) scL fullShare (st m c (t.val + 1) t.isLt).2.1
          ∗ owns (c : Thread nD τ) scA fullShare (st m c (t.val + 1) t.isLt).2.2
          ∗ Pipeline.ΦT pre0 (tbl m) c) -∗ K ⟨⟩))
      ⊢ wp frame (wpE (defs₀ (F := F)) Variants.none c none) Set.univ (bodyAt m t) K := by
  rw [tables_eq]
  have hrun := (bodyRun c (grid0.coords t) (ms0 m t) (hs0 m t) (ms1 m t) (hs1 m t) (ms2 m t) (hs2 m t) (ms3 m t) (hs3 m t) (ms4 m t) (hs4 m t)
    scM (Memref.isWhole_whole _) scL (Memref.isWhole_whole _) scA (Memref.isWhole_whole _)
    (bq m c t) (bm m c t) (bk m c t) (bv m c t) ((dats m 0 c).before 4 t d) sm sl sa (tbl m 0) (tbl m 1) (tbl m 2) (tbl m 3)).2 Set.univ K
  rw [run_step m c t _ _ _ _ _ _ _ _ _ _ _ _ _ _ _ _ ((dats m 0 c).before 4 t d) sm sl sa hs] at hrun
  iintro ⟨H0, H1, H2, H3, H4, HM, HL, HA, ⟨Ta, Tb, Tc, Td⟩, Hk⟩
  iapply hrun
  isplitl [H0]; · iexact H0
  isplitl [H1]; · iexact H1
  isplitl [H2]; · iexact H2
  isplitl [H3]; · iexact H3
  isplitl [H4]; · iexact H4
  isplitl [HM]; · iexact HM
  isplitl [HL]; · iexact HL
  isplitl [HA]; · iexact HA
  isplitl [Ta]; · iexact Ta
  isplitl [Tb]; · iexact Tb
  isplitl [Tc]; · iexact Tc
  isplitl [Td]; · iexact Td
  iintro ⟨H0, H1, H2, H3, H4, HM, HL, HA, Ta, Tb, Tc, Td⟩
  iapply Hk
  isplitl [H0]; · iexact H0
  isplitl [H1]; · iexact H1
  isplitl [H2]; · iexact H2
  isplitl [H3]; · iexact H3
  isplitl [H4]
  · iapply (leaves_out m c t d _ rfl); iexact H4
  isplitl [HM]; · iexact HM
  isplitl [HL]; · iexact HL
  isplitl [HA]; · iexact HA
  isplitl [Ta]; · iexact Ta
  isplitl [Tb]; · iexact Tb
  isplitl [Tc]; · iexact Tc
  iexact Td

set_option maxHeartbeats 1600000 in
/-- The body at any point. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2, before_3]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [leaves_0, leaves_1, leaves_2, leaves_3, Phi_at]
  by_cases hz : t.val = 0
  · rw [PhiS_zero m c _ _ hz, rest_eq]
    iintro ⟨⟨⟨⟨⟨%sm, HM⟩, ⟨%sl, HL⟩, ⟨%sa, HA⟩⟩, Hg⟩, HT⟩, Ho, ⟨%d0, H0⟩, ⟨%d1, H1⟩, ⟨%d2, H2⟩, ⟨%d3, H3⟩, ⟨%d4, H4⟩⟩
    iapply (body_core m c t d4 sm sl sa (fun h => absurd (by rw [coord1, hz]; exact first_zero) h) _)
    isplitl [H0]; · iexact H0
    isplitl [H1]; · iexact H1
    isplitl [H2]; · iexact H2
    isplitl [H3]; · iexact H3
    isplitl [H4]; · iexact H4
    isplitl [HM]; · iexact HM
    isplitl [HL]; · iexact HL
    isplitl [HA]; · iexact HA
    isplitl [HT]; · iexact HT
    iintro ⟨H0, H1, H2, H3, H4, HM, HL, HA, HT⟩
    isplitl [HM HL HA Hg HT]
    · isplitl [HM HL HA Hg]
      · isplitl [HM HL HA]
        · isplitl [HM]; · iexact HM
          isplitl [HL]; · iexact HL
          iexact HA
        iexact Hg
      iexact HT
    isplitl [Ho]; · iexact Ho
    isplitl [H0]; · iexact H0
    isplitl [H1]; · iexact H1
    isplitl [H2]; · iexact H2
    isplitl [H3]; · iexact H3
    iexact H4
  · rw [PhiS_pos m c _ _ hz]
    iintro ⟨⟨⟨⟨HM, HL, HA⟩, Hg⟩, HT⟩, Ho, ⟨%d0, H0⟩, ⟨%d1, H1⟩, ⟨%d2, H2⟩, ⟨%d3, H3⟩, ⟨%d4, H4⟩⟩
    iapply (body_core m c t d4 _ _ _ (fun _ => rfl) _)
    isplitl [H0]; · iexact H0
    isplitl [H1]; · iexact H1
    isplitl [H2]; · iexact H2
    isplitl [H3]; · iexact H3
    isplitl [H4]; · iexact H4
    isplitl [HM]; · iexact HM
    isplitl [HL]; · iexact HL
    isplitl [HA]; · iexact HA
    isplitl [HT]; · iexact HT
    iintro ⟨H0, H1, H2, H3, H4, HM, HL, HA, HT⟩
    isplitl [HM HL HA Hg HT]
    · isplitl [HM HL HA Hg]
      · isplitl [HM HL HA]
        · isplitl [HM]; · iexact HM
          isplitl [HL]; · iexact HL
          iexact HA
        iexact Hg
      iexact HT
    isplitl [Ho]; · iexact Ho
    isplitl [H0]; · iexact H0
    isplitl [H1]; · iexact H1
    isplitl [H2]; · iexact H2
    isplitl [H3]; · iexact H3
    iexact H4

theorem row_eq (t : Fin (cfgM m).N) :
    defs₀ (F := F) .tc (cfgM m).body ((cfgM m).bodyArgs t ((cfgM m).slots t)) = bodyAt m t := by
  unfold defs₀; rw [Defs.onTc_tc]

theorem body_obligation (c : Dev nD) : BodyObligation (dats (F := F) m 0 c) (defs₀ (F := F)) Variants.none () Set.univ := fun t => by
  rw [bigSep_W0, bigSep_W0, row_eq m]
  exact triple_restated (sound_body m c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]
theorem hout (c : Dev nD) : (dats m 0 c).Φ (Fin.last (cfgM m).N) ⊢ Pipeline.ΦA spec0 c := by
  rw [show (dats m 0 c).Φ (Fin.last (cfgM m).N) = PhiS m c (cfgM m).N (le_refl _) from rfl,
    PhiS_pos m c _ _ (by have : (cfgM m).N = 1056 := N_0; omega), rest_eq]
  iintro ⟨⟨⟨HM, HL, HA⟩, Hg⟩, -⟩
  isplitl [HM HL HA]
  · isplitl [HM]; · iexists _; iexact HM
    isplitl [HL]; · iexists _; iexact HL
    iexists _; iexact HA
  iexact Hg

set_option backward.isDefEq.respectTransparency.types false in
/-- The whole run: every array of the launch ends at what the points leave there, every other buffer as the launch found
    it, every counter at zero. -/
theorem run_all : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_track (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hin := hin m) (hout := hout m)

/-- The arguments end as they began, the result at what the points leave in it, every counter at zero. -/
theorem run_main : θ_run defs (onTc (τ := τ) (main (F := F))) ⟨m, fun _ => 0, ρ⟩ (fun r => (∀ c : Dev nD,
      r.2.mem ((c.tc : Thread nD τ).loc main_v31) = (dats m 0 c).arrAt 4 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1 4,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).2 main_arg2 (by decide : main_arg2 ∈ Pipeline.restRefs sig spec0)).trans (V_arg2 m c),
    ((h.1 c).2 main_arg3 (by decide : main_arg3 ∈ Pipeline.restRefs sig spec0)).trans (V_arg3 m c)⟩, h.2⟩) (run_all m ρ)

end Cert.KernelIdeal.Att
-- ==== Proof.AttWord.lean ====
module

public import Idealize.ShloMosaic.Lib.ValueIdx
public import Idealize.ShloMosaic.Lib.ReduceAll
public import Idealize.ShloMosaic.Init

/-! # The words of the mask: a position's chunk, and a disjunction over an axis -/

@[expose] public section

namespace Cert.Att

open Idealize.ShloMosaic

/-- The sign word of `x`. -/
def sgw (x : BitVec 32) : BitVec 32 := if x = 0 then 0 else if x.msb then -1 else 1

/-- A position's chunk of 64, as the host computes it: the quotient rounded towards minus infinity. -/
def fdw (x : BitVec 32) : BitVec 32 :=
  Scalar.select (IntOp.andi (IntOp.cmpi .ne (sgw x) (sgw 64#32)) (IntOp.cmpi .ne (IntOp.remsi .host x 64#32) 0#32))
    (IntOp.subi (IntOp.divsi .host x 64#32) 1#32) (IntOp.divsi .host x 64#32)

theorem divsi64 (x : BitVec 32) (h : x.toNat < 16384) : IntOp.divsi .host x 64#32 = BitVec.ofNat 32 (x.toNat / 64) := by
  have hm : x.msb = false := by rw [BitVec.msb_eq_decide]; simp; omega
  unfold IntOp.divsi
  rw [if_neg (by unfold IntOp.SDivCorner; simp)]
  rw [BitVec.sdiv_eq, hm]
  apply BitVec.eq_of_toNat_eq
  have : (64#32).msb = false := by decide
  rw [this]
  simp only [BitVec.udiv_eq, BitVec.toNat_udiv, BitVec.toNat_ofNat]
  rw [show (64 % 2 ^ 32 : ℕ) = 64 from by norm_num, Nat.mod_eq_of_lt (by omega)]

/-- The chunk of a nonnegative position is its quotient by 64. -/
theorem fdw_eq (x : BitVec 32) (h : x.toNat < 16384) : fdw x = BitVec.ofNat 32 (x.toNat / 64) := by
  have hm : x.msb = false := by rw [BitVec.msb_eq_decide]; simp; omega
  by_cases hx : x = 0#32
  · subst hx; decide
  · unfold fdw
    have h1 : sgw x = 1 := by
      unfold sgw
      rw [if_neg (by exact hx), hm]; rfl
    have h2 : sgw 64#32 = 1 := by decide
    rw [h1, h2, show IntOp.cmpi .ne (1 : BitVec 32) 1 = 0#1 from by decide]
    have h3 : ∀ z : BitVec 1, IntOp.andi 0#1 z = 0#1 := by decide
    rw [h3, divsi64 x h]
    rfl

theorem sle_ofNat (a b : ℕ) (ha : a < 16384) (hb : b < 16384) :
    IntOp.cmpi .sle (BitVec.ofNat 32 a) (BitVec.ofNat 32 b) = 1#1 ↔ a ≤ b := by
  have hA : (BitVec.ofNat 32 a).toInt = a := by
    rw [BitVec.toInt_eq_toNat_of_lt (by rw [BitVec.toNat_ofNat]; omega), BitVec.toNat_ofNat]; omega
  have hB : (BitVec.ofNat 32 b).toInt = b := by
    rw [BitVec.toInt_eq_toNat_of_lt (by rw [BitVec.toNat_ofNat]; omega), BitVec.toNat_ofNat]; omega
  show BitVec.ofBool ((BitVec.ofNat 32 a).sle (BitVec.ofNat 32 b)) = 1#1 ↔ _
  rw [BitVec.sle, hA, hB]
  by_cases h : a ≤ b
  · simp [h]
  · simp [h]

/-- Comparing the chunks of two positions. -/
theorem sle_fdw (x y : BitVec 32) (hx : x.toNat < 16384) (hy : y.toNat < 16384) :
    IntOp.cmpi .sle (fdw x) (fdw y) = 1#1 ↔ x.toNat / 64 ≤ y.toNat / 64 := by
  rw [fdw_eq x hx, fdw_eq y hy]; exact sle_ofNat _ _ (by omega) (by omega)

theorem eq_word (x : BitVec 32) (s : ℕ) (hs : s < 16384) : IntOp.cmpi .eq x (BitVec.ofNat 32 s) = 1#1 ↔ x.toNat = s := by
  have h1 : IntOp.cmpi .eq x (BitVec.ofNat 32 s) = 1#1 ↔ x = BitVec.ofNat 32 s := by
    by_cases h : x = BitVec.ofNat 32 s
    · subst h; simp [IntOp.cmpi]
    · have hb : (x == BitVec.ofNat 32 s) = false := beq_false_of_ne h
      unfold IntOp.cmpi
      simp only [hb]
      exact ⟨fun h' => absurd h' (by decide), fun h' => absurd h' h⟩
  rw [h1]
  constructor
  · intro h; rw [h, BitVec.toNat_ofNat]; omega
  · intro h; apply BitVec.eq_of_toNat_eq; rw [BitVec.toNat_ofNat, h]; omega

theorem and_word (a b : BitVec 1) : IntOp.andi a b = 1#1 ↔ a = 1#1 ∧ b = 1#1 := by
  revert a b; decide

theorem foldl_ori {α : Type} (f : α → BitVec 1) (l : List α) (a : BitVec 1) :
    l.foldl (fun r i => IntOp.ori r (f i)) a = 1#1 ↔ a = 1#1 ∨ ∃ i ∈ l, f i = 1#1 := by
  induction l generalizing a with
  | nil => simp
  | cons x l ih =>
    rw [List.foldl_cons, ih]
    have : ∀ u v : BitVec 1, IntOp.ori u v = 1#1 ↔ u = 1#1 ∨ v = 1#1 := by decide
    rw [this]
    simp only [List.mem_cons, exists_eq_or_imp, or_assoc]

/-- A reduce by `or` from zero is 1 exactly where some element that reduces there is 1. -/
theorem reduce_ori {s t u : Shape} {axes : List (Fin s.rank)} (x : s.Idx → BitVec 1) (init : u.Idx → BitVec 1)
    (h : s.ReducesTo axes t) (hu : 0 < u.numel) (j : t.Idx) (h0 : init (Shape.Idx.first hu) = 0#1) :
    Host.reduce IntOp.ori x init h hu j = 1#1 ↔ ∃ i : s.Idx, h.drop i = j ∧ x i = 1#1 := by
  rw [Host.reduce_eq_foldl, foldl_ori, h0]
  constructor
  · rintro (h | ⟨i, hi, hx⟩)
    · exact absurd h (by decide)
    · rw [List.mem_filter] at hi
      exact ⟨i, by simpa using hi.2, hx⟩
  · rintro ⟨i, hi, hx⟩
    refine .inr ⟨i, ?_, hx⟩
    rw [List.mem_filter]
    exact ⟨List.mem_map.2 ⟨s.rowMajor i, List.mem_finRange _, Equiv.symm_apply_apply _ _⟩, by simp [hi]⟩

end Cert.Att
-- ==== Proof.AttPre.lean ====
module

public import proofs.«01_k».proof.Proof.AttWord
public import proofs.«01_k».proof.Pre_attendable
public import Idealize.ShloMosaic.Lib.Pointwise.ShapeOpsCore
public import Idealize.ShloMosaic.Lib.Pipeline.Value

/-! # What the precondition says of the arguments, entry by entry -/

@[expose] public section

namespace Cert.Att

open Idealize.ShloMosaic hiding ix1 ix2 ix3 ix4 ix5
open Idealize.ShloMosaic.ValueIdx
open Cert.Pre_attendable (S2x16384x4x128 S2x16384x256 S2x16384x256x256)

/-- The precondition read entry by entry: finite queries and keys, selections in range and without repetition in a row,
    and one selection of each row in a chunk not after the query's. -/
structure Ok (q k : FVec Ideal S2x16384x4x128 .f32) (sel : IVec S2x16384x256 32) : Prop where
  hq : ∀ i, ∃ r : ℝ, q i = (r : EReal)
  hk : ∀ i, ∃ r : ℝ, k i = (r : EReal)
  lt : ∀ i, (sel i).toNat < 16384
  inj : ∀ (b : Fin 2) (t : Fin 16384) (i j : Fin 256), sel (ix3 b t i) = sel (ix3 b t j) → i = j
  valid : ∀ (b : Fin 2) (t : Fin 16384), ∃ j : Fin 256, (sel (ix3 b t j)).toNat / 64 ≤ t.val / 64

theorem real_of_abs_lt (x : EReal) (h : FloatOps.cmpf (F := Ideal) (φ := .f32) .olt (max x (-x)) (Ideal.ofBits .f32 0x7F800000#32) = 1#1) :
    ∃ r : ℝ, x = (r : EReal) := by
  have ht : Ideal.ofBits .f32 0x7F800000#32 = ⊤ := by simp [Ideal.ofBits, Ideal.ieee]
  rw [ht] at h
  induction x with
  | bot => simp [FloatOps.cmpf, Ideal.cmp] at h
  | top => simp [FloatOps.cmpf, Ideal.cmp] at h
  | coe r => exact ⟨r, rfl⟩

theorem lt_of_range (x : BitVec 32) (a : IntOp.cmpi .sge x 0#32 = 1#1) (b : IntOp.cmpi .slt x 16384#32 = 1#1) : x.toNat < 16384 := by
  change BitVec.ofBool ((0#32).sle x) = 1#1 at a
  change BitVec.ofBool (x.slt 16384#32) = 1#1 at b
  rw [BitVec.sle, show (0#32 : BitVec 32).toInt = 0 from by decide] at a
  rw [BitVec.slt, show (16384#32 : BitVec 32).toInt = 16384 from by decide] at b
  have a' : (0 : ℤ) ≤ x.toInt := by
    by_contra hc
    simp [hc] at a
  have b' : x.toInt < 16384 := by
    by_contra hc
    simp [hc] at b
  have h1 := BitVec.toInt_eq_toNat_cond x
  have h2 := x.isLt
  split at h1 <;> omega

theorem eq_of_cmpi (u v : BitVec 32) (h : IntOp.cmpi .eq u v = 1#1) : u = v := by
  by_contra hc
  have h1 : (u == v) = false := by simpa using hc
  change BitVec.ofBool (u == v) = 1#1 at h
  rw [h1] at h
  exact absurd h (by decide)

theorem and1 (a b : BitVec 1) : IntOp.andi a b = 1#1 ↔ a = 1#1 ∧ b = 1#1 := by revert a b; decide

section
variable [Cert.Pre_attendable.Facts]
open Cert.Pre_attendable Cert.Pre_attendable.Facts

theorem drop3_ix (h : S2x16384x256.ReducesTo [2] S2x16384) (i : S2x16384x256.Idx) (b : Fin 2) (t : Fin 16384)
    (hd : h.drop i = ix2 (n0 := 2) (n1 := 16384) b t) : i = ix3 (n0 := 2) (n1 := 16384) (n2 := 256) b t (i 2) := by
  have h0 : (i 0).val = b.val := by
    have := congrFun hd 0
    exact congrArg Fin.val this
  have h1 : (i 1).val = t.val := by
    have := congrFun hd 1
    exact congrArg Fin.val this
  funext a
  match a with
  | ⟨0, _⟩ => exact Fin.ext h0
  | ⟨1, _⟩ => exact Fin.ext h1
  | ⟨2, _⟩ => rfl

theorem ok_of_pre (q k v : FVec Ideal S2x16384x4x128 .f32) (sel : IVec S2x16384x256 32)
    (h : Cert.Pre_attendable.fn (F := Ideal) q k v sel = fun _ => 1#1) : Ok q k sel := by
  replace h := congrFun h (Shape.Idx.first h_S_)
  haveI : Subsingleton S_.Idx := ⟨fun a b => funext fun x => x.elim0⟩
  unfold Cert.Pre_attendable.fn fn_part1 fn_part2 at h
  replace h := (and1 _ _).mp h
  have hvalid := h.2
  replace h := h.1
  replace h := (and1 _ _).mp h
  have hdist := h.2
  replace h := h.1
  replace h := (and1 _ _).mp h
  have hrange := h.2
  replace h := h.1
  replace h := (and1 _ _).mp h
  have hfq := h.1
  have hfk := h.2
  clear h
  have lt : ∀ i, (sel i).toNat < 16384 := fun i => by
    have := Host.reduce_andi_all _ _ _ _ _ hrange i
    obtain ⟨a, b⟩ := (and1 _ _).mp this
    exact lt_of_range _ a b
  refine ⟨fun i => ?_, fun i => ?_, lt, fun b t i j e => ?_, fun b t => ?_⟩
  · exact real_of_abs_lt _ (Host.reduce_andi_all _ _ _ _ _ hfq i)
  · exact real_of_abs_lt _ (Host.reduce_andi_all _ _ _ _ _ hfk i)
  · have h4 := Host.reduce_andi_all _ _ _ _ _ hdist (ix4 (n0 := 2) (n1 := 16384) (n2 := 256) (n3 := 256) b t i j)
    have hor : ∀ u v : BitVec 1, IntOp.ori (~~~ u) v = 1#1 → u = 1#1 → v = 1#1 := by decide
    have h5 := hor _ _ h4 (by
      refine (show ∀ u v : BitVec 32, u = v → IntOp.cmpi .eq u v = 1#1 from fun u v h => by subst h; simp [IntOp.cmpi]) _ _ ?_
      refine (broadcastInDim_apply _ _ _ _ (ix4 (n0 := 2) (n1 := 16384) (n2 := 256) (n3 := 1) b t i 0) ?_).trans ?_
      · intro a; match a with | ⟨0, _⟩ => rfl | ⟨1, _⟩ => rfl | ⟨2, _⟩ => rfl | ⟨3, _⟩ => rfl
      refine (broadcastInDim_apply _ _ _ _ (ix3 (n0 := 2) (n1 := 16384) (n2 := 256) b t i) ?_).trans ?_
      · intro a; match a with | ⟨0, _⟩ => rfl | ⟨1, _⟩ => rfl | ⟨2, _⟩ => rfl
      refine Eq.trans ?_ (broadcastInDim_apply _ _ _ _ (ix4 (n0 := 2) (n1 := 16384) (n2 := 1) (n3 := 256) b t 0 j) ?_).symm
      · refine Eq.trans ?_ (broadcastInDim_apply _ _ _ _ (ix3 (n0 := 2) (n1 := 16384) (n2 := 256) b t j) ?_).symm
        · exact e
        · intro a; match a with | ⟨0, _⟩ => rfl | ⟨1, _⟩ => rfl | ⟨2, _⟩ => rfl
      · intro a; match a with | ⟨0, _⟩ => rfl | ⟨1, _⟩ => rfl | ⟨2, _⟩ => rfl | ⟨3, _⟩ => rfl)
    have h6 : IntOp.cmpi .eq (BitVec.ofNat 32 i.val) (BitVec.ofNat 32 j.val) = 1#1 := h5
    have h7 : BitVec.ofNat 32 i.val = BitVec.ofNat 32 j.val := eq_of_cmpi _ _ h6
    have h8 := congrArg BitVec.toNat h7
    rw [BitVec.toNat_ofNat, BitVec.toNat_ofNat] at h8
    exact Fin.ext (by have := i.isLt; have := j.isLt; omega)
  · have h3 := Host.reduce_andi_all _ _ _ _ _ hvalid (ix2 (n0 := 2) (n1 := 16384) b t)
    obtain ⟨i, hi, hx⟩ := (reduce_ori _ _ _ _ _ rfl).mp h3
    have hi' := drop3_ix _ i b t hi
    refine ⟨i 2, ?_⟩
    have h4 : IntOp.cmpi .sle (fdw (sel i)) (fdw (BitVec.ofNat 32 t.val)) = 1#1 := by
      rw [hi'] at hx ⊢
      exact hx
    rw [← hi']
    have ht : (BitVec.ofNat 32 t.val).toNat = t.val := by rw [BitVec.toNat_ofNat]; have := t.isLt; omega
    have := (sle_fdw _ _ (lt i) (by rw [ht]; exact t.isLt)).mp h4
    rwa [ht] at this
end

end Cert.Att
-- ==== Proof.RefValue.lean ====
module

public import proofs.«01_k».proof.Proof.AttPre
public import proofs.«01_k».proof.Proof.Gen.ReferenceIdeal.Read
public import Idealize.ShloMosaic.Lib.Pointwise.Reduce
public import Idealize.ShloMosaic.Lib.Pointwise.SelectCore

/-! # The reference's result, entry by entry -/

@[expose] public section

namespace Cert.ReferenceIdeal.Value

open Idealize.ShloMosaic hiding ix1 ix2 ix3 ix4 ix5
open Idealize.ShloMosaic.ValueIdx
open Cert.ReferenceIdeal Cert.ReferenceIdeal.Read Cert.ReferenceIdeal.Facts₀ Cert.ReferenceIdeal.Facts
open Cert.Att

abbrev Qs := FVec Ideal S2x16384x4x128 .f32
abbrev Sl := IVec S2x16384x256 32

theorem wrapped (x a b : BitVec 32) (h : x.toNat < 16384) : Scalar.select (IntOp.cmpi .slt x 0#32) a x = x := by
  have h1 : x.slt 0#32 = false := by
    rw [BitVec.slt, BitVec.toInt_eq_toNat_of_lt (by omega)]
    simp
  unfold Scalar.select IntOp.cmpi
  rw [h1]; rfl

theorem v15_row (sel : Sl) (b : Fin 2) (t : Fin 16384) (j : Fin 256) :
    val_main_v15 (F := Ideal) sel (ix4 (n0 := 2) (n1 := 16384) (n2 := 256) (n3 := 2) b t j 0) = BitVec.ofNat 32 b.val := by
  unfold val_main_v15
  refine (concatenate_pair_apply _ _ _ _ _).trans ((dif_pos Nat.zero_lt_one).trans ?_)
  rw [val_main_v13_apply, val_main_v12_apply, val_main_v6_apply, val_main_v3_apply, val_main_v2_apply, val_main_c_apply,
    val_main_v1_apply, val_main_v0_apply]
  exact wrapped _ _ 0 (by show (BitVec.ofNat 32 b.val).toNat < 16384; rw [BitVec.toNat_ofNat]; have := b.isLt; omega)

theorem v15_col (sel : Sl) (b : Fin 2) (t : Fin 16384) (j : Fin 256) (h : ∀ i, (sel i).toNat < 16384) :
    val_main_v15 (F := Ideal) sel (ix4 (n0 := 2) (n1 := 16384) (n2 := 256) (n3 := 2) b t j 1) = sel (ix3 (n0 := 2) (n1 := 16384) (n2 := 256) b t j) := by
  unfold val_main_v15
  refine (concatenate_pair_apply _ _ _ _ _).trans ((dif_neg (Nat.lt_irrefl 1)).trans ?_)
  rw [val_main_v14_apply, val_main_v11_apply, val_main_v8_apply, val_main_v7_apply, val_main_c_1_apply]
  refine (wrapped _ _ 0 (h _)).trans (congrArg sel (funext fun a => Fin.ext ?_))
  match a with
  | ⟨0, _⟩ => rfl
  | ⟨1, _⟩ => rfl
  | ⟨2, _⟩ => rfl

theorem v16_at (x : Qs) (sel : Sl) (b : Fin 2) (t : Fin 16384) (j : Fin 256) (hd : Fin 4) (d : Fin 128) (h : ∀ i, (sel i).toNat < 16384) :
    val_main_v16 (F := Ideal) x sel (ix5 (n0 := 2) (n1 := 16384) (n2 := 256) (n3 := 4) (n4 := 128) b t j hd d)
      = x (ix4 (n0 := 2) (n1 := 16384) (n2 := 4) (n3 := 128) b ⟨(sel (ix3 b t j)).toNat, h _⟩ hd d) := by
  unfold val_main_v16 Host.gather
  refine congrArg x (funext fun a => Fin.ext ?_)
  let D := gather_S2x16384x4x128_S2x16384x256x2_S2x16384x256x4x128_34_01_n_n_01_3_114128
  let Y := ix5 (n0 := 2) (n1 := 16384) (n2 := 256) (n3 := 4) (n4 := 128) b t j hd d
  show D.start Y (val_main_v15 (F := Ideal) sel) a + D.batchCoord Y a + D.offCoord Y a = _
  rw [GatherDims.batchCoord_eq_zero _ _ _ List.not_mem_nil, Nat.add_zero]
  have e0 : D.start Y (val_main_v15 (F := Ideal) sel) 0 + D.offCoord Y 0 = b.val := by
    rw [GatherDims.offCoord_eq_zero _ _ _ (fun h => ((GatherDims.mem_sKept _ _).mp h).1 (by decide)), Nat.add_zero]
    unfold GatherDims.start
    rw [dif_pos (show (0 : Fin 4) ∈ D.startIndexMap by decide)]
    have hsi : D.siIdx Y ⟨List.idxOf (0 : Fin 4) D.startIndexMap, List.idxOf_lt_length_iff.2 (by decide)⟩ = ix4 (n0 := 2) (n1 := 16384) (n2 := 256) (n3 := 2) b t j 0 := by
      funext c; refine Fin.ext ?_
      match c with
      | ⟨0, _⟩ => rfl
      | ⟨1, _⟩ => rfl
      | ⟨2, _⟩ => rfl
      | ⟨3, _⟩ => rfl
    rw [show val_main_v15 (F := Ideal) sel (D.siIdx Y ⟨List.idxOf (0 : Fin 4) D.startIndexMap, List.idxOf_lt_length_iff.2 (by decide)⟩) = BitVec.ofNat 32 b.val from (congrArg _ hsi).trans (v15_row sel b t j)]
    have hb := b.isLt
    rw [BitVec.toInt_eq_toNat_of_lt (by rw [BitVec.toNat_ofNat]; omega), BitVec.toNat_ofNat]
    show min ((b.val % 2 ^ 32 : ℕ) : ℤ).toNat 1 = b.val
    rw [Int.toNat_natCast]; omega
  have e1 : D.start Y (val_main_v15 (F := Ideal) sel) 1 + D.offCoord Y 1 = (sel (ix3 (n0 := 2) (n1 := 16384) (n2 := 256) b t j)).toNat := by
    rw [GatherDims.offCoord_eq_zero _ _ _ (fun h => ((GatherDims.mem_sKept _ _).mp h).1 (by decide)), Nat.add_zero]
    unfold GatherDims.start
    rw [dif_pos (show (1 : Fin 4) ∈ D.startIndexMap by decide)]
    have hsi : D.siIdx Y ⟨List.idxOf (1 : Fin 4) D.startIndexMap, List.idxOf_lt_length_iff.2 (by decide)⟩ = ix4 (n0 := 2) (n1 := 16384) (n2 := 256) (n3 := 2) b t j 1 := by
      funext c; refine Fin.ext ?_
      match c with
      | ⟨0, _⟩ => rfl
      | ⟨1, _⟩ => rfl
      | ⟨2, _⟩ => rfl
      | ⟨3, _⟩ => rfl
    rw [show val_main_v15 (F := Ideal) sel (D.siIdx Y ⟨List.idxOf (1 : Fin 4) D.startIndexMap, List.idxOf_lt_length_iff.2 (by decide)⟩) = sel (ix3 b t j) from (congrArg _ hsi).trans (v15_col sel b t j h)]
    have h1 := h (ix3 (n0 := 2) (n1 := 16384) (n2 := 256) b t j)
    rw [BitVec.toInt_eq_toNat_of_lt (by omega)]
    show min (((sel (ix3 b t j)).toNat : ℕ) : ℤ).toNat 16383 = (sel (ix3 b t j)).toNat
    rw [Int.toNat_natCast]; omega
  have e2 : D.start Y (val_main_v15 (F := Ideal) sel) 2 + D.offCoord Y 2 = hd.val := by
    unfold GatherDims.start
    rw [dif_neg (show (2 : Fin 4) ∉ D.startIndexMap by decide), Nat.zero_add]
    unfold GatherDims.offCoord
    rw [dif_pos (show (2 : Fin 4) ∈ D.sKept by decide)]
    rfl
  have e3 : D.start Y (val_main_v15 (F := Ideal) sel) 3 + D.offCoord Y 3 = d.val := by
    unfold GatherDims.start
    rw [dif_neg (show (3 : Fin 4) ∉ D.startIndexMap by decide), Nat.zero_add]
    unfold GatherDims.offCoord
    rw [dif_pos (show (3 : Fin 4) ∈ D.sKept by decide)]
    rfl
  match a with
  | ⟨0, _⟩ => exact e0
  | ⟨1, _⟩ => exact e1
  | ⟨2, _⟩ => exact e2
  | ⟨3, _⟩ => exact e3

theorem v31_at (x : Qs) (sel : Sl) (b : Fin 2) (t : Fin 16384) (j : Fin 256) (hd : Fin 4) (d : Fin 128) (h : ∀ i, (sel i).toNat < 16384) :
    val_main_v31 (F := Ideal) x sel (ix5 (n0 := 2) (n1 := 16384) (n2 := 256) (n3 := 4) (n4 := 128) b t j hd d)
      = x (ix4 (n0 := 2) (n1 := 16384) (n2 := 4) (n3 := 128) b ⟨(sel (ix3 b t j)).toNat, h _⟩ hd d) := v16_at x sel b t j hd d h

/-- The attention's scale. -/
noncomputable def cs : EReal := Ideal.ofBits .f32 0x3DB504F3#32

/-- The logit of a query and a key. -/
noncomputable def lg (q k : Qs) (b : Fin 2) (t : Fin 16384) (hd : Fin 4) (s : Fin 16384) : EReal :=
  (∑ d : Fin 128, q (ix4 (n0 := 2) (n1 := 16384) (n2 := 4) (n3 := 128) b t hd d) * k (ix4 (n0 := 2) (n1 := 16384) (n2 := 4) (n3 := 128) b s hd d)) * cs

/-- The logit of a selected key, `−∞` where its chunk comes after the query's. -/
noncomputable def Y (q k : Qs) (sel : Sl) (h : ∀ i, (sel i).toNat < 16384) (b : Fin 2) (t : Fin 16384) (hd : Fin 4) (j : Fin 256) : EReal :=
  if (sel (ix3 (n0 := 2) (n1 := 16384) (n2 := 256) b t j)).toNat / 64 ≤ t.val / 64 then lg q k b t hd ⟨(sel (ix3 b t j)).toNat, h _⟩ else ⊥

theorem v37_at (sel : Sl) (b : Fin 2) (t : Fin 16384) (j : Fin 256) :
    val_main_v37 (F := Ideal) sel (ix3 (n0 := 2) (n1 := 16384) (n2 := 256) b t j)
      = IntOp.cmpi .sle (fdw (sel (ix3 (n0 := 2) (n1 := 16384) (n2 := 256) b t j))) (fdw (BitVec.ofNat 32 t.val)) := rfl

theorem sel_pos {α : Type} {c : BitVec 1} (a b : α) (h : c = 1#1) : Scalar.select c a b = a := if_pos h
theorem sel_neg {α : Type} {c : BitVec 1} (a b : α) (h : ¬ c = 1#1) : Scalar.select c a b = b := if_neg h

theorem v42_at (q k : Qs) (sel : Sl) (h : ∀ i, (sel i).toNat < 16384) (b : Fin 2) (t : Fin 16384) (hd : Fin 4) (j : Fin 256) :
    val_main_v42 (F := Ideal) q k sel (ix4 (n0 := 2) (n1 := 4) (n2 := 16384) (n3 := 256) b hd t j) = Y q k sel h b t hd j := by
  rw [val_main_v42_apply, val_main_call2_v1_apply, val_main_v41_apply, val_main_v40_apply, val_main_v39_apply, val_main_call2_v2_apply, val_main_call2_v0_apply,
    val_main_cst_9_apply, val_main_cst_apply, val_main_v38_apply]
  have e : idx_main_v41 (idx_main_call2_v1 (ix4 (n0 := 2) (n1 := 4) (n2 := 16384) (n3 := 256) b hd t j)) = ix3 (n0 := 2) (n1 := 16384) (n2 := 256) b t j := by
    funext a
    match a with
    | ⟨0, _⟩ => rfl
    | ⟨1, _⟩ => rfl
    | ⟨2, _⟩ => rfl
  rw [e, v37_at]
  have ht : (BitVec.ofNat 32 t.val).toNat = t.val := by rw [BitVec.toNat_ofNat]; have := t.isLt; omega
  have hc := sle_fdw (sel (ix3 (n0 := 2) (n1 := 16384) (n2 := 256) b t j)) (BitVec.ofNat 32 t.val) (h _) (by rw [ht]; exact t.isLt)
  rw [ht] at hc
  unfold Y
  by_cases hh : (sel (ix3 (n0 := 2) (n1 := 16384) (n2 := 256) b t j)).toNat / 64 ≤ t.val / 64
  · rw [sel_pos _ _ (hc.mpr hh), if_pos hh]
    refine congrArg (· * cs) (Finset.sum_congr rfl fun d _ => ?_)
    have e1 : lidx_main_v38 (ix4 (n0 := 2) (n1 := 4) (n2 := 16384) (n3 := 256) b hd t j) d = ix4 (n0 := 2) (n1 := 16384) (n2 := 4) (n3 := 128) b t hd d := by
      funext a
      match a with
      | ⟨0, _⟩ => rfl
      | ⟨1, _⟩ => rfl
      | ⟨2, _⟩ => rfl
      | ⟨3, _⟩ => rfl
    have e2 : ridx_main_v38 (ix4 (n0 := 2) (n1 := 4) (n2 := 16384) (n3 := 256) b hd t j) d = ix5 (n0 := 2) (n1 := 16384) (n2 := 256) (n3 := 4) (n4 := 128) b t j hd d := by
      funext a
      match a with
      | ⟨0, _⟩ => rfl
      | ⟨1, _⟩ => rfl
      | ⟨2, _⟩ => rfl
      | ⟨3, _⟩ => rfl
      | ⟨4, _⟩ => rfl
    rw [e1, e2, v16_at k sel b t j hd d h]
  · rw [sel_neg _ _ (fun hx => hh (hc.mp hx)), if_neg hh]
    show Ideal.ofBits .f32 0xFF800000#32 = ⊥
    simp [Ideal.ofBits, Ideal.ieee]

theorem cs_pos : ∃ r : ℝ, cs = (r : EReal) ∧ 0 < r := by
  refine ⟨_, by simp [cs, Ideal.ofBits, Ideal.ieee]; rfl, ?_⟩
  norm_num

theorem lg_real (q k : Qs) (hq : ∀ i, ∃ r : ℝ, q i = (r : EReal)) (hk : ∀ i, ∃ r : ℝ, k i = (r : EReal)) (b : Fin 2) (t : Fin 16384) (hd : Fin 4) (s : Fin 16384) :
    ∃ r : ℝ, lg q k b t hd s = (r : EReal) := by
  choose fq hfq using hq
  choose fk hfk using hk
  obtain ⟨c, hc, _⟩ := cs_pos
  refine ⟨(∑ d : Fin 128, fq (ix4 b t hd d) * fk (ix4 b s hd d)) * c, ?_⟩
  unfold lg
  rw [hc, EReal.coe_mul]
  refine congrArg (· * (c : EReal)) ?_
  refine Eq.trans ?_ (map_sum (⟨⟨fun r : ℝ => (r : EReal), EReal.coe_zero⟩, EReal.coe_add⟩ : ℝ →+ EReal) _ _).symm
  refine Finset.sum_congr rfl fun d _ => ?_
  rw [hfq, hfk]
  exact (EReal.coe_mul _ _).symm

theorem foldl_max {α : Type} (f : α → EReal) (hf : ∀ i, f i ≠ ⊤) (l : List α) (a : EReal) (ha : a ≠ ⊤) :
    l.foldl (fun r i => max r (f i)) a ≠ ⊤ ∧ a ≤ l.foldl (fun r i => max r (f i)) a ∧ ∀ i ∈ l, f i ≤ l.foldl (fun r i => max r (f i)) a := by
  induction l generalizing a with
  | nil => exact ⟨ha, le_refl _, fun i hi => absurd hi List.not_mem_nil⟩
  | cons x l ih =>
    have h1 : max a (f x) ≠ ⊤ := by
      rcases max_choice a (f x) with h | h <;> rw [h]
      · exact ha
      · exact hf x
    obtain ⟨i1, i2, i3⟩ := ih (max a (f x)) h1
    refine ⟨i1, (le_max_left _ _).trans i2, fun i hi => ?_⟩
    rcases List.mem_cons.mp hi with rfl | hi
    · exact (le_max_right _ _).trans i2
    · exact i3 i hi

/-- A reduce by maximum of elements that are not `+∞` is not `+∞`, and it is at least each element that reduces there. -/
theorem reduce_max {s t u : Shape} {axes : List (Fin s.rank)} (x : FVec Ideal s .f32) (init : FVec Ideal u .f32)
    (h : s.ReducesTo axes t) (hu : 0 < u.numel) (j : t.Idx) (h0 : init (Shape.Idx.first hu) ≠ (⊤ : EReal)) (hx : ∀ i, x i ≠ (⊤ : EReal)) :
    Host.reduce FloatOps.maximumf x init h hu j ≠ (⊤ : EReal) ∧ ∀ i, h.drop i = j → (x i : EReal) ≤ Host.reduce FloatOps.maximumf x init h hu j := by
  rw [Host.reduce_eq_foldl]
  obtain ⟨i1, -, i3⟩ := foldl_max (fun i => (x i : EReal)) hx _ _ h0
  refine ⟨i1, fun i hi => i3 i ?_⟩
  rw [List.mem_filter]
  exact ⟨List.mem_map.2 ⟨s.rowMajor i, List.mem_finRange _, Equiv.symm_apply_apply _ _⟩, by simp [hi]⟩

theorem Y_ne_top (q k : Qs) (sel : Sl) (ok : Ok q k sel) (b : Fin 2) (t : Fin 16384) (hd : Fin 4) (j : Fin 256) : Y q k sel ok.lt b t hd j ≠ ⊤ := by
  unfold Y
  split
  · obtain ⟨r, hr⟩ := lg_real q k ok.hq ok.hk b t hd ⟨_, ok.lt (ix3 b t j)⟩
    rw [hr]; exact EReal.coe_ne_top _
  · exact bot_ne_top

/-- The row maximum is a real number, where some selected key may be attended. -/
theorem v45_real (q k : Qs) (sel : Sl) (ok : Ok q k sel) (b : Fin 2) (t : Fin 16384) (hd : Fin 4) :
    ∃ r : ℝ, val_main_v45 (F := Ideal) q k sel (ix3 (n0 := 2) (n1 := 4) (n2 := 16384) b hd t) = (r : EReal) := by
  have hx : ∀ i, val_main_v42 (F := Ideal) q k sel i ≠ (⊤ : EReal) := fun i => by
    rw [show i = ix4 (n0 := 2) (n1 := 4) (n2 := 16384) (n3 := 256) (i 0) (i 1) (i 2) (i 3) from ValueIdx.eq_ix4 i]
    exact ne_of_eq_of_ne (v42_at q k sel ok.lt (i 0) (i 2) (i 1) (i 3)) (Y_ne_top q k sel ok _ _ _ _)
  have hb : Ideal.ofBits .f32 0xFF800000#32 = ⊥ := by simp [Ideal.ofBits, Ideal.ieee]
  have h0 : val_main_cst_10 (F := Ideal) (Shape.Idx.first h_S_) ≠ (⊤ : EReal) := by
    show Ideal.ofBits .f32 0xFF800000#32 ≠ ⊤
    rw [hb]; exact bot_ne_top
  obtain ⟨h1, h2⟩ := reduce_max (val_main_v42 (F := Ideal) q k sel) (val_main_cst_10 (F := Ideal)) reducesTo_S2x4x16384x256_S2x4x16384_d3 h_S_ (ix3 (n0 := 2) (n1 := 4) (n2 := 16384) b hd t) h0 hx
  obtain ⟨j, hj⟩ := ok.valid b t
  have h3 := h2 (ix4 (n0 := 2) (n1 := 4) (n2 := 16384) (n3 := 256) b hd t j) (by
    funext a
    match a with
    | ⟨0, _⟩ => rfl
    | ⟨1, _⟩ => rfl
    | ⟨2, _⟩ => rfl)
  rw [v42_at q k sel ok.lt] at h3
  obtain ⟨r, hr⟩ := lg_real q k ok.hq ok.hk b t hd ⟨_, ok.lt (ix3 b t j)⟩
  have hY : Y q k sel ok.lt b t hd j = (r : EReal) := by unfold Y; rw [if_pos hj, hr]
  rw [hY] at h3
  have hv : val_main_v45 (F := Ideal) q k sel (ix3 (n0 := 2) (n1 := 4) (n2 := 16384) b hd t) = val_main_v43 (F := Ideal) q k sel (ix3 (n0 := 2) (n1 := 4) (n2 := 16384) b hd t) := by
    rw [val_main_v45_apply, val_main_v44_apply, val_main_cst_11_apply]
    show max (Ideal.ofBits .f32 0xFF800000#32) _ = _
    rw [hb]; exact max_eq_right bot_le
  rw [hv]
  refine ⟨EReal.toReal (val_main_v43 (F := Ideal) q k sel (ix3 (n0 := 2) (n1 := 4) (n2 := 16384) b hd t)), (EReal.coe_toReal h1 ?_).symm⟩
  intro hbot
  have h4 : (r : EReal) ≤ ⊥ := h3.trans (le_of_eq hbot)
  exact EReal.coe_ne_bot _ (le_bot_iff.mp h4)

/-- The reference's result at a query, a head and a feature: the softmax over the selected keys of their logits, applied to their values. -/
theorem ref_at (q k v : Qs) (sel : Sl) (ok : Ok q k sel) (b : Fin 2) (t : Fin 16384) (hd : Fin 4) (d : Fin 128) (i : S32768x512.Idx)
    (h0 : (i 0).val = 16384 * b.val + t.val) (h1 : (i 1).val = 128 * hd.val + d.val) :
    ∃ M : EReal, (∃ ν : ℝ, M = (ν : EReal)) ∧ val_main_v56 (F := Ideal) q k v sel i
      = ∑ j : Fin 256, Ideal.div (Ideal.exp (Y q k sel ok.lt b t hd j - M)) (0 + ∑ j' : Fin 256, Ideal.exp (Y q k sel ok.lt b t hd j' - M))
          * v (ix4 (n0 := 2) (n1 := 16384) (n2 := 4) (n3 := 128) b ⟨(sel (ix3 b t j)).toNat, ok.lt _⟩ hd d) := by
  refine ⟨_, v45_real q k sel ok b t hd, ?_⟩
  have hb := b.isLt
  have ht := t.isLt
  have hh := hd.isLt
  have hdd := d.isLt
  rw [val_main_v56_apply, val_main_v55_apply]
  have e : idx_main_v55 i = ix4 (n0 := 2) (n1 := 16384) (n2 := 4) (n3 := 128) b t hd d := by
    funext a
    apply Fin.ext
    match a with
    | ⟨0, _⟩ => show ((i 0).val * 512 + (i 1).val) / 8388608 = b.val; omega
    | ⟨1, _⟩ => show ((i 0).val * 512 + (i 1).val) / 512 % 16384 = t.val; omega
    | ⟨2, _⟩ => show ((i 0).val * 512 + (i 1).val) / 128 % 4 = hd.val; omega
    | ⟨3, _⟩ => show ((i 0).val * 512 + (i 1).val) % 128 = d.val; omega
  rw [e]
  show val_main_v54 (F := Ideal) q k v sel _ = _
  rw [val_main_v54_apply]
  have hE : ∀ j : Fin 256, val_main_v49 (F := Ideal) q k sel (ix4 (n0 := 2) (n1 := 4) (n2 := 16384) (n3 := 256) b hd t j)
      = Ideal.exp (Y q k sel ok.lt b t hd j - val_main_v45 (F := Ideal) q k sel (ix3 (n0 := 2) (n1 := 4) (n2 := 16384) b hd t)) := fun j => by
    rw [val_main_v49_apply, val_main_v48_apply, v42_at q k sel ok.lt, val_main_v47_apply, val_main_v46_apply]
    have e3 : idx_main_v46 (idx_main_v47 (ix4 (n0 := 2) (n1 := 4) (n2 := 16384) (n3 := 256) b hd t j)) = ix3 (n0 := 2) (n1 := 4) (n2 := 16384) b hd t := by
      funext a
      match a with
      | ⟨0, _⟩ => rfl
      | ⟨1, _⟩ => rfl
      | ⟨2, _⟩ => rfl
    rw [e3]; rfl
  refine Finset.sum_congr rfl fun j _ => ?_
  have e1 : lidx_main_v54 (ix4 (n0 := 2) (n1 := 16384) (n2 := 4) (n3 := 128) b t hd d) j = ix4 (n0 := 2) (n1 := 4) (n2 := 16384) (n3 := 256) b hd t j := by
    funext a
    match a with
    | ⟨0, _⟩ => rfl
    | ⟨1, _⟩ => rfl
    | ⟨2, _⟩ => rfl
    | ⟨3, _⟩ => rfl
  have e2 : ridx_main_v54 (ix4 (n0 := 2) (n1 := 16384) (n2 := 4) (n3 := 128) b t hd d) j = ix5 (n0 := 2) (n1 := 16384) (n2 := 256) (n3 := 4) (n4 := 128) b t j hd d := by
    funext a
    match a with
    | ⟨0, _⟩ => rfl
    | ⟨1, _⟩ => rfl
    | ⟨2, _⟩ => rfl
    | ⟨3, _⟩ => rfl
    | ⟨4, _⟩ => rfl
  rw [e1, e2, v31_at v sel b t j hd d ok.lt, val_main_v53_apply, val_main_v52_apply, val_main_v51_apply, val_main_v50_apply, hE j]
  have e4 : idx_main_v51 (idx_main_v52 (ix4 (n0 := 2) (n1 := 4) (n2 := 16384) (n3 := 256) b hd t j)) = ix3 (n0 := 2) (n1 := 4) (n2 := 16384) b hd t := by
    funext a
    match a with
    | ⟨0, _⟩ => rfl
    | ⟨1, _⟩ => rfl
    | ⟨2, _⟩ => rfl
  rw [e4]
  have e5 : ∀ j' : Fin 256, idx_main_v50 (ix3 (n0 := 2) (n1 := 4) (n2 := 16384) b hd t) j' = ix4 (n0 := 2) (n1 := 4) (n2 := 16384) (n3 := 256) b hd t j' := fun j' => by
    funext a
    match a with
    | ⟨0, _⟩ => rfl
    | ⟨1, _⟩ => rfl
    | ⟨2, _⟩ => rfl
    | ⟨3, _⟩ => rfl
  rw [Finset.sum_congr rfl fun j' _ => (congrArg _ (e5 j')).trans (hE j')]
  have e6 : val_main_cst_12 (F := Ideal) (Shape.Idx.first h_S_) = (0 : EReal) := by
    show Ideal.ofBits .f32 0x00000000#32 = 0
    simp [Ideal.ofBits, Ideal.ieee]
  rw [e6]
  rfl

end Cert.ReferenceIdeal.Value
-- ==== Proof.AttHost.lean ====
module

public import proofs.«01_k».proof.Proof.AttFrame
public import proofs.«01_k».proof.Proof.AttPre
public import proofs.«01_k».proof.Proof.RefValue
public import Idealize.ShloMosaic.Lib.Pointwise.SelectCore
public import Idealize.ShloMosaic.Lib.Pipeline.Value
public import Idealize.ShloMosaic.Lib.KernelVsHost

/-! # What the launch's arrays hold, entry by entry -/

@[expose] public section

set_option maxRecDepth 16384

noncomputable section

namespace Cert.KernelIdeal.Att

open Idealize.ShloMosaic hiding ix1 ix2 ix3 ix4 ix5
open Idealize.ShloMosaic.ValueIdx
open Idealize.ShloMosaic.TcCoe Idealize.ShloMosaic.StableHlo
open Cert.KernelIdeal Cert.KernelIdeal.Gen
open Cert.Att

abbrev Qs := FVec Ideal S2x16384x4x128 .f32
abbrev Sl := IVec S2x16384x256 32

variable (m : (ℓ : Loc nD τ sig) → Buf (Elt Ideal) ℓ)

/-- The queries as the launch reads them: scaled, one row per query and one column per head and feature. -/
def q2 (q : Qs) : FVec Ideal S32768x512 .bf16 :=
  shapeCast S32768x512 (truncf .bf16 (mulf q (broadcastInDim S2x16384x4x128 ![] bcast_S_S2x16384x4x128 (constant (F := Ideal) S_ .f32 0x3DB504F3#32))) bitsLt_bf16_f32) shapeCasts_S2x16384x4x128_S32768x512

def k2 (k : Qs) : FVec Ideal S32768x512 .bf16 := shapeCast S32768x512 (truncf .bf16 k bitsLt_bf16_f32) shapeCasts_S2x16384x4x128_S32768x512

def v2 (v : Qs) : FVec Ideal S32768x6144 .bf16 :=
  pad S32768x6144 ![0, 5120] ![0, 512] ![0, 0] (k2 v) (sitofp (F := Ideal) .bf16 (constantI S_ 32 0#32)) pads_S32768x512_S32768x6144_000_51205120 h_S_

theorem V_v25 (c : Dev nD) : V m c main_v25 = q2 (m ((c : Thread nD τ).loc main_arg0)) := by
  show StableHlo.after stretches.flatten _ (Proc.devRef .tc main_v25) = _
  simp only [List.flatten_cons, List.flatten_nil, List.append_nil]
  after_reads_simp
  rfl

theorem V_v27 (c : Dev nD) : V m c main_v27 = k2 (m ((c : Thread nD τ).loc main_arg1)) := by
  show StableHlo.after stretches.flatten _ (Proc.devRef .tc main_v27) = _
  simp only [List.flatten_cons, List.flatten_nil, List.append_nil]
  after_reads_simp
  rfl

theorem V_v30 (c : Dev nD) : V m c main_v30 = v2 (m ((c : Thread nD τ).loc main_arg2)) := by
  show StableHlo.after stretches.flatten _ (Proc.devRef .tc main_v30) = _
  simp only [List.flatten_cons, List.flatten_nil, List.append_nil]
  after_reads_simp
  rfl

/-- Whether a key is among the selected ones. -/
def chosen (sel : Sl) : IVec S2x16384x16384 1 :=
  Host.reduce IntOp.ori
    (cmpi .eq (broadcastInDim S2x16384x256x16384 ![0, 1, 2, 3] bcast_S2x16384x256x1_S2x16384x256x16384_0_1_2_3 (broadcastInDim S2x16384x256x1 ![0, 1, 2] bcast_S2x16384x256_S2x16384x256x1_0_1_2 sel))
      (broadcastInDim S2x16384x256x16384 ![0, 1, 2, 3] bcast_S1x1x1x16384_S2x16384x256x16384_0_1_2_3 (broadcastInDim S1x1x1x16384 ![3] bcast_S16384_S1x1x1x16384_3 (iotaInDim S16384 32 0))))
    (constantI S_ 1 0#1) reducesTo_S2x16384x256x16384_S2x16384x16384_d2 h_S_

/-- The quotient by 64 rounded towards minus infinity, as the host computes it. -/
def fdv {s : Shape} (h : S_.BroadcastsInDim s ![]) (x : IVec s 32) : IVec s 32 :=
  select (andi (cmpi .ne (signi x) (broadcastInDim s ![] h (signi (constantI S_ 32 64#32)))) (cmpi .ne (Host.remsi x (broadcastInDim s ![] h (constantI S_ 32 64#32))) (broadcastInDim s ![] h (constantI S_ 32 0#32))))
    (subi (Host.divsi x (broadcastInDim s ![] h (constantI S_ 32 64#32))) (broadcastInDim s ![] h (constantI S_ 32 1#32))) (Host.divsi x (broadcastInDim s ![] h (constantI S_ 32 64#32)))

theorem fdv_at {s : Shape} (h : S_.BroadcastsInDim s ![]) (x : IVec s 32) (i : s.Idx) : fdv h x i = fdw (x i) := rfl

def rowChunk : IVec S1x16384 32 := fdv bcast_S_S1x16384 (broadcastInDim S1x16384 ![1] bcast_S16384_S1x16384_1 (iotaInDim S16384 32 0))
def colChunk : IVec S16384x1 32 := fdv bcast_S_S16384x1 (broadcastInDim S16384x1 ![0] bcast_S16384_S16384x1_0 (iotaInDim S16384 32 0))

/-- Whether a key's chunk comes no later than the query's. -/
def allowed : IVec S2x16384x16384 1 :=
  broadcastInDim S2x16384x16384 ![0, 1, 2] bcast_S1x16384x16384_S2x16384x16384_0_1_2
    (broadcastInDim S1x16384x16384 ![1, 2] bcast_S16384x16384_S1x16384x16384_1_2
      (cmpi .sle (broadcastInDim S16384x16384 ![0, 1] bcast_S1x16384_S16384x16384_0_1 rowChunk) (broadcastInDim S16384x16384 ![0, 1] bcast_S16384x1_S16384x16384_0_1 colChunk)))

/-- The additive mask, by sequence, query and key. -/
def bias3 (sel : Sl) : FVec Ideal S2x16384x16384 .bf16 :=
  truncf .bf16 (select (andi (chosen sel) allowed) (broadcastInDim S2x16384x16384 ![] bcast_S_S2x16384x16384 (constant (F := Ideal) S_ .f32 0x00000000#32))
    (broadcastInDim S2x16384x16384 ![] bcast_S_S2x16384x16384 (constant (F := Ideal) S_ .f32 0xFF800000#32))) bitsLt_bf16_f32

/-- The additive mask as the launch reads it, one block of queries and keys at a time. -/
def bias5 (sel : Sl) : FVec Ideal S256x32x128x512 .bf16 :=
  shapeCast S256x32x128x512 (transpose S2x128x32x128x512 [0, 1, 3, 2, 4] (shapeCast S2x128x128x32x512 (bias3 sel) shapeCasts_S2x16384x16384_S2x128x128x32x512)
    transposes_S2x128x128x32x512_S2x128x32x128x512_0_1_3_2_4) shapeCasts_S2x128x32x128x512_S256x32x128x512

/-- The stretches that compute which keys are selected and every position's chunk. -/
abbrev early : List (HloOp τ sig (Elt Ideal)) := hostOps0 ++ (hostOps0_1 ++ (hostOps0_2 ++ hostOps0_3))

theorem early_v6 (W : Valuation τ sig (Elt Ideal)) : StableHlo.after early W (Proc.devRef .tc main_v6) = chosen (W (Proc.devRef .tc main_arg3)) := by
  unfold early
  after_reads_simp
  rfl

theorem early_v8 (W : Valuation τ sig (Elt Ideal)) : StableHlo.after early W (Proc.devRef .tc main_v8) = rowChunk := by
  unfold early
  after_reads_simp
  rfl

theorem early_v10 (W : Valuation τ sig (Elt Ideal)) : StableHlo.after early W (Proc.devRef .tc main_v10) = colChunk := by
  unfold early
  after_reads_simp
  rfl

/-- The additive mask as the launch reads it, from which keys are selected and allowed. -/
def biasOf (x : IVec S2x16384x16384 1) : FVec Ideal S256x32x128x512 .bf16 :=
  shapeCast S256x32x128x512 (transpose S2x128x32x128x512 [0, 1, 3, 2, 4] (shapeCast S2x128x128x32x512
    (truncf .bf16 (select x (broadcastInDim S2x16384x16384 ![] bcast_S_S2x16384x16384 (constant (F := Ideal) S_ .f32 0x00000000#32))
    (broadcastInDim S2x16384x16384 ![] bcast_S_S2x16384x16384 (constant (F := Ideal) S_ .f32 0xFF800000#32))) bitsLt_bf16_f32) shapeCasts_S2x16384x16384_S2x128x128x32x512)
    transposes_S2x128x128x32x512_S2x128x32x128x512_0_1_3_2_4) shapeCasts_S2x128x32x128x512_S256x32x128x512

abbrev later : List (HloOp τ sig (Elt Ideal)) := hostOps0_5 ++ (hostOps0_6 ++ hostOps0_7)

theorem mid_v16 (W : Valuation τ sig (Elt Ideal)) (h8 : W (Proc.devRef .tc main_v8) = rowChunk) (h10 : W (Proc.devRef .tc main_v10) = colChunk) :
    StableHlo.after hostOps0_4 W (Proc.devRef .tc main_v16) = andi (W (Proc.devRef .tc main_v6)) allowed := by
  after_reads_simp
  rw [h8, h10]
  rfl
theorem mid_cst (W : Valuation τ sig (Elt Ideal)) : StableHlo.after hostOps0_4 W (Proc.devRef .tc main_cst) = constant (F := Ideal) S_ .f32 0x00000000#32 := by
  after_reads_simp
theorem mid_cst6 (W : Valuation τ sig (Elt Ideal)) : StableHlo.after hostOps0_4 W (Proc.devRef .tc main_cst_6) = constant (F := Ideal) S_ .f32 0xFF800000#32 := by
  after_reads_simp

theorem later_v21 (W : Valuation τ sig (Elt Ideal)) (h0 : W (Proc.devRef .tc main_cst) = constant (F := Ideal) S_ .f32 0x00000000#32)
    (h1 : W (Proc.devRef .tc main_cst_6) = constant (F := Ideal) S_ .f32 0xFF800000#32) :
    StableHlo.after later W (Proc.devRef .tc main_v21) = biasOf (W (Proc.devRef .tc main_v16)) := by
  unfold later
  after_reads_simp
  rw [h0, h1]
  generalize W (Proc.devRef .tc main_v16) = x
  rfl

theorem V_v21 (c : Dev nD) : V m c main_v21 = bias5 (m ((c : Thread nD τ).loc main_arg3)) := by
  have e : stretches.flatten = (early ++ (hostOps0_4 ++ later) : List (HloOp τ sig (Elt Ideal))) := rfl
  have e2 : StableHlo.after stretches.flatten (fun b => m (c, b)) = StableHlo.after later (StableHlo.after hostOps0_4 (StableHlo.after early (fun b => m (c, b)))) := by
    rw [e, StableHlo.after_append, StableHlo.after_append]
  generalize hW : StableHlo.after early (fun b => m (c, b)) = W at e2
  have h8 : W (Proc.devRef .tc main_v8) = rowChunk := by rw [← hW]; exact early_v8 _
  have h10 : W (Proc.devRef .tc main_v10) = colChunk := by rw [← hW]; exact early_v10 _
  have h6 : W (Proc.devRef .tc main_v6) = chosen (m ((c : Thread nD τ).loc main_arg3)) := by rw [← hW]; exact early_v6 _
  refine (congrFun e2 (Proc.devRef .tc main_v21)).trans ((later_v21 _ (mid_cst _) (mid_cst6 _)).trans ?_)
  refine (congrArg biasOf (mid_v16 W h8 h10)).trans ?_
  refine (congrArg (fun z => biasOf (andi z allowed)) h6).trans ?_
  rfl

/-! ## The entries -/

theorem q2_at (q : Qs) (b : Fin 2) (t : Fin 16384) (hd : Fin 4) (d : Fin 128) (i : S32768x512.Idx) (h0 : (i 0).val = 16384 * b.val + t.val) (h1 : (i 1).val = 128 * hd.val + d.val) :
    q2 q i = q (ix4 (n0 := 2) (n1 := 16384) (n2 := 4) (n3 := 128) b t hd d) * Cert.ReferenceIdeal.Value.cs := by
  unfold q2
  refine (shapeCast_apply _ _ i (ix4 (n0 := 2) (n1 := 16384) (n2 := 4) (n3 := 128) b t hd d) ?_).trans ?_
  · rw [Shape.rowMajor_val_four, Shape.rowMajor_val_two]
    show ((b.val * 16384 + t.val) * 4 + hd.val) * 128 + d.val = (i 0).val * 512 + (i 1).val
    omega
  · rfl

theorem k2_at (q : Qs) (b : Fin 2) (t : Fin 16384) (hd : Fin 4) (d : Fin 128) (i : S32768x512.Idx) (h0 : (i 0).val = 16384 * b.val + t.val) (h1 : (i 1).val = 128 * hd.val + d.val) :
    k2 q i = q (ix4 (n0 := 2) (n1 := 16384) (n2 := 4) (n3 := 128) b t hd d) := by
  unfold k2
  refine (shapeCast_apply _ _ i (ix4 (n0 := 2) (n1 := 16384) (n2 := 4) (n3 := 128) b t hd d) ?_).trans ?_
  · rw [Shape.rowMajor_val_four, Shape.rowMajor_val_two]
    show ((b.val * 16384 + t.val) * 4 + hd.val) * 128 + d.val = (i 0).val * 512 + (i 1).val
    omega
  · rfl

theorem chosen_at (sel : Sl) (b : Fin 2) (t s : Fin 16384) (h : ∀ i, (sel i).toNat < 16384) :
    chosen sel (ix3 (n0 := 2) (n1 := 16384) (n2 := 16384) b t s) = 1#1 ↔ ∃ j : Fin 256, (sel (ix3 (n0 := 2) (n1 := 16384) (n2 := 256) b t j)).toNat = s.val := by
  unfold chosen
  refine (reduce_ori _ _ _ _ _ rfl).trans ?_
  have key : ∀ (i : S2x16384x256x16384.Idx) (j : Fin 256), (i 0).val = b.val → (i 1).val = t.val → (i 2).val = j.val → (i 3).val = s.val →
      (cmpi .eq (broadcastInDim S2x16384x256x16384 ![0, 1, 2, 3] bcast_S2x16384x256x1_S2x16384x256x16384_0_1_2_3 (broadcastInDim S2x16384x256x1 ![0, 1, 2] bcast_S2x16384x256_S2x16384x256x1_0_1_2 sel))
      (broadcastInDim S2x16384x256x16384 ![0, 1, 2, 3] bcast_S1x1x1x16384_S2x16384x256x16384_0_1_2_3 (broadcastInDim S1x1x1x16384 ![3] bcast_S16384_S1x1x1x16384_3 (iotaInDim S16384 32 0))) i = 1#1
        ↔ (sel (ix3 (n0 := 2) (n1 := 16384) (n2 := 256) b t j)).toNat = s.val) := by
    intro i j e0 e1 e2 e3
    have hs := s.isLt
    have e : i = ix4 (n0 := 2) (n1 := 16384) (n2 := 256) (n3 := 16384) b t j s := by
      funext a
      apply Fin.ext
      match a with
      | ⟨0, _⟩ => exact e0
      | ⟨1, _⟩ => exact e1
      | ⟨2, _⟩ => exact e2
      | ⟨3, _⟩ => exact e3
    subst e
    have eA : broadcastInDim S2x16384x256x16384 ![0, 1, 2, 3] bcast_S2x16384x256x1_S2x16384x256x16384_0_1_2_3 (broadcastInDim S2x16384x256x1 ![0, 1, 2] bcast_S2x16384x256_S2x16384x256x1_0_1_2 sel) (ix4 (n0 := 2) (n1 := 16384) (n2 := 256) (n3 := 16384) b t j s)
        = sel (ix3 (n0 := 2) (n1 := 16384) (n2 := 256) b t j) := by
      refine (broadcastInDim_apply _ _ _ _ (ix4 (n0 := 2) (n1 := 16384) (n2 := 256) (n3 := 1) b t j 0) ?_).trans ((broadcastInDim_apply _ _ _ _ (ix3 (n0 := 2) (n1 := 16384) (n2 := 256) b t j) ?_))
      · intro a
        match a with
        | ⟨0, _⟩ => rfl
        | ⟨1, _⟩ => rfl
        | ⟨2, _⟩ => rfl
        | ⟨3, _⟩ => rfl
      · intro a
        match a with
        | ⟨0, _⟩ => rfl
        | ⟨1, _⟩ => rfl
        | ⟨2, _⟩ => rfl
    have eB : broadcastInDim S2x16384x256x16384 ![0, 1, 2, 3] bcast_S1x1x1x16384_S2x16384x256x16384_0_1_2_3 (broadcastInDim S1x1x1x16384 ![3] bcast_S16384_S1x1x1x16384_3 (iotaInDim S16384 32 0)) (ix4 (n0 := 2) (n1 := 16384) (n2 := 256) (n3 := 16384) b t j s)
        = BitVec.ofNat 32 s.val := by
      refine (broadcastInDim_apply _ _ _ _ (ix4 (n0 := 1) (n1 := 1) (n2 := 1) (n3 := 16384) 0 0 0 s) ?_).trans ((broadcastInDim_apply _ _ _ _ (ix1 (n := 16384) s) ?_).trans rfl)
      · intro a
        match a with
        | ⟨0, _⟩ => rfl
        | ⟨1, _⟩ => rfl
        | ⟨2, _⟩ => rfl
        | ⟨3, _⟩ => rfl
      · intro a
        match a with
        | ⟨0, _⟩ => rfl
    have eC : ∀ x y : IVec S2x16384x256x16384 32, cmpi .eq x y (ix4 (n0 := 2) (n1 := 16384) (n2 := 256) (n3 := 16384) b t j s) = IntOp.cmpi .eq (x (ix4 (n0 := 2) (n1 := 16384) (n2 := 256) (n3 := 16384) b t j s)) (y (ix4 (n0 := 2) (n1 := 16384) (n2 := 256) (n3 := 16384) b t j s)) := fun _ _ => rfl
    rw [eC, eA, eB]
    exact eq_word _ _ hs
  constructor
  · rintro ⟨i, hd, hi⟩
    have e0 : (i 0).val = b.val := congrArg (fun z => (z 0).val) hd
    have e1 : (i 1).val = t.val := congrArg (fun z => (z 1).val) hd
    have e3 : (i 3).val = s.val := congrArg (fun z => (z 2).val) hd
    exact ⟨i 2, (key i (i 2) e0 e1 rfl e3).mp hi⟩
  · rintro ⟨j, hj⟩
    refine ⟨ix4 (n0 := 2) (n1 := 16384) (n2 := 256) (n3 := 16384) b t j s, ?_, (key _ j rfl rfl rfl rfl).mpr hj⟩
    funext a
    match a with
    | ⟨0, _⟩ => rfl
    | ⟨1, _⟩ => rfl
    | ⟨2, _⟩ => rfl

theorem allowed_at (b : Fin 2) (t s : Fin 16384) :
    allowed (ix3 (n0 := 2) (n1 := 16384) (n2 := 16384) b t s) = 1#1 ↔ s.val / 64 ≤ t.val / 64 := by
  have e : allowed (ix3 (n0 := 2) (n1 := 16384) (n2 := 16384) b t s) = IntOp.cmpi .sle (fdw (BitVec.ofNat 32 s.val)) (fdw (BitVec.ofNat 32 t.val)) := by
    unfold allowed
    refine (broadcastInDim_apply _ _ _ _ (ix3 (n0 := 1) (n1 := 16384) (n2 := 16384) 0 t s) ?_).trans ((broadcastInDim_apply _ _ _ _ (ix2 (n0 := 16384) (n1 := 16384) t s) ?_).trans ?_)
    · intro a
      match a with
      | ⟨0, _⟩ => rfl
      | ⟨1, _⟩ => rfl
      | ⟨2, _⟩ => rfl
    · intro a
      match a with
      | ⟨0, _⟩ => rfl
      | ⟨1, _⟩ => rfl
    · refine congrArg₂ (IntOp.cmpi .sle) ?_ ?_
      · refine (broadcastInDim_apply _ _ _ _ (ix2 (n0 := 1) (n1 := 16384) 0 s) ?_).trans ?_
        · intro a
          match a with
          | ⟨0, _⟩ => rfl
          | ⟨1, _⟩ => rfl
        · refine (fdv_at _ _ _).trans (congrArg fdw ((broadcastInDim_apply _ _ _ _ (ix1 (n := 16384) s) ?_).trans rfl))
          intro a
          match a with
          | ⟨0, _⟩ => rfl
      · refine (broadcastInDim_apply _ _ _ _ (ix2 (n0 := 16384) (n1 := 1) t 0) ?_).trans ?_
        · intro a
          match a with
          | ⟨0, _⟩ => rfl
          | ⟨1, _⟩ => rfl
        · refine (fdv_at _ _ _).trans (congrArg fdw ((broadcastInDim_apply _ _ _ _ (ix1 (n := 16384) t) ?_).trans rfl))
          intro a
          match a with
          | ⟨0, _⟩ => rfl
  have ht := t.isLt
  have hs := s.isLt
  have hT : (BitVec.ofNat 32 t.val).toNat = t.val := by rw [BitVec.toNat_ofNat]; omega
  have hS : (BitVec.ofNat 32 s.val).toNat = s.val := by rw [BitVec.toNat_ofNat]; omega
  rw [e, sle_fdw _ _ (by omega) (by omega), hT, hS]

/-- The additive mask is `0` at a selected key that may be attended, and `−∞` at every other. -/
theorem bias3_at (sel : Sl) (b : Fin 2) (t s : Fin 16384) (h : ∀ i, (sel i).toNat < 16384) :
    ((∃ j : Fin 256, (sel (ix3 (n0 := 2) (n1 := 16384) (n2 := 256) b t j)).toNat = s.val) ∧ s.val / 64 ≤ t.val / 64 → bias3 sel (ix3 (n0 := 2) (n1 := 16384) (n2 := 16384) b t s) = (0 : EReal))
    ∧ (¬ ((∃ j : Fin 256, (sel (ix3 (n0 := 2) (n1 := 16384) (n2 := 256) b t j)).toNat = s.val) ∧ s.val / 64 ≤ t.val / 64) → bias3 sel (ix3 (n0 := 2) (n1 := 16384) (n2 := 16384) b t s) = (⊥ : EReal)) := by
  have e : bias3 sel (ix3 (n0 := 2) (n1 := 16384) (n2 := 16384) b t s)
      = Scalar.select (IntOp.andi (chosen sel (ix3 (n0 := 2) (n1 := 16384) (n2 := 16384) b t s)) (allowed (ix3 (n0 := 2) (n1 := 16384) (n2 := 16384) b t s)))
          (Ideal.ofBits .f32 0x00000000#32) (Ideal.ofBits .f32 0xFF800000#32) := rfl
  have h0 : Ideal.ofBits .f32 0x00000000#32 = 0 := by simp [Ideal.ofBits, Ideal.ieee]
  have hb : Ideal.ofBits .f32 0xFF800000#32 = ⊥ := by simp [Ideal.ofBits, Ideal.ieee]
  rw [e, h0, hb, ← chosen_at sel b t s h, ← allowed_at b t s, ← and_word]
  exact ⟨fun hc => Cert.ReferenceIdeal.Value.sel_pos _ _ hc, fun hc => Cert.ReferenceIdeal.Value.sel_neg _ _ hc⟩

theorem bias5_at (sel : Sl) (b : Fin 2) (t s : Fin 16384) (i : S256x32x128x512.Idx)
    (h0 : (i 0).val = 128 * b.val + t.val / 128) (h1 : (i 1).val = s.val / 512) (h2 : (i 2).val = t.val % 128) (h3 : (i 3).val = s.val % 512) :
    bias5 sel i = bias3 sel (ix3 (n0 := 2) (n1 := 16384) (n2 := 16384) b t s) := by
  have ht := t.isLt
  have hs := s.isLt
  unfold bias5
  refine (shapeCast_apply _ _ i (ix5 (n0 := 2) (n1 := 128) (n2 := 32) (n3 := 128) (n4 := 512) b ⟨t.val / 128, by omega⟩ ⟨s.val / 512, by omega⟩ ⟨t.val % 128, by omega⟩ ⟨s.val % 512, by omega⟩) ?_).trans ?_
  · rw [Shape.rowMajor_val_five, Shape.rowMajor_val_four]
    show (((b.val * 128 + t.val / 128) * 32 + s.val / 512) * 128 + t.val % 128) * 512 + s.val % 512 = (((i 0).val * 32 + (i 1).val) * 128 + (i 2).val) * 512 + (i 3).val
    omega
  refine (transpose_apply _ _ _ _ (ix5 (n0 := 2) (n1 := 128) (n2 := 128) (n3 := 32) (n4 := 512) b ⟨t.val / 128, by omega⟩ ⟨t.val % 128, by omega⟩ ⟨s.val / 512, by omega⟩ ⟨s.val % 512, by omega⟩) ?_).trans ?_
  · intro a
    match a with
    | ⟨0, _⟩ => rfl
    | ⟨1, _⟩ => rfl
    | ⟨2, _⟩ => rfl
    | ⟨3, _⟩ => rfl
    | ⟨4, _⟩ => rfl
  refine shapeCast_apply _ _ _ (ix3 (n0 := 2) (n1 := 16384) (n2 := 16384) b t s) ?_
  rw [Shape.rowMajor_val_five, Shape.rowMajor_val_three]
  show (b.val * 16384 + t.val) * 16384 + s.val = (((b.val * 128 + t.val / 128) * 128 + t.val % 128) * 32 + s.val / 512) * 512 + s.val % 512
  omega

theorem v2_at (v : Qs) (b : Fin 2) (t : Fin 16384) (hd : Fin 4) (d : Fin 128) (i : S32768x6144.Idx) (h0 : (i 0).val = 16384 * b.val + t.val) (h1 : (i 1).val = 5120 + 128 * hd.val + d.val) :
    v2 v i = v (ix4 (n0 := 2) (n1 := 16384) (n2 := 4) (n3 := 128) b t hd d) := by
  have hb := b.isLt
  have ht := t.isLt
  have hh := hd.isLt
  have hdd := d.isLt
  unfold v2
  refine Eq.trans ?_ (k2_at v b t hd d (ix2 (n0 := 32768) (n1 := 512) ⟨16384 * b.val + t.val, by omega⟩ ⟨128 * hd.val + d.val, by omega⟩) rfl rfl)
  refine pad_apply_of_inside _ _ _ _ _ _ _ i _ ?_
  intro a
  match a with
  | ⟨0, _⟩ => show (i 0).val = 0 + (16384 * b.val + t.val) * (0 + 1); omega
  | ⟨1, _⟩ => show (i 1).val = 5120 + (128 * hd.val + d.val) * (0 + 1); omega

end Cert.KernelIdeal.Att
-- ==== Proof.AttBlock.lean ====
module

public import proofs.«01_k».proof.Proof.AttHost

/-! # The launch's blocks, entry by entry -/

@[expose] public section

set_option maxRecDepth 16384

noncomputable section

namespace Cert.KernelIdeal.Att

open Idealize.ShloMosaic hiding ix1 ix2 ix3 ix4 ix5
open Idealize.ShloMosaic.ValueIdx
open Idealize.ShloMosaic.TcCoe Idealize.ShloMosaic.StableHlo
open Cert.KernelIdeal Cert.KernelIdeal.Gen
open Cert.Att

variable (m : (ℓ : Loc nD τ sig) → Buf (Elt Ideal) ℓ)

theorem emb0 (c : Dev nD) (t : Fin (cfgM m).N) (y : S512x512.Idx) (i : S32768x512.Idx)
    (h0 : (i 0).val = (32 * (t.val / 528) + qOf (t.val % 528)) * 512 + (y 0).val) (h1 : (i 1).val = (y 1).val) :
    bq m c t y = V m c main_v25 i := by
  refine congrArg (V m c main_v25) (funext fun a => Fin.ext ?_)
  refine (Pipeline.Window.rect_emb_val ((cfgM m).win 0) t y a rfl).trans ?_
  have e : ((cfgM m).win 0).index t = ![32 * (t.val / 528) + qOf (t.val % 528), 0] := by
    refine (tr0 (listed m) (grid0.coords t)).trans ?_
    rw [coord0, coord1]
  rw [e]
  match a with
  | ⟨0, _⟩ => exact h0.symm
  | ⟨1, _⟩ => exact (Nat.zero_add _).trans h1.symm

theorem emb4 (t : Fin (cfgM m).N) (y : S512x512.Idx) (a : Fin 2) :
    ((((cfgM m).win 4).rect t).emb y a).val = (![32 * (t.val / 528) + qOf (t.val % 528), 0] : Fin 2 → ℕ) a * S512x512.size a + (y a).val := by
  refine (Pipeline.Window.rect_emb_val ((cfgM m).win 4) t y a rfl).trans ?_
  have e : ((cfgM m).win 4).index t = ![32 * (t.val / 528) + qOf (t.val % 528), 0] := by
    refine (tr4 (listed m) (grid0.coords t)).trans ?_
    rw [coord0, coord1]
  rw [e]
  rfl

theorem emb1_val (t : Fin (cfgM m).N) (y : S4x1x128x512.Idx) (a : Fin 4) :
    ((((cfgM m).win 1).rect t).emb y a).val
      = (![32 * (t.val / 528) + qOf (t.val % 528), kOf (t.val % 528), 0, 0] : Fin 4 → ℕ) a * S4x1x128x512.size a + (y a).val := by
  have e : cc0_transform_1 k0_off1_inb numel1_S1 (tbl m) (grid0.coords t) = ![32 * (t.val / 528) + qOf (t.val % 528), kOf (t.val % 528), 0, 0] := by
    refine (tr1 (listed m) (grid0.coords t)).trans ?_
    rw [coord0, coord1]
  rw [← e]
  exact Pipeline.Window.rect_emb_val ((cfgM m).win 1) t y a rfl

theorem emb1_read (X : S256x32x128x512.Idx → EReal) (t : Fin (cfgM m).N) (y : S4x1x128x512.Idx) (i : S256x32x128x512.Idx)
    (h0 : (i 0).val = (32 * (t.val / 528) + qOf (t.val % 528)) * 4 + (y 0).val) (h1 : (i 1).val = kOf (t.val % 528) * 1 + (y 1).val)
    (h2 : (i 2).val = (y 2).val) (h3 : (i 3).val = (y 3).val) :
    (((cfgM m).win 1).blk t).view.read (Elt Ideal) X y = X i := by
  have e0 : ((((cfgM m).win 1).rect t).emb y (0 : Fin 4)).val = (i 0).val := (emb1_val m t y 0).trans h0.symm
  have e1 : ((((cfgM m).win 1).rect t).emb y (1 : Fin 4)).val = (i 1).val := (emb1_val m t y 1).trans h1.symm
  have e2 : ((((cfgM m).win 1).rect t).emb y (2 : Fin 4)).val = (i 2).val := (emb1_val m t y 2).trans (by
    rw [h2]
    show 0 * 128 + (y 2).val = (y 2).val
    omega)
  have e3 : ((((cfgM m).win 1).rect t).emb y (3 : Fin 4)).val = (i 3).val := (emb1_val m t y 3).trans (by
    rw [h3]
    show 0 * 512 + (y 3).val = (y 3).val
    omega)
  have e : (((cfgM m).win 1).rect t).emb y = i := by
    funext a
    apply Fin.ext
    match a with
    | ⟨0, _⟩ => exact e0
    | ⟨1, _⟩ => exact e1
    | ⟨2, _⟩ => exact e2
    | ⟨3, _⟩ => exact e3
  exact congrArg X e

theorem emb1 (c : Dev nD) (t : Fin (cfgM m).N) (y : S4x1x128x512.Idx) (i : S256x32x128x512.Idx)
    (h0 : (i 0).val = (32 * (t.val / 528) + qOf (t.val % 528)) * 4 + (y 0).val) (h1 : (i 1).val = kOf (t.val % 528) * 1 + (y 1).val)
    (h2 : (i 2).val = (y 2).val) (h3 : (i 3).val = (y 3).val) :
    bm m c t y = V m c main_v21 i :=
  emb1_read m (V m c main_v21) t y i h0 h1 h2 h3

theorem emb2 (c : Dev nD) (t : Fin (cfgM m).N) (y : S512x512.Idx) (i : S32768x512.Idx)
    (h0 : (i 0).val = (32 * (t.val / 528) + kOf (t.val % 528)) * 512 + (y 0).val) (h1 : (i 1).val = (y 1).val) :
    bk m c t y = V m c main_v27 i := by
  refine congrArg (V m c main_v27) (funext fun a => Fin.ext ?_)
  refine (Pipeline.Window.rect_emb_val ((cfgM m).win 2) t y a rfl).trans ?_
  have e : ((cfgM m).win 2).index t = ![32 * (t.val / 528) + kOf (t.val % 528), 0] := by
    refine (tr2 (listed m) (grid0.coords t)).trans ?_
    rw [coord0, coord1]
  rw [e]
  match a with
  | ⟨0, _⟩ => exact h0.symm
  | ⟨1, _⟩ => exact (Nat.zero_add _).trans h1.symm

theorem emb3 (c : Dev nD) (t : Fin (cfgM m).N) (y : S512x512.Idx) (i : S32768x6144.Idx)
    (h0 : (i 0).val = (32 * (t.val / 528) + kOf (t.val % 528)) * 512 + (y 0).val) (h1 : (i 1).val = 10 * 512 + (y 1).val) :
    bv m c t y = V m c main_v30 i := by
  refine congrArg (V m c main_v30) (funext fun a => Fin.ext ?_)
  refine (Pipeline.Window.rect_emb_val ((cfgM m).win 3) t y a rfl).trans ?_
  have e : ((cfgM m).win 3).index t = ![32 * (t.val / 528) + kOf (t.val % 528), 10] := by
    refine (tr3 (listed m) (grid0.coords t)).trans ?_
    rw [coord0, coord1]
  rw [e]
  match a with
  | ⟨0, _⟩ => exact h0.symm
  | ⟨1, _⟩ => exact h1.symm

end Cert.KernelIdeal.Att
-- ==== Proof.AttMath.lean ====
module

public import Idealize.ShloMosaic.Lib.ValueIdx
public import Idealize.ShloMosaic.Init

/-! # The running softmax of one row, in the extended reals

A row of logits is a function `x : ℕ → EReal` that is never `+∞`; a masked key's logit is `−∞`. -/

@[expose] public section

namespace Cert.Att

open Idealize.ShloMosaic

/-- The weight of a logit relative to the real `μ`. -/
noncomputable def w (μ : ℝ) (x : EReal) : EReal := Ideal.exp (x - (μ : EReal))

theorem w_bot (μ : ℝ) : w μ ⊥ = 0 := by
  unfold w; rw [EReal.bot_sub]; exact Ideal.exp_bot

theorem w_coe (μ r : ℝ) : w μ (r : EReal) = ((Real.exp (r - μ) : ℝ) : EReal) := by
  unfold w; rw [← EReal.coe_sub]; exact Ideal.exp_coe _

theorem w_nonneg (μ : ℝ) {x : EReal} (hx : x ≠ ⊤) : 0 ≤ w μ x := by
  induction x with
  | bot => rw [w_bot]
  | top => exact absurd rfl hx
  | coe r => rw [w_coe]; exact_mod_cast (Real.exp_pos _).le

theorem w_ne_top (μ : ℝ) {x : EReal} (hx : x ≠ ⊤) : w μ x ≠ ⊤ := by
  induction x with
  | bot => rw [w_bot]; exact EReal.zero_ne_top
  | top => exact absurd rfl hx
  | coe r => rw [w_coe]; exact EReal.coe_ne_top _

/-- Changing the reference point multiplies every weight by one positive real factor. -/
theorem w_shift (μ ν : ℝ) {x : EReal} (hx : x ≠ ⊤) : w ν (μ : EReal) * w μ x = w ν x := by
  induction x with
  | bot => rw [w_bot, w_bot, mul_zero]
  | top => exact absurd rfl hx
  | coe r =>
    rw [w_coe, w_coe, w_coe, ← EReal.coe_mul, ← Real.exp_add]
    congr 2; ring

/-- A nonnegative finite factor distributes over a sum. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- What the running maximum, sum and product hold after the keys `0 … n−1`: the sums of the weights and of the
    weighted values, relative to the running maximum, which is a real number. -/
def Inv (x v : ℕ → EReal) (n : ℕ) (m l a : EReal) : Prop :=
  ∃ μ : ℝ, m = (μ : EReal) ∧ l = ∑ s ∈ Finset.range n, w μ (x s) ∧ a = ∑ s ∈ Finset.range n, w μ (x s) * v s

theorem inv_zero (x v : ℕ → EReal) (μ : ℝ) : Inv x v 0 (μ : EReal) 0 0 := ⟨μ, rfl, by simp, by simp⟩

/-- One tile of 512 keys: the sums are rescaled to the new maximum and the tile's terms are added. -/
theorem inv_step (x v : ℕ → EReal) (hx : ∀ s, x s ≠ ⊤) (n : ℕ) (m l a m' : EReal) (h : Inv x v n m l a) (t : EReal) (ht : t ≠ ⊤) (hm : m' = max m t) :
    Inv x v (n + 512) m' (Ideal.exp (m - m') * l + ∑ c : Fin 512, Ideal.exp (x (n + c.val) - m'))
      (Ideal.exp (m - m') * a + (0 + ∑ c : Fin 512, Ideal.exp (x (n + c.val) - m') * v (n + c.val))) := by
  obtain ⟨μ, rfl, rfl, rfl⟩ := h
  have hm' : ∃ ν : ℝ, m' = (ν : EReal) := by
    have h1 : m' ≠ ⊤ := by
      rw [hm]; intro hh
      rcases max_eq_iff.mp hh with h | h
      · exact EReal.coe_ne_top _ h.1
      · exact ht h.1
    have h2 : m' ≠ ⊥ := by
      rw [hm]; intro hh
      have : (μ : EReal) ≤ ⊥ := hh ▸ le_max_left _ _
      exact EReal.coe_ne_bot _ (le_bot_iff.mp this)
    exact ⟨m'.toReal, (EReal.coe_toReal h1 h2).symm⟩
  obtain ⟨ν, hν⟩ := hm'
  clear hm
  subst hν
  have e0 : 0 ≤ w ν (μ : EReal) := w_nonneg ν (EReal.coe_ne_top _)
  have e1 : w ν (μ : EReal) ≠ ⊤ := w_ne_top ν (EReal.coe_ne_top _)
  refine ⟨ν, rfl, ?_, ?_⟩
  · rw [Finset.sum_range_add]
    change w ν (μ : EReal) * _ + _ = _
    rw [mul_sum _ _ e0 e1]
    congr 1
    · exact Finset.sum_congr rfl fun s _ => w_shift μ ν (hx s)
  · rw [Finset.sum_range_add]
    change w ν (μ : EReal) * _ + _ = _
    rw [mul_sum _ _ e0 e1, zero_add]
    congr 1
    · exact Finset.sum_congr rfl fun s _ => by rw [← mul_assoc, w_shift μ ν (hx s)]

/-- The quotient of the running product by the running sum is the softmax of the selected keys' logits, applied to
    their values: the keys outside the selection have logit `−∞`, and at least one logit is finite. -/
theorem inv_final (x v : ℕ → EReal) (hx : ∀ s, x s ≠ ⊤) (n : ℕ) (m l a : EReal) (h : Inv x v n m l a)
    (sel : Fin 256 → ℕ) (hinj : Function.Injective sel) (y : Fin 256 → EReal) (hy : ∀ j, y j = x (sel j))
    (hout : ∀ s, s < n → (∀ j, sel j ≠ s) → x s = ⊥) (hbig : ∀ s, n ≤ s → x s = ⊥)
    (j0 : Fin 256) (hj0 : y j0 ≠ ⊥) (M : EReal) (hM : ∃ ν : ℝ, M = (ν : EReal)) :
    Ideal.div a l = ∑ j, Ideal.div (Ideal.exp (y j - M)) (0 + ∑ i, Ideal.exp (y i - M)) * v (sel j) := by
  classical
  obtain ⟨μ, rfl, rfl, rfl⟩ := h
  obtain ⟨ν, rfl⟩ := hM
  have key : ∀ f : ℕ → EReal, (∑ s ∈ Finset.range n, w μ (x s) * f s) = ∑ j, w μ (y j) * f (sel j) := by
    intro f
    have h1 : ∑ j, w μ (y j) * f (sel j) = ∑ s ∈ Finset.univ.image sel, w μ (x s) * f s := by
      rw [Finset.sum_image fun a _ b _ h => hinj h]
      exact Finset.sum_congr rfl fun j _ => by rw [hy]
    rw [h1]
    have h2 : ∑ s ∈ Finset.range n, w μ (x s) * f s = ∑ s ∈ Finset.range n ∪ Finset.univ.image sel, w μ (x s) * f s := by
      refine Finset.sum_subset Finset.subset_union_left fun s _ hs => ?_
      rw [hbig s (by simpa using hs), w_bot, zero_mul]
    rw [h2]
    refine (Finset.sum_subset Finset.subset_union_right fun s hs hs' => ?_).symm
    have hne : ∀ j, sel j ≠ s := fun j hj => hs' (Finset.mem_image.mpr ⟨j, Finset.mem_univ _, hj⟩)
    rcases Finset.mem_union.mp hs with h | h
    · rw [hout s (Finset.mem_range.mp h) hne, w_bot, zero_mul]
    · exact absurd h hs'
  have hyt : ∀ j, y j ≠ ⊤ := fun j => by rw [hy]; exact hx _
  have kl : (∑ s ∈ Finset.range n, w μ (x s)) = ∑ j, w μ (y j) := by
    have := key fun _ => 1
    simpa only [mul_one] using this
  rw [key v, kl]
  -- the sum of the weights relative to `ν` is a positive real
  obtain ⟨L, hL, hLp⟩ : ∃ L : ℝ, (∑ j, w ν (y j)) = (L : EReal) ∧ 0 < L := by
    have hr : ∀ j, ∃ r : ℝ, w ν (y j) = (r : EReal) ∧ 0 ≤ r := fun j => by
      have h0 := w_nonneg ν (hyt j)
      have h1 := w_ne_top ν (hyt j)
      have h2 : w ν (y j) ≠ ⊥ := fun h => by rw [h] at h0; exact absurd h0 (by simp)
      refine ⟨(w ν (y j)).toReal, (EReal.coe_toReal h1 h2).symm, EReal.toReal_nonneg h0⟩
    choose r hr hr0 using hr
    refine ⟨∑ j, r j, ?_, ?_⟩
    · rw [Finset.sum_congr rfl fun j _ => hr j]
      exact (map_sum (⟨⟨fun r : ℝ => (r : EReal), EReal.coe_zero⟩, EReal.coe_add⟩ : ℝ →+ EReal) r Finset.univ).symm
    · refine Finset.sum_pos' (fun j _ => hr0 j) ⟨j0, Finset.mem_univ _, ?_⟩
      have h3 := hr j0
      generalize hz : y j0 = z at h3
      induction z with
      | bot => exact absurd hz hj0
      | top => exact absurd hz (hyt j0)
      | coe q =>
        rw [w_coe] at h3
        have : Real.exp (q - ν) = r j0 := by exact_mod_cast h3
        rw [← this]; exact Real.exp_pos _
  have sh : ∀ j, w μ (y j) = w μ (ν : EReal) * w ν (y j) := fun j => (w_shift ν μ (hyt j)).symm
  have e0 : 0 ≤ w μ (ν : EReal) := w_nonneg μ (EReal.coe_ne_top _)
  have e1 : w μ (ν : EReal) ≠ ⊤ := w_ne_top μ (EReal.coe_ne_top _)
  have hl : (∑ j, w μ (y j)) = ((Real.exp (ν - μ) * L : ℝ) : EReal) := by
    rw [Finset.sum_congr rfl fun j _ => sh j, ← mul_sum _ _ e0 e1, hL, w_coe, EReal.coe_mul]
  have ha : (∑ j, w μ (y j) * v (sel j)) = ((Real.exp (ν - μ) : ℝ) : EReal) * ∑ j, w ν (y j) * v (sel j) := by
    rw [← w_coe, mul_sum _ _ e0 e1]
    exact Finset.sum_congr rfl fun j _ => by rw [sh j, mul_assoc]
  have hep := Real.exp_pos (ν - μ)
  rw [hl, ha, Ideal.div_coe (mul_pos hep hLp).ne']
  have c0 : (0 : EReal) ≤ ((1 / L : ℝ) : EReal) := by exact_mod_cast (div_pos one_pos hLp).le
  have c1 : ((1 / L : ℝ) : EReal) ≠ ⊤ := EReal.coe_ne_top _
  calc ((Real.exp (ν - μ) : ℝ) : EReal) * (∑ j, w ν (y j) * v (sel j)) * ((1 / (Real.exp (ν - μ) * L) : ℝ) : EReal)
      = (((Real.exp (ν - μ) : ℝ) : EReal) * ((1 / (Real.exp (ν - μ) * L) : ℝ) : EReal)) * ∑ j, w ν (y j) * v (sel j) := by
        rw [mul_assoc, mul_assoc, mul_comm (∑ j, w ν (y j) * v (sel j))]
    _ = ((1 / L : ℝ) : EReal) * ∑ j, w ν (y j) * v (sel j) := by
        rw [← EReal.coe_mul]; congr 2; field_simp
    _ = _ := by
        rw [mul_sum _ _ c0 c1]
        refine Finset.sum_congr rfl fun j _ => ?_
        change _ = Ideal.div (w ν (y j)) (0 + ∑ i, w ν (y i)) * v (sel j)
        rw [zero_add, hL, Ideal.div_coe hLp.ne', ← mul_assoc, mul_comm ((1 / L : ℝ) : EReal)]

end Cert.Att
-- ==== Proof.AttCell.lean ====
module

public import proofs.«01_k».proof.Proof.AttStep
public import proofs.«01_k».proof.Proof.AttMath
public import Idealize.ShloMosaic.Lib.MatmulPlain
public import Idealize.ShloMosaic.Lib.Pointwise.Reduce
public import Idealize.ShloMosaic.Lib.Pipeline.Value

/-! # One pair of tiles, entry by entry -/

@[expose] public section

set_option maxRecDepth 16384

noncomputable section

namespace Cert.KernelIdeal.Att

open Idealize.ShloMosaic hiding ix1 ix2 ix3 ix4 ix5
open Idealize.ShloMosaic.ValueIdx
open Cert.KernelIdeal Cert.KernelIdeal.Gen

theorem zero_bits : Ideal.ofBits .f32 0x00000000#32 = 0 := by simp [Ideal.ofBits, Ideal.ieee]
theorem bot_bits : Ideal.ofBits .f32 0xFF800000#32 = ⊥ := by simp [Ideal.ofBits, Ideal.ieee]

abbrev B4 := Vec Ideal S4x1x128x512 .bf16
abbrev H16 := Vec Ideal S512x128 .bf16
abbrev H32 := Vec Ideal S512x128 .f32

/-- The mask's entry for row `r` and column `c` of a pair of tiles. -/
def maskAt (xb : B4) (r c : Fin 512) : EReal := xb (ix4 (n0 := 4) (n1 := 1) (n2 := 128) (n3 := 512) ⟨r.val / 128, by omega⟩ 0 ⟨r.val % 128, Nat.mod_lt _ (by decide)⟩ c)

/-- The masked logit for row `r` and column `c` of a pair of tiles. -/
def cell (xb : B4) (q k : H16) (r c : Fin 512) : EReal :=
  (0 + ∑ d : Fin 128, (q (ix2 (n0 := 512) (n1 := 128) r d) : EReal) * k (ix2 (n0 := 512) (n1 := 128) c d)) + maskAt xb r c

theorem pay8_at (xb : B4) (r c : Fin 512) : k0_pay8 (F := Ideal) xb (ix2 (n0 := 512) (n1 := 512) r c) = maskAt xb r c := by
  unfold maskAt
  refine (show _ = shapeCast S512x512 (shapeCast S4x1x128x512 xb shapeCasts_S4x1x128x512_S4x1x128x512) shapeCasts_S4x1x128x512_S512x512 (ix2 (n0 := 512) (n1 := 512) r c) from rfl).trans ?_
  rw [shapeCast_self]
  refine shapeCast_apply _ _ _ (ix4 (n0 := 4) (n1 := 1) (n2 := 128) (n3 := 512) ⟨r.val / 128, by omega⟩ 0 ⟨r.val % 128, Nat.mod_lt _ (by decide)⟩ c) ?_
  rw [Shape.rowMajor_val_four, Shape.rowMajor_val_two]
  show ((r.val / 128 * 1 + 0) * 128 + r.val % 128) * 512 + c.val = r.val * 512 + c.val
  omega

theorem pay9_at (xb : B4) (q k : H16) (r c : Fin 512) : k0_pay9 (F := Ideal) xb q k (ix2 (n0 := 512) (n1 := 512) r c) = cell xb q k r c := by
  unfold k0_pay9 cell
  refine congrArg₂ (fun a b : EReal => a + b) ?_ (pay8_at xb r c)
  refine (Ideal.matmul_transposedRhs_apply (M := 512) (K := 128) (N := 512) none (shapeCast S512x128 q shapeCasts_S512x128_S512x128) (shapeCast S512x128 k shapeCasts_S512x128_S512x128)
    (constant (F := Ideal) S512x512 .f32 0x00000000#32) r c).trans ?_
  rw [shapeCast_self, shapeCast_self]
  exact congrArg (fun z : EReal => z + _) zero_bits

/-- A column of one entry per row, read at a row. -/
theorem column (x : FVec Ideal S512 .f32) (r : Fin 512) (j : Fin 128) :
    broadcastTo S512x128 (shapeCast S512x1 x shapeCasts_S512_S512x1) broadcasts_S512x1_S512x128 (ix2 (n0 := 512) (n1 := 128) r j) = x (ix1 (n := 512) r) := by
  refine (broadcastTo_apply _ _ _ (ix2 (n0 := 512) (n1 := 1) r 0) ?_).trans (shapeCast_apply _ _ _ (ix1 (n := 512) r) ?_)
  · intro a
    match a with
    | ⟨0, _⟩ => rfl
    | ⟨1, _⟩ => rfl
  · rw [Shape.rowMajor_val_one, Shape.rowMajor_val_two]
    show r.val = r.val * 1 + 0
    omega

/-- The greatest masked logit of a row. -/
def top (xb : B4) (q k : H16) (r : Fin 512) : EReal :=
  multiReduction .maximumf [1] S512 (k0_pay9 (F := Ideal) xb q k) 0xFF800000#32 reduces_S512x512_S512 (.inl rfl) rfl (ix1 (n := 512) r)

theorem fold_max_ne_top {ι : Type} (s : Finset ι) (f : ι → EReal) (hf : ∀ i, f i ≠ ⊤) : s.fold max ⊥ f ≠ ⊤ := by
  classical
  induction s using Finset.induction_on with
  | empty => simp
  | insert a s ha ih =>
    rw [Finset.fold_insert ha]
    rcases max_choice (f a) (s.fold max ⊥ f) with h | h <;> rw [h]
    · exact hf a
    · exact ih

theorem top_ne_top (xb : B4) (q k : H16) (hc : ∀ r c, cell xb q k r c ≠ ⊤) (r : Fin 512) : top xb q k r ≠ ⊤ := by
  unfold top
  refine ne_of_eq_of_ne (multiReduction_maximumf_eq_fold _ _ _ _ _ _) ?_
  have hb : FloatOps.ofBits (F := Ideal) .f32 0xFF800000#32 = (⊥ : EReal) := bot_bits
  rw [hb]
  refine fold_max_ne_top _ (fun i => (k0_pay9 (F := Ideal) xb q k i : EReal)) fun i => ?_
  rw [show i = ix2 (n0 := 512) (n1 := 512) (i 0) (i 1) from ValueIdx.eq_ix2 i]
  exact ne_of_eq_of_ne (pay9_at xb q k (i 0) (i 1)) (hc _ _)

theorem pay10_at (xb : B4) (q k : H16) (sm : H32) (r : Fin 512) (j : Fin 128) :
    k0_pay10 (F := Ideal) xb q k sm (ix2 (n0 := 512) (n1 := 128) r j) = max (sm (ix2 (n0 := 512) (n1 := 128) r j) : EReal) (top xb q k r) := by
  unfold k0_pay10
  exact congrArg (fun z : EReal => max (sm (ix2 (n0 := 512) (n1 := 128) r j) : EReal) z) (column _ r j)

theorem pay11_at (xb : B4) (q k : H16) (sm : H32) (r c : Fin 512) :
    k0_pay11 (F := Ideal) xb q k sm (ix2 (n0 := 512) (n1 := 512) r c)
      = Ideal.exp (cell xb q k r c - max (sm (ix2 (n0 := 512) (n1 := 128) r 0) : EReal) (top xb q k r)) := by
  unfold k0_pay11
  refine congrArg₂ (fun a b : EReal => Ideal.exp (a - b)) (pay9_at xb q k r c) ?_
  refine (broadcastTo_apply _ _ _ (ix2 (n0 := 512) (n1 := 1) r 0) ?_).trans ((extractStridedSlice_apply _ _ _ _ (ix2 (n0 := 512) (n1 := 128) r 0) ?_).trans (pay10_at xb q k sm r 0))
  · intro a
    match a with
    | ⟨0, _⟩ => rfl
    | ⟨1, _⟩ => rfl
  · intro a
    match a with
    | ⟨0, _⟩ => exact (Nat.zero_add _).symm
    | ⟨1, _⟩ => rfl

theorem pay12_at (xb : B4) (q k : H16) (sm : H32) (r : Fin 512) (j : Fin 128) :
    k0_pay12 (F := Ideal) xb q k sm (ix2 (n0 := 512) (n1 := 128) r j)
      = Ideal.exp ((sm (ix2 (n0 := 512) (n1 := 128) r j) : EReal) - max (sm (ix2 (n0 := 512) (n1 := 128) r j) : EReal) (top xb q k r)) := by
  unfold k0_pay12
  exact congrArg (fun z : EReal => Ideal.exp ((sm (ix2 (n0 := 512) (n1 := 128) r j) : EReal) - z)) (pay10_at xb q k sm r j)

theorem pay13_at (xb : B4) (q k : H16) (sm sl : H32) (r : Fin 512) (j : Fin 128) :
    k0_pay13 (F := Ideal) xb q k sm sl (ix2 (n0 := 512) (n1 := 128) r j)
      = Ideal.exp ((sm (ix2 (n0 := 512) (n1 := 128) r j) : EReal) - max (sm (ix2 (n0 := 512) (n1 := 128) r j) : EReal) (top xb q k r)) * (sl (ix2 (n0 := 512) (n1 := 128) r j) : EReal)
        + ∑ c : Fin 512, Ideal.exp (cell xb q k r c - max (sm (ix2 (n0 := 512) (n1 := 128) r 0) : EReal) (top xb q k r)) := by
  unfold k0_pay13
  refine (congrFun (shapeCast_self _ _) _).trans ?_
  refine congrArg₂ (fun a b : EReal => a * (sl (ix2 (n0 := 512) (n1 := 128) r j) : EReal) + b) (pay12_at xb q k sm r j) ?_
  refine (column _ r j).trans ?_
  refine (multiReduction_add_apply _ _ _ _ _ _).trans ?_
  rw [Ideal.reduceAdd_def, Ideal.reduceAdd_r2_a1]
  exact Finset.sum_congr rfl fun c _ => pay11_at xb q k sm r c

theorem pay14_at (p : FVec Ideal S512x512 .f32) (a sa : H32) (v : H16) (r : Fin 512) (j : Fin 128) :
    k0_pay14 (F := Ideal) p a sa v (ix2 (n0 := 512) (n1 := 128) r j)
      = (a (ix2 (n0 := 512) (n1 := 128) r j) : EReal) * sa (ix2 (n0 := 512) (n1 := 128) r j)
        + (0 + ∑ c : Fin 512, (p (ix2 (n0 := 512) (n1 := 512) r c) : EReal) * v (ix2 (n0 := 512) (n1 := 128) c j)) := by
  unfold k0_pay14
  refine (congrFun (shapeCast_self _ _) _).trans ?_
  refine congrArg (fun z : EReal => (a (ix2 (n0 := 512) (n1 := 128) r j) : EReal) * sa (ix2 (n0 := 512) (n1 := 128) r j) + z) ?_
  refine (Ideal.matmul_plain_apply (M := 512) (K := 512) (N := 128) none (truncf .bf16 p bitsLt_bf16_f32) (shapeCast S512x128 v shapeCasts_S512x128_S512x128)
    (constant (F := Ideal) S512x128 .f32 0x00000000#32) r j).trans ?_
  rw [shapeCast_self]
  exact congrArg (fun z : EReal => z + _) zero_bits

open Cert.Att in
/-- Folding one pair of tiles into the state keeps the invariant: `x` lists the row's masked logits and `v` the values of one feature, key by key. -/
theorem fold_pair (xb : B4) (q k v : H16) (sm sl sa : H32) (r : Fin 512) (j : Fin 128) (x u : ℕ → EReal) (hx : ∀ s, x s ≠ ⊤) (n : ℕ)
    (hcell : ∀ c : Fin 512, cell xb q k r c = x (n + c.val)) (hne : ∀ r c, cell xb q k r c ≠ ⊤)
    (hv : ∀ c : Fin 512, (v (ix2 (n0 := 512) (n1 := 128) c j) : EReal) = u (n + c.val))
    (hsame : (sm (ix2 (n0 := 512) (n1 := 128) r 0) : EReal) = sm (ix2 (n0 := 512) (n1 := 128) r j))
    (h : Inv x u n (sm (ix2 (n0 := 512) (n1 := 128) r j)) (sl (ix2 (n0 := 512) (n1 := 128) r j)) (sa (ix2 (n0 := 512) (n1 := 128) r j))) :
    Inv x u (n + 512) (k0_pay15 (k0_pay10 (F := Ideal) xb q k sm) (ix2 (n0 := 512) (n1 := 128) r j)) (k0_pay13 (F := Ideal) xb q k sm sl (ix2 (n0 := 512) (n1 := 128) r j))
      (k0_pay14 (F := Ideal) (k0_pay11 xb q k sm) (k0_pay12 xb q k sm) sa v (ix2 (n0 := 512) (n1 := 128) r j)) := by
  have e15 : k0_pay15 (k0_pay10 (F := Ideal) xb q k sm) (ix2 (n0 := 512) (n1 := 128) r j) = max (sm (ix2 (n0 := 512) (n1 := 128) r j) : EReal) (top xb q k r) := by
    unfold k0_pay15
    exact (congrFun (shapeCast_self _ _) _).trans (pay10_at xb q k sm r j)
  rw [e15, pay13_at, pay14_at, pay12_at]
  have hp : ∀ c : Fin 512, k0_pay11 (F := Ideal) xb q k sm (ix2 (n0 := 512) (n1 := 512) r c) = Ideal.exp (x (n + c.val) - max (sm (ix2 (n0 := 512) (n1 := 128) r j) : EReal) (top xb q k r)) := fun c => by
    rw [pay11_at, hcell c, hsame]
  have h1 := inv_step x u hx n _ _ _ _ h (top xb q k r) (top_ne_top xb q k hne r) rfl
  have e1 : ∑ c : Fin 512, Ideal.exp (cell xb q k r c - max (sm (ix2 (n0 := 512) (n1 := 128) r 0) : EReal) (top xb q k r))
      = ∑ c : Fin 512, Ideal.exp (x (n + c.val) - max (sm (ix2 (n0 := 512) (n1 := 128) r j) : EReal) (top xb q k r)) :=
    Finset.sum_congr rfl fun c _ => by rw [hcell c, hsame]
  have e2 : ∑ c : Fin 512, (k0_pay11 (F := Ideal) xb q k sm (ix2 (n0 := 512) (n1 := 512) r c) : EReal) * v (ix2 (n0 := 512) (n1 := 128) c j)
      = ∑ c : Fin 512, Ideal.exp (x (n + c.val) - max (sm (ix2 (n0 := 512) (n1 := 128) r j) : EReal) (top xb q k r)) * u (n + c.val) :=
    Finset.sum_congr rfl fun c _ => by rw [hp c, hv c]
  rw [e1, e2]
  exact h1

end Cert.KernelIdeal.Att
-- ==== Proof.AttValue.lean ====
module

public import proofs.«01_k».proof.Proof.AttBlock
public import proofs.«01_k».proof.Proof.AttCell
public import Idealize.ShloMosaic.Lib.Pipeline.ValueKit.Geometry

/-! # The launch's result, entry by entry -/

@[expose] public section

set_option maxRecDepth 16384

noncomputable section

namespace Cert.KernelIdeal.Att

open Idealize.ShloMosaic hiding ix1 ix2 ix3 ix4 ix5
open Idealize.ShloMosaic.ValueIdx
open Idealize.ShloMosaic.TcCoe Idealize.ShloMosaic.StableHlo
open Cert.KernelIdeal Cert.KernelIdeal.Gen
open Cert.Att
open Cert.ReferenceIdeal.Value (cs cs_pos lg lg_real Y Y_ne_top)

/-! ## A row's masked logits and values, key by key -/

/-- The masked logits of one query and head, by key position; `−∞` past the last key. -/
def xs (q k : Qs) (sel : Sl) (b : Fin 2) (t : Fin 16384) (hd : Fin 4) (s : ℕ) : EReal :=
  if h : s < 16384 then
    (0 + ∑ d : Fin 128, (q (ix4 (n0 := 2) (n1 := 16384) (n2 := 4) (n3 := 128) b t hd d) * cs) * k (ix4 (n0 := 2) (n1 := 16384) (n2 := 4) (n3 := 128) b ⟨s, h⟩ hd d))
      + bias3 sel (ix3 (n0 := 2) (n1 := 16384) (n2 := 16384) b t ⟨s, h⟩)
  else ⊥

/-- One feature of the values of one head, by key position. -/
def us (v : Qs) (b : Fin 2) (hd : Fin 4) (d : Fin 128) (s : ℕ) : EReal :=
  if h : s < 16384 then v (ix4 (n0 := 2) (n1 := 16384) (n2 := 4) (n3 := 128) b ⟨s, h⟩ hd d) else 0

theorem sum_scale (q k : Qs) (hq : ∀ i, ∃ r : ℝ, q i = (r : EReal)) (hk : ∀ i, ∃ r : ℝ, k i = (r : EReal)) (b : Fin 2) (t : Fin 16384) (hd : Fin 4) (s : Fin 16384) :
    (0 + ∑ d : Fin 128, (q (ix4 (n0 := 2) (n1 := 16384) (n2 := 4) (n3 := 128) b t hd d) * cs) * k (ix4 (n0 := 2) (n1 := 16384) (n2 := 4) (n3 := 128) b s hd d))
      = lg q k b t hd s := by
  obtain ⟨c, hc, h0⟩ := cs_pos
  unfold lg
  rw [zero_add, mul_comm, hc]
  rw [mul_sum Finset.univ (c : EReal) (EReal.coe_nonneg.mpr h0.le) (EReal.coe_ne_top _)]
  refine Finset.sum_congr rfl fun d _ => ?_
  rw [mul_comm (q _) (c : EReal), mul_assoc]

theorem xs_lt (q k : Qs) (sel : Sl) (ok : Ok q k sel) (b : Fin 2) (t : Fin 16384) (hd : Fin 4) (s : ℕ) (h : s < 16384) :
    xs q k sel b t hd s = lg q k b t hd ⟨s, h⟩ + bias3 sel (ix3 (n0 := 2) (n1 := 16384) (n2 := 16384) b t ⟨s, h⟩) := by
  unfold xs
  rw [dif_pos h, sum_scale q k ok.hq ok.hk]

/-- A selected key that may be attended has its logit; -/
theorem xs_in (q k : Qs) (sel : Sl) (ok : Ok q k sel) (b : Fin 2) (t : Fin 16384) (hd : Fin 4) (s : ℕ) (h : s < 16384)
    (hc : (∃ j : Fin 256, (sel (ix3 (n0 := 2) (n1 := 16384) (n2 := 256) b t j)).toNat = s) ∧ s / 64 ≤ t.val / 64) :
    xs q k sel b t hd s = lg q k b t hd ⟨s, h⟩ := by
  rw [xs_lt q k sel ok b t hd s h, (bias3_at sel b t ⟨s, h⟩ ok.lt).1 hc, add_zero]

/-- every other key is masked. -/
theorem xs_out (q k : Qs) (sel : Sl) (ok : Ok q k sel) (b : Fin 2) (t : Fin 16384) (hd : Fin 4) (s : ℕ)
    (hc : ¬ ((∃ j : Fin 256, (sel (ix3 (n0 := 2) (n1 := 16384) (n2 := 256) b t j)).toNat = s) ∧ s / 64 ≤ t.val / 64)) :
    xs q k sel b t hd s = ⊥ := by
  by_cases h : s < 16384
  · rw [xs_lt q k sel ok b t hd s h, (bias3_at sel b t ⟨s, h⟩ ok.lt).2 hc, EReal.add_bot]
  · unfold xs; rw [dif_neg h]

theorem xs_ne_top (q k : Qs) (sel : Sl) (ok : Ok q k sel) (b : Fin 2) (t : Fin 16384) (hd : Fin 4) (s : ℕ) : xs q k sel b t hd s ≠ ⊤ := by
  by_cases hc : (∃ j : Fin 256, (sel (ix3 (n0 := 2) (n1 := 16384) (n2 := 256) b t j)).toNat = s) ∧ s / 64 ≤ t.val / 64
  · have h : s < 16384 := by obtain ⟨⟨j, hj⟩, -⟩ := hc; rw [← hj]; exact ok.lt _
    rw [xs_in q k sel ok b t hd s h hc]
    obtain ⟨r, hr⟩ := lg_real q k ok.hq ok.hk b t hd ⟨s, h⟩
    rw [hr]; exact EReal.coe_ne_top _
  · rw [xs_out q k sel ok b t hd s hc]; exact bot_ne_top

/-- What the running sums give after the last key that a query may attend, is the softmax over its selected keys. -/
theorem row_final (q k v : Qs) (sel : Sl) (ok : Ok q k sel) (b : Fin 2) (t : Fin 16384) (hd : Fin 4) (d : Fin 128) (n : ℕ) (hn : ∀ s, n ≤ s → t.val / 64 < s / 64)
    (mm l a : EReal) (h : Inv (xs q k sel b t hd) (us v b hd d) n mm l a) (M : EReal) (hM : ∃ ν : ℝ, M = (ν : EReal)) :
    Ideal.div a l = ∑ j : Fin 256, Ideal.div (Ideal.exp (Y q k sel ok.lt b t hd j - M)) (0 + ∑ j' : Fin 256, Ideal.exp (Y q k sel ok.lt b t hd j' - M))
          * v (ix4 (n0 := 2) (n1 := 16384) (n2 := 4) (n3 := 128) b ⟨(sel (ix3 b t j)).toNat, ok.lt _⟩ hd d) := by
  have hy : ∀ j, Y q k sel ok.lt b t hd j = xs q k sel b t hd (sel (ix3 (n0 := 2) (n1 := 16384) (n2 := 256) b t j)).toNat := fun j => by
    unfold Y
    by_cases hc : (sel (ix3 (n0 := 2) (n1 := 16384) (n2 := 256) b t j)).toNat / 64 ≤ t.val / 64
    · rw [if_pos hc, xs_in q k sel ok b t hd _ (ok.lt _) ⟨⟨j, rfl⟩, hc⟩]
    · rw [if_neg hc, xs_out q k sel ok b t hd _ fun h => hc h.2]
  obtain ⟨j0, hj0⟩ := ok.valid b t
  have h0 : Y q k sel ok.lt b t hd j0 ≠ ⊥ := by
    obtain ⟨r, hr⟩ := lg_real q k ok.hq ok.hk b t hd ⟨_, ok.lt (ix3 b t j0)⟩
    unfold Y; rw [if_pos hj0, hr]; exact EReal.coe_ne_bot _
  have key := inv_final (xs q k sel b t hd) (us v b hd d) (xs_ne_top q k sel ok b t hd) n mm l a h
    (fun j => (sel (ix3 (n0 := 2) (n1 := 16384) (n2 := 256) b t j)).toNat) (fun i j hij => ok.inj b t i j (BitVec.eq_of_toNat_eq hij))
    (Y q k sel ok.lt b t hd) hy (fun s _ hs => xs_out q k sel ok b t hd s fun hc => by obtain ⟨⟨j, hj⟩, -⟩ := hc; exact hs j hj)
    (fun s hs => xs_out q k sel ok b t hd s fun hc => absurd hc.2 (Nat.not_le.mpr (hn s hs))) j0 h0 M hM
  rw [key]
  refine Finset.sum_congr rfl fun j _ => ?_
  refine congrArg (fun z : EReal => Ideal.div (Ideal.exp (Y q k sel ok.lt b t hd j - M)) (0 + ∑ j' : Fin 256, Ideal.exp (Y q k sel ok.lt b t hd j' - M)) * z) ?_
  unfold us
  exact dif_pos (ok.lt _)

/-! ## The state after each point -/

variable (m : (ℓ : Loc nD τ sig) → Buf (Elt Ideal) ℓ) (c : Dev nD)

abbrev qA : Qs := m ((c : Thread nD τ).loc main_arg0)
abbrev kA : Qs := m ((c : Thread nD τ).loc main_arg1)
abbrev vA : Qs := m ((c : Thread nD τ).loc main_arg2)
abbrev sA : Sl := m ((c : Thread nD τ).loc main_arg3)

/-- The query in row `r` of query tile `i`. -/
def qpos (i : Fin 32) (r : Fin 512) : Fin 16384 := ⟨512 * i.val + r.val, by omega⟩

theorem cell_at (t : Fin (cfgM m).N) (b : Fin 2) (i j : Fin 32) (hb : t.val / 528 = b.val) (hi : qOf (t.val % 528) = i.val) (hj : kOf (t.val % 528) = j.val)
    (hd : Fin 4) (r cc : Fin 512) :
    cell (bm m c t) (cut hd (bq m c t)) (cut hd (bk m c t)) r cc = xs (qA m c) (kA m c) (sA m c) b (qpos i r) hd (512 * j.val + cc.val) := by
  have hs : 512 * j.val + cc.val < 16384 := by omega
  have hbb := b.isLt
  have hhd := hd.isLt
  unfold cell xs maskAt
  rw [dif_pos hs]
  refine congrArg₂ (fun x y : EReal => x + y) (congrArg (fun z : EReal => 0 + z) (Finset.sum_congr rfl fun d _ => ?_)) ?_
  · have hdd := d.isLt
    refine congrArg₂ (fun x y : EReal => x * y) ?_ ?_
    · refine (emb0 m c t (ofHead hd (ix2 (n0 := 512) (n1 := 128) r d)) (ix2 (n0 := 32768) (n1 := 512) ⟨(32 * b.val + i.val) * 512 + r.val, by omega⟩ ⟨128 * hd.val + d.val, by omega⟩) ?_ ?_).trans ?_
      · rw [hb, hi]; rfl
      · rfl
      · refine (congrFun (V_v25 m c) _).trans (q2_at _ b (qpos i r) hd d _ ?_ rfl)
        show (32 * b.val + i.val) * 512 + r.val = 16384 * b.val + (512 * i.val + r.val)
        omega
    · refine (emb2 m c t (ofHead hd (ix2 (n0 := 512) (n1 := 128) cc d)) (ix2 (n0 := 32768) (n1 := 512) ⟨(32 * b.val + j.val) * 512 + cc.val, by omega⟩ ⟨128 * hd.val + d.val, by omega⟩) ?_ ?_).trans ?_
      · rw [hb, hj]; rfl
      · rfl
      · refine (congrFun (V_v27 m c) _).trans (k2_at _ b ⟨512 * j.val + cc.val, hs⟩ hd d _ ?_ rfl)
        show (32 * b.val + j.val) * 512 + cc.val = 16384 * b.val + (512 * j.val + cc.val)
        omega
  · refine (emb1 m c t _ (ix4 (n0 := 256) (n1 := 32) (n2 := 128) (n3 := 512) ⟨(32 * b.val + i.val) * 4 + r.val / 128, by omega⟩ j ⟨r.val % 128, Nat.mod_lt _ (by decide)⟩ cc) ?_ ?_ ?_ ?_).trans ?_
    · rw [hb, hi]
    · rw [hj]
      show j.val = j.val * 1 + 0
      omega
    · rfl
    · rfl
    · refine (congrFun (V_v21 m c) _).trans (bias5_at _ b (qpos i r) ⟨512 * j.val + cc.val, hs⟩ _ ?_ ?_ ?_ ?_)
      · show (32 * b.val + i.val) * 4 + r.val / 128 = 128 * b.val + (512 * i.val + r.val) / 128
        omega
      · show j.val = (512 * j.val + cc.val) / 512
        omega
      · show r.val % 128 = (512 * i.val + r.val) % 128
        omega
      · show cc.val = (512 * j.val + cc.val) % 512
        omega

theorem value_at (t : Fin (cfgM m).N) (b : Fin 2) (j : Fin 32) (hb : t.val / 528 = b.val) (hj : kOf (t.val % 528) = j.val)
    (hd : Fin 4) (cc : Fin 512) (d : Fin 128) :
    (cut hd (bv m c t) (ix2 (n0 := 512) (n1 := 128) cc d) : EReal) = us (vA m c) b hd d (512 * j.val + cc.val) := by
  have hs : 512 * j.val + cc.val < 16384 := by omega
  have hbb := b.isLt
  have hhd := hd.isLt
  have hdd := d.isLt
  unfold us
  rw [dif_pos hs]
  refine (emb3 m c t (ofHead hd (ix2 (n0 := 512) (n1 := 128) cc d)) (ix2 (n0 := 32768) (n1 := 6144) ⟨(32 * b.val + j.val) * 512 + cc.val, by omega⟩ ⟨5120 + 128 * hd.val + d.val, by omega⟩) ?_ ?_).trans ?_
  · rw [hb, hj]; rfl
  · show 5120 + 128 * hd.val + d.val = 10 * 512 + (128 * hd.val + d.val)
    omega
  · refine (congrFun (V_v30 m c) _).trans (v2_at _ b ⟨512 * j.val + cc.val, hs⟩ hd d _ ?_ rfl)
    show (32 * b.val + j.val) * 512 + cc.val = 16384 * b.val + (512 * j.val + cc.val)
    omega

/-- What a state holds for one query tile after its first keys. -/
structure Holds (s : Run Ideal) (b : Fin 2) (i : Fin 32) (n : ℕ) : Prop where
  inv : ∀ (hd : Fin 4) (r : Fin 512) (d : Fin 128), Inv (xs (qA m c) (kA m c) (sA m c) b (qpos i r) hd) (us (vA m c) b hd d) n
    (s.1 (ofHead hd (ix2 (n0 := 512) (n1 := 128) r d))) (s.2.1 (ofHead hd (ix2 (n0 := 512) (n1 := 128) r d))) (s.2.2 (ofHead hd (ix2 (n0 := 512) (n1 := 128) r d)))
  same : ∀ (hd : Fin 4) (r : Fin 512) (d : Fin 128), s.1 (ofHead hd (ix2 (n0 := 512) (n1 := 128) r 0)) = s.1 (ofHead hd (ix2 (n0 := 512) (n1 := 128) r d))

theorem glue_at {e : EltTy} (P : Fin 4 → Vec Ideal S512x128 e) (hd : Fin 4) (j : S512x128.Idx) : glue P (ofHead hd j) = P hd j := by
  unfold glue; rw [headOf_ofHead, inHead_ofHead]

theorem newM_at (xq : Vec Ideal S512x512 .bf16) (xb : Vec Ideal S4x1x128x512 .bf16) (xk : Vec Ideal S512x512 .bf16) (sm : Vec Ideal S512x512 .f32) (hd : Fin 4) (y : S512x128.Idx) :
    newM xq xb xk sm (ofHead hd y) = k0_pay15 (k0_pay10 xb (cut hd xq) (cut hd xk) (cut hd sm)) y := by
  unfold newM; rw [glue_at]
theorem newL_at (xq : Vec Ideal S512x512 .bf16) (xb : Vec Ideal S4x1x128x512 .bf16) (xk : Vec Ideal S512x512 .bf16) (sm sl : Vec Ideal S512x512 .f32) (hd : Fin 4) (y : S512x128.Idx) :
    newL xq xb xk sm sl (ofHead hd y) = k0_pay13 xb (cut hd xq) (cut hd xk) (cut hd sm) (cut hd sl) y := by
  unfold newL; rw [glue_at]
theorem newA_at (xq : Vec Ideal S512x512 .bf16) (xb : Vec Ideal S4x1x128x512 .bf16) (xk xv : Vec Ideal S512x512 .bf16) (sm sa : Vec Ideal S512x512 .f32) (hd : Fin 4) (y : S512x128.Idx) :
    newA xq xb xk xv sm sa (ofHead hd y)
      = k0_pay14 (k0_pay11 xb (cut hd xq) (cut hd xk) (cut hd sm)) (k0_pay12 xb (cut hd xq) (cut hd xk) (cut hd sm)) (cut hd sa) (cut hd xv) y := by
  unfold newA; rw [glue_at]

theorem holds_fresh (b : Fin 2) (i : Fin 32) : Holds m c fresh b i 0 := by
  have h5 : ∀ y, (k0_pay5 (F := Ideal) y : EReal) = Ideal.ofBits .f32 0xF149F2CA#32 := fun y => by
    unfold k0_pay5; exact (congrFun (shapeCast_self _ _) y).trans rfl
  have h6 : ∀ y, (k0_pay6 (F := Ideal) y : EReal) = 0 := fun y => by
    unfold k0_pay6; exact (congrFun (shapeCast_self _ _) y).trans (Eq.trans rfl zero_bits)
  have h7 : ∀ y, (k0_pay7 (F := Ideal) y : EReal) = 0 := fun y => by
    unfold k0_pay7; exact (congrFun (shapeCast_self _ _) y).trans (Eq.trans rfl zero_bits)
  have hr : ∃ r : ℝ, Ideal.ofBits .f32 0xF149F2CA#32 = (r : EReal) := ⟨_, by simp [Ideal.ofBits, Ideal.ieee]; rfl⟩
  obtain ⟨r0, hr⟩ := hr
  constructor
  · intro hd r d
    show Inv _ _ 0 (k0_pay5 (F := Ideal) (ofHead hd (ix2 (n0 := 512) (n1 := 128) r d))) (k0_pay6 (F := Ideal) (ofHead hd (ix2 (n0 := 512) (n1 := 128) r d))) (k0_pay7 (F := Ideal) (ofHead hd (ix2 (n0 := 512) (n1 := 128) r d)))
    rw [h5, h6, h7, hr]
    exact inv_zero _ _ _
  · intro hd r d
    exact (h5 (ofHead hd (ix2 (n0 := 512) (n1 := 128) r 0))).trans (h5 (ofHead hd (ix2 (n0 := 512) (n1 := 128) r d))).symm

theorem holds_step (ok : Ok (qA m c) (kA m c) (sA m c)) (t : Fin (cfgM m).N) (b : Fin 2) (i j : Fin 32) (hb : t.val / 528 = b.val) (hi : qOf (t.val % 528) = i.val) (hj : kOf (t.val % 528) = j.val)
    (s : Run Ideal) (h : Holds m c s b i (512 * j.val)) :
    Holds m c (stepS (bq m c t) (bm m c t) (bk m c t) (bv m c t) s) b i (512 * j.val + 512) := by
  have hM : ∀ (hd : Fin 4) (y : S512x128.Idx), (stepS (bq m c t) (bm m c t) (bk m c t) (bv m c t) s).1 (ofHead hd y)
      = k0_pay15 (k0_pay10 (bm m c t) (cut hd (bq m c t)) (cut hd (bk m c t)) (cut hd s.1)) y := fun hd y => newM_at _ _ _ _ hd y
  have hL : ∀ (hd : Fin 4) (y : S512x128.Idx), (stepS (bq m c t) (bm m c t) (bk m c t) (bv m c t) s).2.1 (ofHead hd y)
      = k0_pay13 (bm m c t) (cut hd (bq m c t)) (cut hd (bk m c t)) (cut hd s.1) (cut hd s.2.1) y := fun hd y => newL_at _ _ _ _ _ hd y
  have hA : ∀ (hd : Fin 4) (y : S512x128.Idx), (stepS (bq m c t) (bm m c t) (bk m c t) (bv m c t) s).2.2 (ofHead hd y)
      = k0_pay14 (k0_pay11 (bm m c t) (cut hd (bq m c t)) (cut hd (bk m c t)) (cut hd s.1)) (k0_pay12 (bm m c t) (cut hd (bq m c t)) (cut hd (bk m c t)) (cut hd s.1)) (cut hd s.2.2) (cut hd (bv m c t)) y :=
    fun hd y => newA_at _ _ _ _ _ _ hd y
  constructor
  · intro hd r d
    rw [hM, hL, hA]
    refine fold_pair (bm m c t) (cut hd (bq m c t)) (cut hd (bk m c t)) (cut hd (bv m c t)) (cut hd s.1) (cut hd s.2.1) (cut hd s.2.2) r d _ _ (xs_ne_top _ _ _ ok _ _ _) (512 * j.val)
      (fun cc => cell_at m c t b i j hb hi hj hd r cc) (fun r' cc => ?_) (fun cc => value_at m c t b j hb hj hd cc d) (h.same hd r d) (h.inv hd r d)
    rw [cell_at m c t b i j hb hi hj hd r' cc]
    exact xs_ne_top _ _ _ ok _ _ _ _
  · intro hd r d
    have e : ∀ d' : Fin 128, k0_pay15 (k0_pay10 (bm m c t) (cut hd (bq m c t)) (cut hd (bk m c t)) (cut hd s.1)) (ix2 (n0 := 512) (n1 := 128) r d')
        = max (s.1 (ofHead hd (ix2 (n0 := 512) (n1 := 128) r d')) : EReal) (top (bm m c t) (cut hd (bq m c t)) (cut hd (bk m c t)) r) := fun d' =>
      (congrFun (shapeCast_self _ _) _).trans (pay10_at (bm m c t) (cut hd (bq m c t)) (cut hd (bk m c t)) (cut hd s.1) r d')
    rw [hM, hM, e, e, h.same hd r d]

/-- After a query tile's pair with key tile `j` the state has folded that tile's first `512 (j + 1)` keys. -/
theorem holds_at (ok : Ok (qA m c) (kA m c) (sA m c)) (b : Fin 2) (i : Fin 32) :
    ∀ (j : ℕ) (hj : j ≤ i.val) (n : ℕ) (hn : n + 1 ≤ (cfgM m).N) (e : n = 528 * b.val + (i.val * (i.val + 1) / 2 + j)), Holds m c (st m c (n + 1) hn) b i (512 * j + 512) := by
  intro j
  induction j with
  | zero =>
    intro hj n hn e
    obtain ⟨h1, h2, h3⟩ := pairs_at i 0 (Nat.zero_le _)
    have e1 : n / 528 = b.val := by rw [e]; omega
    have e2 : n % 528 = i.val * (i.val + 1) / 2 + 0 := by rw [e]; omega
    have hk : kOf (grid0.coords (⟨n, hn⟩ : Fin grid0.N) 1).val = 0 := by rw [coord1]; show kOf (n % 528) = 0; rw [e2]; exact h3
    show Holds m c (stepS _ _ _ _ (if kOf (grid0.coords (⟨n, hn⟩ : Fin grid0.N) 1).val = 0 then fresh else st m c n (Nat.le_of_lt hn))) b i _
    rw [if_pos hk]
    exact holds_step m c ok ⟨n, hn⟩ b i 0 e1 ((congrArg qOf e2).trans h2) ((congrArg kOf e2).trans h3) fresh (holds_fresh m c b i)
  | succ j ih =>
    intro hj n hn e
    have hjl : j + 1 < 32 := by omega
    obtain ⟨h1, h2, h3⟩ := pairs_at i ⟨j + 1, hjl⟩ hj
    replace h1 : i.val * (i.val + 1) / 2 + (j + 1) < 528 := h1
    have e1 : n / 528 = b.val := by rw [e]; omega
    have e2 : n % 528 = i.val * (i.val + 1) / 2 + (j + 1) := by rw [e]; omega
    have hk : ¬ kOf (grid0.coords (⟨n, hn⟩ : Fin grid0.N) 1).val = 0 := by
      rw [coord1]; show ¬ kOf (n % 528) = 0; rw [e2]
      intro h; exact absurd (h3.symm.trans h) (Nat.succ_ne_zero j)
    obtain ⟨n', rfl⟩ : ∃ n', n = n' + 1 := ⟨528 * b.val + (i.val * (i.val + 1) / 2 + j), by rw [e]; omega⟩
    show Holds m c (stepS _ _ _ _ (if kOf (grid0.coords (⟨n' + 1, hn⟩ : Fin grid0.N) 1).val = 0 then fresh else st m c (n' + 1) (Nat.le_of_lt hn))) b i _
    rw [if_neg hk]
    have ih' := ih (by omega) n' (Nat.le_of_lt hn) (by omega)
    exact holds_step m c ok ⟨n' + 1, hn⟩ b i ⟨j + 1, hjl⟩ e1 ((congrArg qOf e2).trans h2) ((congrArg kOf e2).trans h3) _ ih'

/-! ## The launch's result -/

/-- What a query tile's last pair leaves in a result block is the reference there. -/
theorem out_at (ok : Ok (qA m c) (kA m c) (sA m c)) (t : Fin (cfgM m).N) (hl : kOf (t.val % 528) = qOf (t.val % 528)) (y : S512x512.Idx) (i : S32768x512.Idx)
    (h0 : (i 0).val = (32 * (t.val / 528) + qOf (t.val % 528)) * 512 + (y 0).val) (h1 : (i 1).val = (y 1).val) :
    (outS (st m c (t.val + 1) t.isLt) y : EReal)
      = Cert.ReferenceIdeal.Read.val_main_v56 (F := Ideal) (qA m c) (kA m c) (vA m c) (sA m c) i := by
  have hy0 := idx2_lt0 y
  have hy1 := idx2_lt1 y
  have hN : t.val < 1056 := Nat.lt_of_lt_of_eq t.isLt N_0
  obtain ⟨p1, p2, p3, -⟩ := pairs ⟨t.val % 528, Nat.mod_lt _ (by decide)⟩
  replace p1 : qOf (t.val % 528) < 32 := p1
  replace p3 : t.val % 528 = qOf (t.val % 528) * (qOf (t.val % 528) + 1) / 2 + kOf (t.val % 528) := p3
  rw [hl] at p3
  generalize hQ : qOf (t.val % 528) = Q at *
  obtain ⟨b, hb⟩ : ∃ b : Fin 2, t.val / 528 = b.val := ⟨⟨t.val / 528, by omega⟩, rfl⟩
  obtain ⟨hd, hhd⟩ : ∃ hd : Fin 4, headOf y = hd := ⟨_, rfl⟩
  have hh := holds_at m c ok b ⟨Q, p1⟩ Q (Nat.le_refl _) t.val t.isLt (by show t.val = 528 * b.val + (Q * (Q + 1) / 2 + Q); omega)
  have key := hh.inv (headOf y) (y 0) ⟨(y 1).val % 128, Nat.mod_lt _ (by decide)⟩
  have ey : ofHead (headOf y) (ix2 (n0 := 512) (n1 := 128) (y 0) ⟨(y 1).val % 128, Nat.mod_lt _ (by decide)⟩) = y := ofHead_inHead y
  rw [ey] at key
  have e1 : (headOf y).val = (y 1).val / 128 := rfl
  obtain ⟨M, hM, hr⟩ := Cert.ReferenceIdeal.Value.ref_at (qA m c) (kA m c) (vA m c) (sA m c) ok b (qpos ⟨Q, p1⟩ (y 0)) (headOf y) ⟨(y 1).val % 128, Nat.mod_lt _ (by decide)⟩ i
    (by rw [h0, hb]; show (32 * b.val + Q) * 512 + (y 0).val = 16384 * b.val + (512 * Q + (y 0).val); omega)
    (by rw [h1, e1]; show (y 1).val = 128 * ((y 1).val / 128) + (y 1).val % 128; omega)
  rw [hr]
  refine Eq.trans ?_ (row_final (qA m c) (kA m c) (vA m c) (sA m c) ok b (qpos ⟨Q, p1⟩ (y 0)) (headOf y) ⟨(y 1).val % 128, Nat.mod_lt _ (by decide)⟩ (512 * Q + 512) ?_ _ _ _ key M hM)
  · rfl
  · intro s hs
    show (512 * Q + (y 0).val) / 64 < s / 64
    omega

/-- Each query tile has a point at which its result is written back. -/
theorem moves : ∀ t : Fin 1056, kOf (t.val % 528) = qOf (t.val % 528) →
    t.val + 1 = 1056 ∨ (t.val + 1 < 1056 ∧ 32 * ((t.val + 1) / 528) + qOf ((t.val + 1) % 528) ≠ 32 * (t.val / 528) + qOf (t.val % 528)) := by decide +kernel

theorem flush_of_last (t : Fin (cfgM m).N) (h : kOf (t.val % 528) = qOf (t.val % 528)) : ((cfgM m).win 4).flush t = true := by
  rw [Pipeline.Window.flush_eq_flushF]
  unfold Pipeline.Window.flushF
  rw [Bool.and_eq_true, Bool.or_eq_true]
  refine ⟨rfl, ?_⟩
  have hN : grid0.N = 1056 := N_0
  rcases moves ⟨t.val, Nat.lt_of_lt_of_eq t.isLt N_0⟩ h with e | ⟨e, hne⟩
  · exact .inl (decide_eq_true (e.trans hN.symm))
  · refine .inr (decide_eq_true ⟨Nat.lt_of_lt_of_eq e hN.symm, (0 : Fin 2), fun he => hne ?_⟩)
    have a1 := congrFun (tr4 (listed m) (grid0.coords ⟨t.val + 1, Nat.lt_of_lt_of_eq e hN.symm⟩)) (0 : Fin 2)
    have a2 := congrFun (tr4 (listed m) (grid0.coords t)) (0 : Fin 2)
    rw [coord0, coord1] at a1 a2
    exact a1.symm.trans (he.trans a2)

/-- THE LAUNCH'S RESULT IS THE REFERENCE'S, of the same arguments. -/
theorem result (ok : Ok (qA m c) (kA m c) (sA m c)) :
    (dats m 0 c).arrAt 4 (cfgM m).N = Cert.ReferenceIdeal.Read.val_main_v56 (F := Ideal) (qA m c) (kA m c) (vA m c) (sA m c) := by
  refine (dats m 0 c).arrAt_eq_of_emb 4 _ (fun t hf (y : S512x512.Idx) => ?_) fun i => ?_
  · have hl := flush_last m t hf
    rw [coord1] at hl
    have e0 : _ = _ := emb4 m t y (0 : Fin 2)
    have e1 : _ = _ := emb4 m t y (1 : Fin 2)
    refine (congrFun (after_4 m c t) y).trans (out_at m c ok t hl y (((cfgM m).win 4).blk t |>.view.emb y) (e0.trans ?_) (e1.trans ?_))
    · rfl
    · show 0 * 512 + (y 1).val = (y 1).val
      omega
  · have hi0 := idx2_lt0 (n0 := 32768) (n1 := 512) i
    have hi1 := idx2_lt1 (n0 := 32768) (n1 := 512) i
    have hN : grid0.N = 1056 := N_0
    obtain ⟨Q, hQ⟩ : ∃ Q : Fin 32, Q.val = (i (0 : Fin 2)).val / 512 % 32 := ⟨⟨_, Nat.mod_lt _ (by decide)⟩, rfl⟩
    obtain ⟨p1, p2, p3⟩ := pairs_at Q Q (Nat.le_refl _)
    let n := 528 * ((i (0 : Fin 2)).val / 16384) + (Q.val * (Q.val + 1) / 2 + Q.val)
    have hn : n < grid0.N := by rw [hN]; show 528 * ((i (0 : Fin 2)).val / 16384) + (Q.val * (Q.val + 1) / 2 + Q.val) < 1056; omega
    have m1 : n / 528 = (i (0 : Fin 2)).val / 16384 := by show (528 * ((i (0 : Fin 2)).val / 16384) + (Q.val * (Q.val + 1) / 2 + Q.val)) / 528 = _; omega
    have m2 : n % 528 = Q.val * (Q.val + 1) / 2 + Q.val := by show (528 * ((i (0 : Fin 2)).val / 16384) + (Q.val * (Q.val + 1) / 2 + Q.val)) % 528 = _; omega
    have q1 : qOf (n % 528) = Q.val := (congrArg qOf m2).trans p2
    have q2 : kOf (n % 528) = Q.val := (congrArg kOf m2).trans p3
    let y : S512x512.Idx := ix2 (n0 := 512) (n1 := 512) ⟨(i (0 : Fin 2)).val % 512, Nat.mod_lt _ (by decide)⟩ ⟨(i (1 : Fin 2)).val, hi1⟩
    refine ⟨⟨n, hn⟩, flush_of_last m ⟨n, hn⟩ (q2.trans q1.symm), ?_⟩
    have ei : ((((cfgM m).win 4).blk ⟨n, hn⟩).view.emb y) = i := by
      funext a
      match a with
      | ⟨0, _⟩ =>
        apply Fin.ext
        refine (emb4 m ⟨n, hn⟩ y (0 : Fin 2)).trans ?_
        show (32 * (n / 528) + qOf (n % 528)) * 512 + (i (0 : Fin 2)).val % 512 = (i (0 : Fin 2)).val
        rw [m1, q1]; omega
      | ⟨1, _⟩ =>
        apply Fin.ext
        refine (emb4 m ⟨n, hn⟩ y (1 : Fin 2)).trans ?_
        show 0 * 512 + (i (1 : Fin 2)).val = (i (1 : Fin 2)).val
        omega
    rw [← ei]
    exact View.emb_mem_set _ _

end Cert.KernelIdeal.Att
-- ==== Proof.UpRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.Pipeline.Value

@[expose] public section

set_option maxRecDepth 16384

noncomputable section

namespace Cert.Kernel2Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-- The two tables as the body is handed them: the expert of each tile, and the number of tiles in use. -/
abbrev tabE : Memref sig .tc .smem S288 .i32 := Memref.whole main_arg0
/-- The number of tiles in use. -/
abbrev tabN : Memref sig .tc .smem S1 .i32 := Memref.whole main_arg1
abbrev wholeE : tabE.IsWhole := Memref.isWhole_whole _
abbrev wholeN : tabN.IsWhole := Memref.isWhole_whole _

/-- A table's contents on core `c`. -/
abbrev TabBuf (c : Dev nD) {S : Shape} {e : EltTy} (M : Memref sig .tc .smem S e) : Type := Buf (Elt F) (M.view.loc (c : Thread nD τ))
/-- Half of a table held at given contents on core `c`. -/
abbrev tabPt (c : Dev nD) {S : Shape} {e : EltTy} (M : Memref sig .tc .smem S e) (f : TabBuf (F := F) c M) : sProp 𝕄 :=
  M.view.loc (c : Thread nD τ) ↦{fullShare.right} f

set_option maxHeartbeats 4000000 in
/-- One grid point of the up projection: the body, whichever of its two conditionals it takes, turns the two narrowed
    weight blocks and the result's block from the contents it is handed into the contents `W` names, and gives the inputs
    and the tables back. -/
def bodyRun (c : Dev nD) (i : grid0.Coords)
    (arg4 : Memref sig .tc .vmem S512x2048 .f32) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S1x1x1x512 .f32) (harg7 : arg7.IsWhole) (arg8 : Memref sig .tc .vmem S1x1x1x512 .f32) (harg8 : arg8.IsWhole)
    (arg9 : Memref sig .tc .vmem S512x512 .bf16) (harg9 : arg9.IsWhole)
    (arg10 : Memref sig .tc .vmem S2048x512 .bf16) (harg10 : arg10.IsWhole) (arg11 : Memref sig .tc .vmem S2048x512 .bf16) (harg11 : arg11.IsWhole)
    (xs : Vec F S512x2048 .f32) (xg xu : Vec F S1x1x2048x512 .f32) (xa xb : Vec F S1x1x1x512 .f32) (xo : Vec F S512x512 .bf16)
    (sg su : Vec F S2048x512 .bf16)
    (te : TabBuf (F := F) c tabE) (tn : TabBuf (F := F) c tabN) :
    { W : Vec F S2048x512 .bf16 × Vec F S2048x512 .bf16 × Vec F S512x512 .bf16 //
      ∀ (E : Set ℕ) (K : PUnit → sProp 𝕄),
        iprop(owns (c : Thread nD τ) arg4 fullShare xs ∗ owns (c : Thread nD τ) arg5 fullShare xg ∗ owns (c : Thread nD τ) arg6 fullShare xu
            ∗ owns (c : Thread nD τ) arg7 fullShare xa ∗ owns (c : Thread nD τ) arg8 fullShare xb ∗ owns (c : Thread nD τ) arg9 fullShare xo
            ∗ owns (c : Thread nD τ) arg10 fullShare sg ∗ owns (c : Thread nD τ) arg11 fullShare su
            ∗ tabPt c tabE te ∗ tabPt c tabN tn
            ∗ (iprop(owns (c : Thread nD τ) arg4 fullShare xs ∗ owns (c : Thread nD τ) arg5 fullShare xg ∗ owns (c : Thread nD τ) arg6 fullShare xu
            ∗ owns (c : Thread nD τ) arg7 fullShare xa ∗ owns (c : Thread nD τ) arg8 fullShare xb ∗ owns (c : Thread nD τ) arg9 fullShare W.2.2
            ∗ owns (c : Thread nD τ) arg10 fullShare W.1 ∗ owns (c : Thread nD τ) arg11 fullShare W.2.1
            ∗ tabPt c tabE te ∗ tabPt c tabN tn) -∗ K ⟨⟩))
          ⊢ wp frame (wpE (defs₀ (F := F)) Variants.none c none) E
              (cc0_expert_up i tabE wholeE tabN wholeN arg4 harg4 arg5 harg5 arg6 harg6 arg7 harg7 arg8 harg8 arg9 harg9
                arg10 harg10 arg11 harg11) K } := by
  refine ⟨(?_, ?_, ?_), fun E K => ?run⟩
  case run =>
    dsimp only
    simp only [cc0_expert_up_eq_skeleton]; unfold cc0_expert_up_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fg, %hfg, HG⟩, ⟨%fu, %hfu, HU⟩, HT0, HT1, Hk⟩
    obtain rfl := harg4.eq_unread hf0; obtain rfl := harg5.eq_unread hf1; obtain rfl := harg6.eq_unread hf2; obtain rfl := harg7.eq_unread hf3
    obtain rfl := harg8.eq_unread hf4; obtain rfl := harg9.eq_unread hf5
    obtain rfl := harg10.eq_unread hfg; obtain rfl := harg11.eq_unread hfu
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro; rfl
    isplitl [HG]
    · iexists _; isplitr; swap; · iexact HG
      ipureintro; rfl
    isplitl [HU]
    · iexists _; isplitr; swap; · iexact HU
      ipureintro; rfl
    isplitl [HT0]; · iexact HT0
    iexact HT1

end Cert.Kernel2Ideal.Up

end
-- ==== Proof.UpStep.lean ====
module

public import proofs.«01_k».proof.Proof.UpRun

@[expose] public section

set_option maxRecDepth 16384

noncomputable section

namespace Cert.Kernel2Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## One point in closed form -/

/-- A block filled when the condition holds, and left alone otherwise, read back. -/
theorem read_filled {p : Prop} [Decidable p] {e : EltTy} {a b : ℕ} (v : View sig .tc .vmem ⟨2, ![a, b]⟩ e) (f : v.ty.Contents (Elt F))
    (inb : ∀ x, (![0, 0] : Fin 2 → ℕ) x + (⟨2, ![a, b]⟩ : Shape).size x ≤ (⟨2, ![a, b]⟩ : Shape).size x) (w : Vec F ⟨2, ![a, b]⟩ e) :
    v.read (Elt F) (if h : p then v.writes (Elt F) f [⟨Rect.unit ![0, 0] (⟨2, ![a, b]⟩ : Shape).size inb, w⟩] else f) = if p then w else v.read (Elt F) f := by
  split
  · exact View.read_writes_full v f inb w []
  · rfl

/-- The point meets an expert other than the point before it, by the first table's words, or opens a column strip. -/
def isNew (c : Dev nD) (i : grid0.Coords) (te : TabBuf (F := F) c tabE) : Prop :=
  Scalar.cmpi .ne (Scalar.extui (Scalar.ori (Scalar.cmpi .eq (BitVec.ofNat 32 (i 1).val) 0#32) (Scalar.cmpi .ne (bodyRun.sl.r c i te) (bodyRun.sl.r_1 c i te))) : BitVec 32) 0#32 = 1#1
instance (c : Dev nD) (i : grid0.Coords) (te : TabBuf (F := F) c tabE) : Decidable (isNew c i te) := by unfold isNew; infer_instance
/-- The point's tile is in use, by the second table's word. -/
def isUsed (c : Dev nD) (i : grid0.Coords) (tn : TabBuf (F := F) c tabN) : Prop := k0_cond2 i (bodyRun.sl.r_2 c tn) = 1#1
instance (c : Dev nD) (i : grid0.Coords) (tn : TabBuf (F := F) c tabN) : Decidable (isUsed c i tn) := by unfold isUsed; infer_instance

/-- What a point leaves, given that a buffer not refilled already holds its filling. -/
theorem step_of {A B C : Type} (p q r : Prop) [Decidable p] [Decidable q] [Decidable r] (g sg : A) (u su : B) (xo : C) (f : A → B → C)
    (hs : ¬ p → sg = g ∧ su = u) (hq : q ↔ r) :
    ((if p then g else sg, if p then u else su, if q then f (if p then g else sg) (if p then u else su) else xo) : A × B × C)
      = (g, u, if r then f g u else xo) := by
  have e1 : (if p then g else sg) = g := by
    by_cases h : p
    · exact if_pos h
    · exact (if_neg h).trans (hs h).1
  have e2 : (if p then u else su) = u := by
    by_cases h : p
    · exact if_pos h
    · exact (if_neg h).trans (hs h).2
  rw [e1, e2]
  exact congrArg (fun z => (g, u, z)) (if_congr hq rfl rfl)

section
variable (c : Dev nD) (i : grid0.Coords)
    (arg4 : Memref sig .tc .vmem S512x2048 .f32) (harg4 : arg4.IsWhole)
    (arg5 : Memref sig .tc .vmem S1x1x2048x512 .f32) (harg5 : arg5.IsWhole) (arg6 : Memref sig .tc .vmem S1x1x2048x512 .f32) (harg6 : arg6.IsWhole)
    (arg7 : Memref sig .tc .vmem S1x1x1x512 .f32) (harg7 : arg7.IsWhole) (arg8 : Memref sig .tc .vmem S1x1x1x512 .f32) (harg8 : arg8.IsWhole)
    (arg9 : Memref sig .tc .vmem S512x512 .bf16) (harg9 : arg9.IsWhole)
    (arg10 : Memref sig .tc .vmem S2048x512 .bf16) (harg10 : arg10.IsWhole) (arg11 : Memref sig .tc .vmem S2048x512 .bf16) (harg11 : arg11.IsWhole)
    (xs : Vec F S512x2048 .f32) (xg xu : Vec F S1x1x2048x512 .f32) (xa xb : Vec F S1x1x1x512 .f32) (xo : Vec F S512x512 .bf16)
    (sg su : Vec F S2048x512 .bf16)
    (te : TabBuf (F := F) c tabE) (tn : TabBuf (F := F) c tabN)

theorem read_G : arg10.view.read (Elt F) (if hc : isNew c i te then arg10.view.writes (Elt F) (harg10.unread sg)
      [⟨Rect.unit ![0, 0] S2048x512.size inb_S2048x512_S2048x512_0_0, k0_pay1 (bodyRun.sl.v15 c arg5 harg5 xg)⟩] else harg10.unread sg)
    = if isNew c i te then k0_pay1 xg else sg := by
  refine (read_filled (p := isNew c i te) arg10.view _ _ _).trans ?_
  rw [harg10.read_unread]
  exact if_congr Iff.rfl (congrArg k0_pay1 ((View.readAt_full _ _ _).trans (harg5.read_unread _))) rfl
theorem read_U : arg11.view.read (Elt F) (if hc : isNew c i te then arg11.view.writes (Elt F) (harg11.unread su)
      [⟨Rect.unit ![0, 0] S2048x512.size inb_S2048x512_S2048x512_0_0, k0_pay2 (bodyRun.sl.v21 c arg6 harg6 xu)⟩] else harg11.unread su)
    = if isNew c i te then k0_pay2 xu else su := by
  refine (read_filled (p := isNew c i te) arg11.view _ _ _).trans ?_
  rw [harg11.read_unread]
  exact if_congr Iff.rfl (congrArg k0_pay2 ((View.readAt_full _ _ _).trans (harg6.read_unread _))) rfl

/-- One point in closed form: at a new expert the two narrowed weight blocks are taken from the weights' blocks, and
    while the tile is in use the result's block is computed from them; otherwise each stays as it was. -/
theorem bodyRun_val :
    (bodyRun c i arg4 harg4 arg5 harg5 arg6 harg6 arg7 harg7 arg8 harg8 arg9 harg9 arg10 harg10 arg11 harg11 xs xg xu xa xb xo sg su te tn).1
      = (if isNew c i te then k0_pay1 xg else sg, if isNew c i te then k0_pay2 xu else su,
          if isUsed c i tn then k0_pay3 xs (if isNew c i te then k0_pay1 xg else sg) xa (if isNew c i te then k0_pay2 xu else su) xb else xo) := by
  refine Prod.ext ?_ (Prod.ext ?_ ?_)
  · exact read_G c i arg5 harg5 arg10 harg10 xg sg te
  · exact read_U c i arg6 harg6 arg11 harg11 xu su te
  · refine (read_filled (p := isUsed c i tn) arg9.view _ _ _).trans ?_
    rw [harg9.read_unread]
    refine if_congr Iff.rfl ?_ rfl
    congr 1
    · exact (View.readAt_full _ _ _).trans (harg4.read_unread _)
    · exact (View.readAt_full _ _ _).trans (read_G c i arg5 harg5 arg10 harg10 xg sg te)
    · exact (View.readAt_full _ _ _).trans (harg7.read_unread _)
    · exact (View.readAt_full _ _ _).trans (read_U c i arg6 harg6 arg11 harg11 xu su te)
    · exact (View.readAt_full _ _ _).trans (harg8.read_unread _)

/-- One point from buffers that already hold the narrowed weights whenever it meets no new expert. -/
theorem bodyRun_kept {r : Prop} [Decidable r] (hs : ¬ isNew c i te → sg = k0_pay1 xg ∧ su = k0_pay2 xu) (hq : isUsed c i tn ↔ r) :
    (bodyRun c i arg4 harg4 arg5 harg5 arg6 harg6 arg7 harg7 arg8 harg8 arg9 harg9 arg10 harg10 arg11 harg11 xs xg xu xa xb xo sg su te tn).1
      = (k0_pay1 xg, k0_pay2 xu, if r then k0_pay3 xs (k0_pay1 xg) xa (k0_pay2 xu) xb else xo) :=
  (bodyRun_val ..).trans (step_of _ _ _ _ _ _ _ _ (k0_pay3 xs · xa · xb) hs hq)

end

end Cert.Kernel2Ideal.Up

end
-- ==== Proof.UpTables.lean ====
module

public import proofs.«01_k».proof.Proof.UpStep

@[expose] public section

set_option maxRecDepth 16384

noncomputable section

namespace Cert.Kernel2Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

/-! ## The two tables -/

/-- A point's second coordinate as the offset it is used at. -/
theorem off_word : ∀ n : Fin 288, (Scalar.indexCast (BitVec.ofNat 32 n.val)).toNat = n.val := by decide +kernel
/-- The offset of the tile before. -/
theorem off_prev : ∀ n : Fin 288, (Scalar.indexCast (Scalar.maxsi (Scalar.subi (BitVec.ofNat 32 n.val) 1#32) 0#32)).toNat = n.val - 1 := by decide +kernel
theorem less_one : ∀ n : Fin 288, Scalar.subi (BitVec.ofNat 32 (n.val + 1)) 1#32 = BitVec.ofNat 32 n.val := by decide +kernel
theorem col_word : ∀ n : Fin 4, (BitVec.ofNat 32 n.val).toNat = n.val := by decide +kernel
theorem col_word4 : ∀ n : Fin 4, (Scalar.addi 4#32 (BitVec.ofNat 32 n.val)).toNat = 4 + n.val := by decide +kernel
theorem either_iff : ∀ a b : BitVec 1, Scalar.cmpi .ne (Scalar.extui (Scalar.ori a b) : BitVec 32) 0#32 = 1#1 ↔ a = 1#1 ∨ b = 1#1 := by decide +kernel
theorem wide_iff : ∀ a : BitVec 1, Scalar.cmpi .ne (Scalar.extui a : BitVec 32) 0#32 = 1#1 ↔ a = 1#1 := by decide +kernel

theorem small_min (a b : ℕ) (ha : a < 288) (hb : b < 288) : (Scalar.minsi (BitVec.ofNat 32 a) (BitVec.ofNat 32 b)).toNat = min a b := by
  have h := WordCmp.cmpi_slt_ofNat_eq_one_iff (w := 32) (a := a) (b := b) (by omega) (by omega)
  have e : (BitVec.ofNat 32 a).slt (BitVec.ofNat 32 b) = decide (a < b) := by
    by_cases hab : a < b
    · rw [decide_eq_true hab]
      by_contra hn
      rw [Bool.not_eq_true] at hn
      have := h.2 hab
      unfold IntOp.cmpi at this
      simp only [hn] at this
      exact absurd this (by decide)
    · rw [decide_eq_false hab]
      by_contra hn
      rw [Bool.not_eq_false] at hn
      refine hab (h.1 ?_)
      unfold IntOp.cmpi
      simp only [hn]; rfl
  show (if (BitVec.ofNat 32 a).slt (BitVec.ofNat 32 b) then BitVec.ofNat 32 a else BitVec.ofNat 32 b).toNat = min a b
  rw [e]
  by_cases hab : a < b
  · rw [if_pos (decide_eq_true hab), BitVec.toNat_ofNat, Nat.mod_eq_of_lt (by omega)]; omega
  · rw [if_neg (by rw [decide_eq_false hab]; exact Bool.false_ne_true), BitVec.toNat_ofNat, Nat.mod_eq_of_lt (by omega)]; omega

theorem at_idx (s : ℕ) (k : Fin 288) (hs : s = k.val) (h : ∀ a, ![s] a + S1.size a ≤ S288.size a) (h1 : 0 < S1.numel) :
    (Rect.unit (s := S288) ![s] S1.size h).emb (Shape.Idx.first h1) = ix1 (n := 288) k := by
  funext a
  match a with
  | ⟨0, _⟩ => exact Fin.ext ((show _ = s from Nat.add_zero _).trans hs)
theorem at_only (h : ∀ a, (![0] : Fin 1 → ℕ) a + S1.size a ≤ S1.size a) (h1 : 0 < S1.numel) :
    (Rect.unit (s := S1) ![0] S1.size h).emb (Shape.Idx.first h1) = ix1 (n := 1) 0 := by
  funext a
  match a with
  | ⟨0, _⟩ => exact Fin.ext (show _ = 0 from Nat.add_zero _)

/-- The words a point reads of the tables. -/
theorem word_here (c : Dev nD) (i : grid0.Coords) (te : TabBuf (F := F) c tabE) : bodyRun.sl.r c i te = te (ix1 (n := 288) (i 1)) :=
  congrArg te (at_idx _ _ (off_word (i 1)) _ _)
theorem word_prev (c : Dev nD) (i : grid0.Coords) (te : TabBuf (F := F) c tabE) :
    bodyRun.sl.r_1 c i te = te (ix1 (n := 288) ⟨(i 1).val - 1, lt_of_le_of_lt (Nat.sub_le _ _) (i 1).isLt⟩) :=
  congrArg te (at_idx _ ⟨(i 1).val - 1, lt_of_le_of_lt (Nat.sub_le _ _) (i 1).isLt⟩ (off_prev (i 1)) _ _)
theorem word_count (c : Dev nD) (tn : TabBuf (F := F) c tabN) : bodyRun.sl.r_2 c tn = tn (ix1 (n := 1) 0) :=
  congrArg tn (at_only _ _)

theorem words_eq (a b : BitVec 32) (h : ¬ Scalar.cmpi .ne a b = 1#1) : a = b := by
  by_contra hne
  refine h ?_
  show IntOp.cmpi .ne a b = 1#1
  rw [WordCmp.cmpi_ne_eq, decide_eq_true hne]; rfl

/-- A point that meets no new expert is not a strip's first, and its tile's expert is the tile before's. -/
theorem not_new (c : Dev nD) (i : grid0.Coords) (te : TabBuf (F := F) c tabE) (h : ¬ isNew c i te) :
    (i 1).val ≠ 0 ∧ te (ix1 (n := 288) (i 1)) = te (ix1 (n := 288) ⟨(i 1).val - 1, lt_of_le_of_lt (Nat.sub_le _ _) (i 1).isLt⟩) := by
  unfold isNew at h
  rw [either_iff, not_or, word_here, word_prev] at h
  refine ⟨fun h0 => h.1 (by rw [h0]; decide), ?_⟩
  exact words_eq _ _ h.2

/-- The tables' words are in range: an expert per tile, and at least one tile in use and no more than there are. -/
structure InRange (pf : pre0.Contents (Elt F)) : Prop where
  e : ∀ k : Fin 288, BitVec.toNat (pf 0 (ix1 (n := 288) k)) < 32
  n : 1 ≤ BitVec.toNat (pf 1 (ix1 (n := 1) 0)) ∧ BitVec.toNat (pf 1 (ix1 (n := 1) 0)) ≤ 288

/-- The expert of a tile, and the number of tiles in use. -/
def eOf (pf : pre0.Contents (Elt F)) (k : Fin 288) : ℕ := BitVec.toNat (pf 0 (ix1 (n := 288) k))
def nOf (pf : pre0.Contents (Elt F)) : ℕ := BitVec.toNat (pf 1 (ix1 (n := 1) 0))

theorem cond2_iff (i : grid0.Coords) (w : BitVec 32) (hw : w.toNat ≤ 288) : k0_cond2 i w = 1#1 ↔ (i 1).val < w.toNat := by
  have hi : (i 1).val < 288 := (i 1).isLt
  unfold k0_cond2
  refine (wide_iff _).trans ?_
  have e : w = BitVec.ofNat 32 w.toNat := BitVec.eq_of_toNat_eq (by rw [BitVec.toNat_ofNat, Nat.mod_eq_of_lt w.isLt])
  show IntOp.cmpi .slt (BitVec.ofNat 32 (i 1).val) w = 1#1 ↔ _
  rw [show IntOp.cmpi .slt (BitVec.ofNat 32 (i 1).val) w = IntOp.cmpi .slt (BitVec.ofNat 32 (i 1).val) (BitVec.ofNat 32 w.toNat) from congrArg _ e]
  exact WordCmp.cmpi_slt_ofNat_eq_one_iff (by omega) (by omega)

variable {pf : pre0.Contents (Elt F)} (hR : InRange pf)
include hR

/-- A point's tile is in use exactly when it comes before the count. -/
theorem used_iff (c : Dev nD) (i : grid0.Coords) : isUsed (F := F) c i (pf 1) ↔ (i 1).val < nOf pf := by
  unfold isUsed
  rw [show bodyRun.sl.r_2 c (pf 1) = pf 1 (ix1 (n := 1) 0) from word_count c (pf 1)]
  exact cond2_iff i _ hR.n.2

theorem at_e (i : grid0.Coords) (h1 : S1.numel = 1) (h) :
    pf.at 0 (Rect.unit (s := S288) ![(Scalar.indexCast (BitVec.ofNat 32 (i 1).val)).toNat] S1.size h) h1 = pf 0 (ix1 (n := 288) (i 1)) :=
  congrArg (pf 0) (at_idx _ _ (off_word (i 1)) _ _)
theorem at_n (h1 : S1.numel = 1) (h) : pf.at 1 (Rect.unit (s := S1) ![0] S1.size h) h1 = pf 1 (ix1 (n := 1) 0) :=
  congrArg (pf 1) (at_only _ _)

theorem min_word (i : grid0.Coords) (w : BitVec 32) (h1 : 1 ≤ w.toNat) (h2 : w.toNat ≤ 288) :
    (Scalar.minsi (BitVec.ofNat 32 (i 1).val) (Scalar.subi w 1#32)).toNat = min (i 1).val (w.toNat - 1) := by
  have hi : (i 1).val < 288 := (i 1).isLt
  have e : Scalar.subi w 1#32 = BitVec.ofNat 32 (w.toNat - 1) := by
    refine Eq.trans ?_ (less_one ⟨w.toNat - 1, by omega⟩)
    refine congrArg (fun v => Scalar.subi v 1#32) ?_
    show w = BitVec.ofNat 32 (w.toNat - 1 + 1)
    rw [Nat.sub_add_cancel h1]
    exact BitVec.eq_of_toNat_eq (by rw [BitVec.toNat_ofNat, Nat.mod_eq_of_lt w.isLt])
  rw [e]
  exact small_min _ _ hi (by omega)

/-- Where each window's block lies. -/
theorem tr0 (i : grid0.Coords) : cc0_transform_0 inb_S1_S1_0 numel1_S1 pf i = ![min (i 1).val (nOf pf - 1), 0] := by
  refine (congrArg (fun w => ![(Scalar.minsi (BitVec.ofNat 32 (i 1).val) (Scalar.subi w 1#32)).toNat, 0]) (at_n hR _ _)).trans ?_
  exact congrArg (fun n => ![n, 0]) (min_word hR i _ hR.n.1 hR.n.2)
theorem tr5 (i : grid0.Coords) : cc0_transform_5 inb_S1_S1_0 numel1_S1 pf i = ![min (i 1).val (nOf pf - 1), (i 0).val] := by
  refine (congrArg (fun w => ![(Scalar.minsi (BitVec.ofNat 32 (i 1).val) (Scalar.subi w 1#32)).toNat, (BitVec.ofNat 32 (i 0).val).toNat]) (at_n hR _ _)).trans ?_
  exact congrArg₂ (fun n k => ![n, k]) (min_word hR i _ hR.n.1 hR.n.2) (col_word (i 0))
theorem tr1 (i : grid0.Coords) : cc0_transform_1 k0_off1_inb numel1_S1 pf i = ![0, eOf pf (i 1), 0, (i 0).val] :=
  congrArg₂ (fun (w : BitVec 32) k => ![0, w.toNat, 0, k]) (at_e hR i _ _) (col_word (i 0))
theorem tr2 (i : grid0.Coords) : cc0_transform_2 k0_off1_inb numel1_S1 pf i = ![0, eOf pf (i 1), 0, 4 + (i 0).val] :=
  congrArg₂ (fun (w : BitVec 32) k => ![0, w.toNat, 0, k]) (at_e hR i _ _) (col_word4 (i 0))
theorem tr3 (i : grid0.Coords) : cc0_transform_3 k0_off1_inb numel1_S1 pf i = ![0, eOf pf (i 1), 0, (i 0).val] := tr1 hR i
theorem tr4 (i : grid0.Coords) : cc0_transform_4 k0_off1_inb numel1_S1 pf i = ![0, eOf pf (i 1), 0, 4 + (i 0).val] := tr2 hR i

/-- Every window's block lies inside its array at every point. -/
theorem ok_of_range : ok0 (F := F) pf := by
  have hj : ∀ i : grid0.Coords, (i 0).val < 4 := fun i => (i 0).isLt
  have hn : ∀ i : grid0.Coords, min (i 1).val (nOf pf - 1) < 288 := fun i => lt_of_le_of_lt (Nat.min_le_left _ _) (i 1).isLt
  have he : ∀ i : grid0.Coords, eOf pf (i 1) < 32 := fun i => hR.e (i 1)
  refine ⟨fun i => ?_, fun i => ?_, fun i => ?_, fun i => ?_, fun i => ?_, fun i => ?_⟩
  · have h : ∀ a, (cc0_transform_0 inb_S1_S1_0 numel1_S1 pf i a + 1) * S512x2048.size a ≤ S147456x2048.size a := by
      rw [tr0 hR]; have := hn i
      refine Fin.forall_fin_two.2 ⟨?_, ?_⟩
      · show (min (i 1).val (nOf pf - 1) + 1) * 512 ≤ 147456; omega
      · show (0 + 1) * 2048 ≤ 2048; omega
    exact ⟨h, Or.inl rfl⟩
  · have h : ∀ a, (cc0_transform_1 k0_off1_inb numel1_S1 pf i a + 1) * S1x1x2048x512.size a ≤ S1x32x2048x4096.size a := by
      rw [tr1 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 2048 ≤ 2048; omega
      · show ((i 0).val + 1) * 512 ≤ 4096; omega
    exact ⟨h, Or.inl rfl⟩
  · have h : ∀ a, (cc0_transform_2 k0_off1_inb numel1_S1 pf i a + 1) * S1x1x2048x512.size a ≤ S1x32x2048x4096.size a := by
      rw [tr2 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 2048 ≤ 2048; omega
      · show (4 + (i 0).val + 1) * 512 ≤ 4096; omega
    exact ⟨h, Or.inl rfl⟩
  · have h : ∀ a, (cc0_transform_3 k0_off1_inb numel1_S1 pf i a + 1) * S1x1x1x512.size a ≤ S1x32x1x4096.size a := by
      rw [tr3 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 1 ≤ 1; omega
      · show ((i 0).val + 1) * 512 ≤ 4096; omega
    exact ⟨h, Or.inl rfl⟩
  · have h : ∀ a, (cc0_transform_4 k0_off1_inb numel1_S1 pf i a + 1) * S1x1x1x512.size a ≤ S1x32x1x4096.size a := by
      rw [tr4 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 1 ≤ 1; omega
      · show (4 + (i 0).val + 1) * 512 ≤ 4096; omega
    exact ⟨h, Or.inl rfl⟩
  · have h : ∀ a, (cc0_transform_5 inb_S1_S1_0 numel1_S1 pf i a + 1) * S512x512.size a ≤ S147456x2048.size a := by
      rw [tr5 hR]; have := hn i; have := hj i
      refine Fin.forall_fin_two.2 ⟨?_, ?_⟩
      · show (min (i 1).val (nOf pf - 1) + 1) * 512 ≤ 147456; omega
      · show ((i 0).val + 1) * 512 ≤ 2048; omega
    exact ⟨h, Or.inr (Affine.block_words_dvd (by decide) (by decide))⟩

/-- The result's window is left alone where the tile is not in use. -/
theorem idle_out (i : grid0.Coords) : idle0 pf 5 i = !decide ((i 1).val < nOf pf) := by
  have hw : pf.atD 1 ![0] = pf 1 (ix1 (n := 1) 0) := by
    have h : ∀ a, (![0] : Fin 1 → ℕ) a + 1 ≤ S1.size a := fun a => by rw [Fin.fin_one_eq_zero a]; exact le_refl _
    exact (dif_pos h).trans (congrArg (pf 1) (by
      funext a
      match a with
      | ⟨0, _⟩ => rfl))
  show (!(k0_cond2 i (pf.atD 1 ![0]) == 1#1)) = _
  rw [hw, Bool.beq_eq_decide_eq]
  exact congrArg (!·) (decide_eq_decide.2 (cond2_iff i _ hR.n.2))

end Cert.Kernel2Ideal.Up
-- ==== Proof.UpFrame.lean ====
module

public import proofs.«01_k».proof.Proof.UpTables
public import Idealize.ShloMosaic.Lib.Claim
public import Idealize.ShloMosaic.Lib.Pipeline.TableIdle
public import Idealize.ShloMosaic.Lib.StableHlo.RunRead

@[expose] public section

set_option maxRecDepth 16384

noncomputable section

namespace Cert.Kernel2Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The one stretch of host operations: the weights and biases given the leading axes the blocks have. -/
abbrev stretches : List (List (HloOp τ sig (Elt F))) := [hostOps0]

/-- What each buffer of core `c` holds when the launch begins. -/
abbrev V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  hostOps0_sub

theorem stretches_fresh : (stretches : List (List (HloOp τ sig (Elt F)))).Forall fun ops => ops.Forall fun op => op.fresh = ∅ := by
  simp only [List.Forall]; repeat' constructor

set_option maxHeartbeats 1600000 in
/-- The program is its host operations followed by the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-- The buffers the host operations write, in order. -/
abbrev written : List (Ref sig .tc) := [main_v0, main_v1]

theorem written_eq : (stretches : List (List (HloOp τ sig (Elt F)))).flatten.map HloOp.writes = written.map fun w => {Proc.devRef (τ := τ) .tc w} := rfl

/-- The arguments are as launched. -/
theorem V_arg0 (c : Dev nD) : V m c main_arg0 = m ((c : Thread nD τ).loc main_arg0) := StableHlo.after_unwritten written written_eq (by decide) _
theorem V_arg1 (c : Dev nD) : V m c main_arg1 = m ((c : Thread nD τ).loc main_arg1) := StableHlo.after_unwritten written written_eq (by decide) _
theorem V_arg2 (c : Dev nD) : V m c main_arg2 = m ((c : Thread nD τ).loc main_arg2) := StableHlo.after_unwritten written written_eq (by decide) _
theorem V_arg3 (c : Dev nD) : V m c main_arg3 = m ((c : Thread nD τ).loc main_arg3) := StableHlo.after_unwritten written written_eq (by decide) _
theorem V_arg4 (c : Dev nD) : V m c main_arg4 = m ((c : Thread nD τ).loc main_arg4) := StableHlo.after_unwritten written written_eq (by decide) _

/-! ## The tables -/

/-- The tables' contents at the launch. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

variable (hR : InRange (tbl m))

/-- The tables as admitted contents, and the launch at them. -/
abbrev adm : (pcfg0 (F := F)).Adm := ⟨tbl m, ok_of_range hR⟩
abbrev cfgM : Pipeline.Cfg sig Λ₀ := cfg0 (adm m hR)

theorem tables_eq (c : Dev nD) : (Pipeline.ΦT pre0 (tbl m) c : sProp 𝕄)
    = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t` of its array at the launch. -/
def iblk (c : Dev nD) (w : Fin (cfgM m hR).W) (t : Fin (cfgM m hR).N) : (((cfgM m hR).win w).xblock ((cfgM m hR).grid.coords t)).Idx → Elt F ((cfgM m hR).win w).elt :=
  (((cfgM m hR).win w).blk t).view.read (Elt F) (V m c (Pipeline.arrRef spec0 w))

theorem before_of_0 {c : Dev nD} (dat : Dat τ (Elt F) Unit ℕ (UR sig nD τ) ℕ (cfgM m hR) c) (hA : dat.A 0 = V m c (Pipeline.arrRef spec0 0))
    (hafter : ∀ t, dat.after 0 t = iblk m hR c 0 t) (t : Fin (cfgM m hR).N) (d) : dat.before 0 t d = iblk m hR c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM m hR) c) (hA : dat.A 1 = V m c (Pipeline.arrRef spec0 1))
    (hafter : ∀ t, dat.after 1 t = iblk m hR c 1 t) (t : Fin (cfgM m hR).N) (d) : dat.before 1 t d = iblk m hR c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM m hR) c) (hA : dat.A 2 = V m c (Pipeline.arrRef spec0 2))
    (hafter : ∀ t, dat.after 2 t = iblk m hR c 2 t) (t : Fin (cfgM m hR).N) (d) : dat.before 2 t d = iblk m hR c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_of_3 {c : Dev nD} (dat : Dat τ (Elt F) Unit ℕ (UR sig nD τ) ℕ (cfgM m hR) c) (hA : dat.A 3 = V m c (Pipeline.arrRef spec0 3))
    (hafter : ∀ t, dat.after 3 t = iblk m hR c 3 t) (t : Fin (cfgM m hR).N) (d) : dat.before 3 t d = iblk m hR c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_of_4 {c : Dev nD} (dat : Dat τ (Elt F) Unit ℕ (UR sig nD τ) ℕ (cfgM m hR) c) (hA : dat.A 4 = V m c (Pipeline.arrRef spec0 4))
    (hafter : ∀ t, dat.after 4 t = iblk m hR c 4 t) (t : Fin (cfgM m hR).N) (d) : dat.before 4 t d = iblk m hR c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem live_0 (t : Fin (cfgM m hR).N) : (cfgM m hR).idle 0 (grid0.coords t) = false := rfl
theorem live_1 (t : Fin (cfgM m hR).N) : (cfgM m hR).idle 1 (grid0.coords t) = false := rfl
theorem live_2 (t : Fin (cfgM m hR).N) : (cfgM m hR).idle 2 (grid0.coords t) = false := rfl
theorem live_3 (t : Fin (cfgM m hR).N) : (cfgM m hR).idle 3 (grid0.coords t) = false := rfl
theorem live_4 (t : Fin (cfgM m hR).N) : (cfgM m hR).idle 4 (grid0.coords t) = false := rfl
set_option maxHeartbeats 1600000 in
theorem idle_5 (t : Fin (cfgM m hR).N) : (cfgM m hR).idle 5 (grid0.coords t) = !decide ((grid0.coords t 1).val < nOf (tbl m)) :=
  idle_out hR (grid0.coords t)

/-- The points' coordinates: the column strip, and the tile. -/
theorem coord0 (t : Fin grid0.N) : (grid0.coords t 0).val = t.val / 288 := by
  have ht : t.val < 1152 := Nat.lt_of_lt_of_eq t.isLt N_0
  have e : (grid0.coords t 0).val = t.val / 288 % 4 := Pipeline.Grid.coords_val t 0 (by decide) rfl
  rw [e]; omega
theorem coord1 (t : Fin grid0.N) : (grid0.coords t 1).val = t.val % 288 := by
  have e : (grid0.coords t 1).val = t.val / 1 % 288 := Pipeline.Grid.coords_val t 1 (by decide) rfl
  rw [e, Nat.div_one]

include hR in
theorem count_pos : 1 ≤ nOf (tbl m) ∧ nOf (tbl m) ≤ 288 := hR.n

/-- The point whose result a tile's buffer holds: the point itself while tiles are in use, and the strip's last point in
    use after that. -/
def base (t : Fin (cfgM m hR).N) : Fin (cfgM m hR).N :=
  ⟨288 * (t.val / 288) + min (t.val % 288) (nOf (tbl m) - 1), by have ht : t.val < (cfgM m hR).N := t.isLt; omega⟩

theorem base_used (t : Fin (cfgM m hR).N) (h : (grid0.coords t 1).val < nOf (tbl m)) : base m hR t = t := by
  rw [coord1] at h
  apply Fin.ext
  show 288 * (t.val / 288) + min (t.val % 288) (nOf (tbl m) - 1) = t.val
  omega
theorem base_prev (t : Fin (cfgM m hR).N) (h : ¬ (grid0.coords t 1).val < nOf (tbl m)) (h' : t.val - 1 < (cfgM m hR).N) :
    base m hR t = base m hR ⟨t.val - 1, h'⟩ := by
  rw [coord1] at h
  have hn := (count_pos m hR).1
  have e1 : (t.val - 1) / 288 = t.val / 288 := by omega
  have e2 : (t.val - 1) % 288 = t.val % 288 - 1 := by omega
  apply Fin.ext
  show 288 * (t.val / 288) + min (t.val % 288) (nOf (tbl m) - 1) = 288 * ((t.val - 1) / 288) + min ((t.val - 1) % 288) (nOf (tbl m) - 1)
  rw [e1, e2]; omega

/-- Before a tile that is not in use nothing is written back. -/
theorem flush_before (n : ℕ) (hn : n < (cfgM m hR).N) (hn1 : n + 1 < (cfgM m hR).N)
    (h : ¬ (grid0.coords (⟨n + 1, hn1⟩ : Fin grid0.N) 1).val < nOf (tbl m)) : ((cfgM m hR).win 5).flush ⟨n, hn⟩ = false := by
  rw [coord1] at h
  have hc := (count_pos m hR).1
  have h0 : ¬ (n + 1) % 288 < nOf (tbl m) := h
  rw [Pipeline.Window.flush_eq_flushF]
  by_contra hf
  rw [Bool.not_eq_false] at hf
  unfold Pipeline.Window.flushF at hf
  rw [Bool.and_eq_true, Bool.or_eq_true] at hf
  rcases hf.2 with hf | hf
  · have hf := of_decide_eq_true hf
    have hN : grid0.N = 1152 := N_0
    have e : n + 1 = grid0.N := hf
    have h1 : n + 1 < grid0.N := hn1
    omega
  · obtain ⟨hk, a, ha⟩ := of_decide_eq_true hf
    refine ha (congrFun ?_ a)
    refine (tr5 hR (grid0.coords ⟨n + 1, hk⟩)).trans (Eq.trans ?_ (tr5 hR (grid0.coords ⟨n, hn⟩)).symm)
    rw [coord0, coord1, coord0, coord1]
    have e1 : (n + 1) / 288 = n / 288 := by omega
    have e2 : min ((n + 1) % 288) (nOf (tbl m) - 1) = min (n % 288) (nOf (tbl m) - 1) := by omega
    show ![min ((n + 1) % 288) (nOf (tbl m) - 1), (n + 1) / 288] = ![min (n % 288) (nOf (tbl m) - 1), n / 288]
    rw [e1, e2]

/-- At a tile that is not in use the result's buffer still holds what an earlier point left. -/
theorem not_fresh : ∀ (n : ℕ) (hn : n < (cfgM m hR).N), ¬ (grid0.coords (⟨n, hn⟩ : Fin grid0.N) 1).val < nOf (tbl m) → (cfgM m hR).fresh 5 n = false
  | 0, hn, h => absurd (by rw [coord1]; exact (count_pos m hR).1) h
  | n + 1, hn, h => by
    have hn' : n < (cfgM m hR).N := Nat.lt_of_succ_lt hn
    rw [Pipeline.Cfg.fresh_succ _ _ _ hn', flush_before m hR n hn' hn h, Bool.false_or]
    by_cases hu : (grid0.coords (⟨n, hn'⟩ : Fin grid0.N) 1).val < nOf (tbl m)
    · rw [show (cfgM m hR).idle 5 ((cfgM m hR).grid.coords ⟨n, hn'⟩) = false from (idle_5 m hR ⟨n, hn'⟩).trans (by rw [decide_eq_true hu]; rfl), Bool.false_and]
    · rw [not_fresh n hn' hu, Bool.and_false]

abbrev ms0 (t : Fin (cfgM m hR).N) : Memref sig .tc .vmem S512x2048 .f32 := spec0_0.stage ((cfgM m hR).slots t 0)
abbrev hs0 (t : Fin (cfgM m hR).N) : (ms0 m hR t).IsWhole := hstage0_0 (((cfgM m hR).slots t 0).cast nbuf0_0)
abbrev ms1 (t : Fin (cfgM m hR).N) : Memref sig .tc .vmem S1x1x2048x512 .f32 := spec0_1.stage ((cfgM m hR).slots t 1)
abbrev hs1 (t : Fin (cfgM m hR).N) : (ms1 m hR t).IsWhole := hstage0_1 (((cfgM m hR).slots t 1).cast nbuf0_1)
abbrev ms2 (t : Fin (cfgM m hR).N) : Memref sig .tc .vmem S1x1x2048x512 .f32 := spec0_2.stage ((cfgM m hR).slots t 2)
abbrev hs2 (t : Fin (cfgM m hR).N) : (ms2 m hR t).IsWhole := hstage0_2 (((cfgM m hR).slots t 2).cast nbuf0_2)
abbrev ms3 (t : Fin (cfgM m hR).N) : Memref sig .tc .vmem S1x1x1x512 .f32 := spec0_3.stage ((cfgM m hR).slots t 3)
abbrev hs3 (t : Fin (cfgM m hR).N) : (ms3 m hR t).IsWhole := hstage0_3 (((cfgM m hR).slots t 3).cast nbuf0_3)
abbrev ms4 (t : Fin (cfgM m hR).N) : Memref sig .tc .vmem S1x1x1x512 .f32 := spec0_4.stage ((cfgM m hR).slots t 4)
abbrev hs4 (t : Fin (cfgM m hR).N) : (ms4 m hR t).IsWhole := hstage0_4 (((cfgM m hR).slots t 4).cast nbuf0_4)
abbrev ms5 (t : Fin (cfgM m hR).N) : Memref sig .tc .vmem S512x512 .bf16 := spec0_5.stage ((cfgM m hR).slots t 5)
abbrev hs5 (t : Fin (cfgM m hR).N) : (ms5 m hR t).IsWhole := hstage0_5 (((cfgM m hR).slots t 5).cast nbuf0_5)
abbrev scG : Memref sig .tc .vmem S2048x512 .bf16 := Memref.whole cc0_scratch0
abbrev scU : Memref sig .tc .vmem S2048x512 .bf16 := Memref.whole cc0_scratch1

/-- The body at point `t`, at the memrefs the launch hands it. -/
abbrev bodyAt (t : Fin (cfgM m hR).N) : Prog (TpuEff nD τ sig (Elt F) Λ₀ .tc) PUnit :=
  cc0_expert_up (grid0.coords t) tabE wholeE tabN wholeN (ms0 m hR t) (hs0 m hR t) (ms1 m hR t) (hs1 m hR t) (ms2 m hR t) (hs2 m hR t)
    (ms3 m hR t) (hs3 m hR t) (ms4 m hR t) (hs4 m hR t) (ms5 m hR t) (hs5 m hR t) scG (Memref.isWhole_whole _) scU (Memref.isWhole_whole _)

theorem rest_eq (c : Dev nD) : (Pipeline.ΦA spec0 c : sProp 𝕄)
    = iprop(((∃ d, owns (c : Thread nD τ) scG fullShare d) ∗ (∃ d, owns (c : Thread nD τ) scU fullShare d)) ∗ (∃ r, prngReg c r)) := by
  unfold Pipeline.ΦA; rw [scopedRest0_eq]; simp only [scG, scU, owns_whole]; try rfl

/-! ## The running state -/

/-- The five input blocks of point `t`, at their shapes: the rows, the gate's and the linear part's weights, their biases. -/
abbrev bx (c : Dev nD) (t : Fin (cfgM m hR).N) : Vec F S512x2048 .f32 := iblk m hR c 0 t
abbrev bg (c : Dev nD) (t : Fin (cfgM m hR).N) : Vec F S1x1x2048x512 .f32 := iblk m hR c 1 t
abbrev bu (c : Dev nD) (t : Fin (cfgM m hR).N) : Vec F S1x1x2048x512 .f32 := iblk m hR c 2 t
abbrev ba (c : Dev nD) (t : Fin (cfgM m hR).N) : Vec F S1x1x1x512 .f32 := iblk m hR c 3 t
abbrev bb (c : Dev nD) (t : Fin (cfgM m hR).N) : Vec F S1x1x1x512 .f32 := iblk m hR c 4 t

/-- The narrowed weights of point `t`, and the result's block computed there. -/
def sG (c : Dev nD) (t : Fin (cfgM m hR).N) : Vec F S2048x512 .bf16 := k0_pay1 (bg m hR c t)
def sU (c : Dev nD) (t : Fin (cfgM m hR).N) : Vec F S2048x512 .bf16 := k0_pay2 (bu m hR c t)
def outS (c : Dev nD) (t : Fin (cfgM m hR).N) : Vec F S512x512 .bf16 :=
  k0_pay3 (bx m hR c t) (sG m hR c t) (ba m hR c t) (sU m hR c t) (bb m hR c t)

theorem emb1_val (t : Fin (cfgM m hR).N) (y : S1x1x2048x512.Idx) (a : Fin 4) :
    ((((cfgM m hR).win 1).rect t).emb y a).val
      = (![0, eOf (tbl m) (grid0.coords t 1), 0, (grid0.coords t 0).val] : Fin 4 → ℕ) a * S1x1x2048x512.size a + (y a).val := by
  rw [← tr1 hR (grid0.coords t)]
  exact Pipeline.Window.rect_emb_val ((cfgM m hR).win 1) t y a rfl
theorem emb2_val (t : Fin (cfgM m hR).N) (y : S1x1x2048x512.Idx) (a : Fin 4) :
    ((((cfgM m hR).win 2).rect t).emb y a).val
      = (![0, eOf (tbl m) (grid0.coords t 1), 0, 4 + (grid0.coords t 0).val] : Fin 4 → ℕ) a * S1x1x2048x512.size a + (y a).val := by
  rw [← tr2 hR (grid0.coords t)]
  exact Pipeline.Window.rect_emb_val ((cfgM m hR).win 2) t y a rfl

/-- Two points of one strip whose tiles have one expert have the same weights. -/
theorem same_G (c : Dev nD) (t t' : Fin (cfgM m hR).N) (hj : (grid0.coords t 0).val = (grid0.coords t' 0).val)
    (he : eOf (tbl m) (grid0.coords t 1) = eOf (tbl m) (grid0.coords t' 1)) : sG m hR c t = sG m hR c t' := by
  refine congrArg k0_pay1 (funext fun y => ?_)
  refine congrArg (V m c main_v0) (funext fun a => Fin.ext ?_)
  exact (emb1_val m hR t y a).trans ((by rw [hj, he] : _ = _).trans (emb1_val m hR t' y a).symm)
theorem same_U (c : Dev nD) (t t' : Fin (cfgM m hR).N) (hj : (grid0.coords t 0).val = (grid0.coords t' 0).val)
    (he : eOf (tbl m) (grid0.coords t 1) = eOf (tbl m) (grid0.coords t' 1)) : sU m hR c t = sU m hR c t' := by
  refine congrArg k0_pay2 (funext fun y => ?_)
  refine congrArg (V m c main_v0) (funext fun a => Fin.ext ?_)
  exact (emb2_val m hR t y a).trans ((by rw [hj, he] : _ = _).trans (emb2_val m hR t' y a).symm)

/-- A point that meets no new expert has the weights of the point before. -/
theorem kept (c : Dev nD) (t : Fin (cfgM m hR).N) (h : ¬ isNew c (grid0.coords t) (tbl m 0)) (h' : t.val - 1 < (cfgM m hR).N) :
    t.val ≠ 0 ∧ sG m hR c t = sG m hR c ⟨t.val - 1, h'⟩ ∧ sU m hR c t = sU m hR c ⟨t.val - 1, h'⟩ := by
  obtain ⟨h0, he⟩ := not_new c (grid0.coords t) (tbl m 0) h
  have h0' : t.val % 288 ≠ 0 := by rw [← coord1]; exact h0
  have hj : (grid0.coords t 0).val = (grid0.coords (⟨t.val - 1, h'⟩ : Fin grid0.N) 0).val := by
    rw [coord0, coord0]; show t.val / 288 = (t.val - 1) / 288; omega
  have hi : (⟨(grid0.coords t 1).val - 1, lt_of_le_of_lt (Nat.sub_le _ _) (grid0.coords t 1).isLt⟩ : Fin 288) = grid0.coords (⟨t.val - 1, h'⟩ : Fin grid0.N) 1 := by
    apply Fin.ext
    refine Eq.trans ?_ (coord1 _).symm
    have e := coord1 t
    show (grid0.coords t 1).val - 1 = (t.val - 1) % 288
    omega
  have hE : eOf (tbl m) (grid0.coords t 1) = eOf (tbl m) (grid0.coords (⟨t.val - 1, h'⟩ : Fin grid0.N) 1) := by
    rw [← hi]; exact congrArg BitVec.toNat he
  exact ⟨fun hz => h0' (by rw [hz]), same_G m hR c t _ hj hE, same_U m hR c t _ hj hE⟩

/-- A point's run from buffers that hold the point before's narrowed weights whenever the point meets no new expert. -/
theorem run_step (c : Dev nD) (t : Fin (cfgM m hR).N) (a4 h4 a5 h5 a6 h6 a7 h7 a8 h8 a9 h9 a10 h10 a11 h11) (xo : Vec F S512x512 .bf16) (sg su : Vec F S2048x512 .bf16)
    (hs : ¬ isNew c (grid0.coords t) (tbl m 0) → sg = sG m hR c t ∧ su = sU m hR c t) :
    (bodyRun c (grid0.coords t) a4 h4 a5 h5 a6 h6 a7 h7 a8 h8 a9 h9 a10 h10 a11 h11 (bx m hR c t) (bg m hR c t) (bu m hR c t) (ba m hR c t) (bb m hR c t) xo sg su (tbl m 0) (tbl m 1)).1
      = (sG m hR c t, sU m hR c t, if (grid0.coords t 1).val < nOf (tbl m) then outS m hR c t else xo) :=
  bodyRun_kept (hs := hs) (hq := used_iff hR c (grid0.coords t)) ..

/-- The invariant before point `n`. -/
def PhiS (c : Dev nD) : (n : ℕ) → n ≤ (cfgM m hR).N → sProp 𝕄
  | 0, _ => iprop(Pipeline.ΦA spec0 c ∗ Pipeline.ΦT pre0 (tbl m) c)
  | n + 1, hn => iprop(((owns (c : Thread nD τ) scG fullShare (sG m hR c ⟨n, hn⟩) ∗ owns (c : Thread nD τ) scU fullShare (sU m hR c ⟨n, hn⟩))
      ∗ (∃ r, prngReg c r)) ∗ Pipeline.ΦT pre0 (tbl m) c)

theorem PhiS_zero (c : Dev nD) (n : ℕ) (h : n ≤ (cfgM m hR).N) (hz : n = 0) : PhiS m hR c n h = iprop(Pipeline.ΦA spec0 c ∗ Pipeline.ΦT pre0 (tbl m) c) := by
  subst hz; rfl
theorem PhiS_pos (c : Dev nD) (n : ℕ) (h : n ≤ (cfgM m hR).N) (hz : n ≠ 0) (h' : n - 1 < (cfgM m hR).N) :
    PhiS m hR c n h = iprop(((owns (c : Thread nD τ) scG fullShare (sG m hR c ⟨n - 1, h'⟩) ∗ owns (c : Thread nD τ) scU fullShare (sU m hR c ⟨n - 1, h'⟩))
      ∗ (∃ r, prngReg c r)) ∗ Pipeline.ΦT pre0 (tbl m) c) := by
  cases n with
  | zero => exact absurd rfl hz
  | succ n => rfl

/-- The launch's proof data. -/
def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => iblk m hR c 3 t
    | ⟨4, _⟩ => iblk m hR c 4 t
    | ⟨5, _⟩ => outS m hR c (base m hR t)
  Φ t := PhiS m hR c t.val (Nat.le_of_lt_succ t.isLt)
  q w := Pipeline.shareOf spec0 w
  owed _ := 0

theorem A_eq (c : Dev nD) (w : Fin (cfgM m hR).W) : (dats m hR 0 c).A w = V m c (Pipeline.arrRef spec0 w) := by
  dsimp only [dats]
theorem Phi_at (c : Dev nD) (t : Fin (cfgM m hR).N) : (dats m hR 0 c).Φ t.castSucc = PhiS m hR c t.val (Nat.le_of_lt t.isLt) := by
  dsimp only [dats]; exact Pipeline.Dat.Φ_castSucc (PhiS m hR c) t
theorem after_0 (c : Dev nD) (t : Fin (cfgM m hR).N) : (dats m hR 0 c).after 0 t = iblk m hR c 0 t := by dsimp only [dats]; try rfl
theorem after_1 (c : Dev nD) (t : Fin (cfgM m hR).N) : (dats m hR 0 c).after 1 t = iblk m hR c 1 t := by dsimp only [dats]; try rfl
theorem after_2 (c : Dev nD) (t : Fin (cfgM m hR).N) : (dats m hR 0 c).after 2 t = iblk m hR c 2 t := by dsimp only [dats]; try rfl
theorem after_3 (c : Dev nD) (t : Fin (cfgM m hR).N) : (dats m hR 0 c).after 3 t = iblk m hR c 3 t := by dsimp only [dats]; try rfl
theorem after_4 (c : Dev nD) (t : Fin (cfgM m hR).N) : (dats m hR 0 c).after 4 t = iblk m hR c 4 t := by dsimp only [dats]; try rfl
theorem after_5 (c : Dev nD) (t : Fin (cfgM m hR).N) : (dats m hR 0 c).after 5 t = outS m hR c (base m hR t) := by dsimp only [dats]; try rfl
theorem before_0 (c : Dev nD) (t : Fin (cfgM m hR).N) (d) : (dats m hR 0 c).before 0 t d = iblk m hR c 0 t :=
  before_of_0 m hR (dats m hR 0 c) (A_eq m hR c 0) (after_0 m hR c) t d
theorem before_1 (c : Dev nD) (t : Fin (cfgM m hR).N) (d) : (dats m hR 0 c).before 1 t d = iblk m hR c 1 t :=
  before_of_1 m hR (dats m hR 0 c) (A_eq m hR c 1) (after_1 m hR c) t d
theorem before_2 (c : Dev nD) (t : Fin (cfgM m hR).N) (d) : (dats m hR 0 c).before 2 t d = iblk m hR c 2 t :=
  before_of_2 m hR (dats m hR 0 c) (A_eq m hR c 2) (after_2 m hR c) t d
theorem before_3 (c : Dev nD) (t : Fin (cfgM m hR).N) (d) : (dats m hR 0 c).before 3 t d = iblk m hR c 3 t :=
  before_of_3 m hR (dats m hR 0 c) (A_eq m hR c 3) (after_3 m hR c) t d
theorem before_4 (c : Dev nD) (t : Fin (cfgM m hR).N) (d) : (dats m hR 0 c).before 4 t d = iblk m hR c 4 t :=
  before_of_4 m hR (dats m hR 0 c) (A_eq m hR c 4) (after_4 m hR c) t d
theorem leaves_0 (c : Dev nD) (t : Fin (cfgM m hR).N) : (dats m hR 0 c).leavesExact 0 t = owns (c : Thread nD τ) (ms0 m hR t) fullShare (iblk m hR c 0 t) := by
  unfold Dat.leavesExact; rw [live_0 m hR t]; exact congrArg (owns (c : Thread nD τ) (ms0 m hR t) fullShare) (after_0 m hR c t)
theorem leaves_1 (c : Dev nD) (t : Fin (cfgM m hR).N) : (dats m hR 0 c).leavesExact 1 t = owns (c : Thread nD τ) (ms1 m hR t) fullShare (iblk m hR c 1 t) := by
  unfold Dat.leavesExact; rw [live_1 m hR t]; exact congrArg (owns (c : Thread nD τ) (ms1 m hR t) fullShare) (after_1 m hR c t)
theorem leaves_2 (c : Dev nD) (t : Fin (cfgM m hR).N) : (dats m hR 0 c).leavesExact 2 t = owns (c : Thread nD τ) (ms2 m hR t) fullShare (iblk m hR c 2 t) := by
  unfold Dat.leavesExact; rw [live_2 m hR t]; exact congrArg (owns (c : Thread nD τ) (ms2 m hR t) fullShare) (after_2 m hR c t)
theorem leaves_3 (c : Dev nD) (t : Fin (cfgM m hR).N) : (dats m hR 0 c).leavesExact 3 t = owns (c : Thread nD τ) (ms3 m hR t) fullShare (iblk m hR c 3 t) := by
  unfold Dat.leavesExact; rw [live_3 m hR t]; exact congrArg (owns (c : Thread nD τ) (ms3 m hR t) fullShare) (after_3 m hR c t)
theorem leaves_4 (c : Dev nD) (t : Fin (cfgM m hR).N) : (dats m hR 0 c).leavesExact 4 t = owns (c : Thread nD τ) (ms4 m hR t) fullShare (iblk m hR c 4 t) := by
  unfold Dat.leavesExact; rw [live_4 m hR t]; exact congrArg (owns (c : Thread nD τ) (ms4 m hR t) fullShare) (after_4 m hR c t)

/-- At a tile that is not in use the result's buffer holds the strip's last result. -/
theorem before_5 (c : Dev nD) (t : Fin (cfgM m hR).N) (h : ¬ (grid0.coords t 1).val < nOf (tbl m)) (d) :
    (dats m hR 0 c).before 5 t d = outS m hR c (base m hR t) := by
  have h' : t.val - 1 < (cfgM m hR).N := Nat.lt_of_le_of_lt (Nat.sub_le _ _) t.isLt
  refine ((dats m hR 0 c).before_out_traj 5 rfl (fun _ _ => rfl) ?_ t.val t rfl d).trans ?_
  · intro t' ht' hi hf
    have hu : ¬ (grid0.coords t' 1).val < nOf (tbl m) := fun hu => by
      have e := (idle_5 m hR t').symm.trans hi
      rw [decide_eq_true hu] at e
      exact absurd e (by decide)
    rw [after_5, after_5]
    exact congrArg (outS m hR c) (base_prev m hR t' hu _)
  · rw [not_fresh m hR t.val t.isLt h, if_neg Bool.false_ne_true, after_5]
    exact congrArg (outS m hR c) (base_prev m hR t h _).symm

/-- At a tile in use the result's block is as the body leaves it. -/
theorem leaves_used (c : Dev nD) (t : Fin (cfgM m hR).N) (h : (grid0.coords t 1).val < nOf (tbl m)) :
    (dats m hR 0 c).leavesExact 5 t = owns (c : Thread nD τ) (ms5 m hR t) fullShare (outS m hR c t) := by
  unfold Dat.leavesExact; rw [idle_5 m hR t, decide_eq_true h]
  exact congrArg (owns (c : Thread nD τ) (ms5 m hR t) fullShare) ((after_5 m hR c t).trans (congrArg (outS m hR c) (base_used m hR t h)))

/-! ## The body -/

def bodyPre (c : Dev nD) (t : Fin (cfgM m hR).N) : sProp 𝕄 :=
  iprop((dats m hR 0 c).Φ t.castSucc ∗ (dats m hR 0 c).owesAt () t.castSucc
    ∗ (∃ d, owns (c : Thread nD τ) (ms0 m hR t) fullShare ((dats m hR 0 c).before 0 t d))
    ∗ (∃ d, owns (c : Thread nD τ) (ms1 m hR t) fullShare ((dats m hR 0 c).before 1 t d))
    ∗ (∃ d, owns (c : Thread nD τ) (ms2 m hR t) fullShare ((dats m hR 0 c).before 2 t d))
    ∗ (∃ d, owns (c : Thread nD τ) (ms3 m hR t) fullShare ((dats m hR 0 c).before 3 t d))
    ∗ (∃ d, owns (c : Thread nD τ) (ms4 m hR t) fullShare ((dats m hR 0 c).before 4 t d))
    ∗ (∃ d, owns (c : Thread nD τ) (ms5 m hR t) fullShare ((dats m hR 0 c).before 5 t d)))
def bodyPost (c : Dev nD) (t : Fin (cfgM m hR).N) : sProp 𝕄 :=
  iprop((dats m hR 0 c).Φ t.succ ∗ (dats m hR 0 c).owesAt () t.succ
    ∗ (dats m hR 0 c).leavesExact 0 t ∗ (dats m hR 0 c).leavesExact 1 t ∗ (dats m hR 0 c).leavesExact 2 t ∗ (dats m hR 0 c).leavesExact 3 t
    ∗ (dats m hR 0 c).leavesExact 4 t ∗ (dats m hR 0 c).leavesExact 5 t)

/-- What the body leaves in the result's buffer is what the launch expects of it. -/
theorem leaves_out (c : Dev nD) (t : Fin (cfgM m hR).N) (d) (xo : Vec F S512x512 .bf16) (hx : xo = (dats m hR 0 c).before 5 t d) :
    owns (c : Thread nD τ) (ms5 m hR t) fullShare (if (grid0.coords t 1).val < nOf (tbl m) then outS m hR c t else xo)
      ⊢ (dats m hR 0 c).leavesExact 5 t := by
  by_cases h : (grid0.coords t 1).val < nOf (tbl m)
  · rw [if_pos h, leaves_used m hR c t h]
  · rw [if_neg h]
    have hi : (cfgM m hR).idle 5 ((cfgM m hR).grid.coords t) = true := (idle_5 m hR t).trans (by rw [decide_eq_false h]; rfl)
    by_cases hf : ((cfgM m hR).win 5).flush t = true
    · rw [hx, before_5 m hR c t h d, ← after_5]
      unfold Dat.leavesExact; rw [hi, hf]; exact .rfl
    · rw [(dats m hR 0 c).leavesExact_idle 5 t hi (Bool.eq_false_iff.2 hf), hx]
      iintro H; iexists d; iexact H

/-- The point's run from the buffers' contents to the next state, the inputs and the tables given back. -/
theorem body_core (c : Dev nD) (t : Fin (cfgM m hR).N) (d : _) (sg su : Vec F S2048x512 .bf16)
    (hs : ¬ isNew c (grid0.coords t) (tbl m 0) → sg = sG m hR c t ∧ su = sU m hR c t) (K : PUnit → sProp 𝕄) :
    iprop(owns (c : Thread nD τ) (ms0 m hR t) fullShare (iblk m hR c 0 t) ∗ owns (c : Thread nD τ) (ms1 m hR t) fullShare (iblk m hR c 1 t)
        ∗ owns (c : Thread nD τ) (ms2 m hR t) fullShare (iblk m hR c 2 t) ∗ owns (c : Thread nD τ) (ms3 m hR t) fullShare (iblk m hR c 3 t)
        ∗ owns (c : Thread nD τ) (ms4 m hR t) fullShare (iblk m hR c 4 t)
        ∗ owns (c : Thread nD τ) (ms5 m hR t) fullShare ((dats m hR 0 c).before 5 t d)
        ∗ owns (c : Thread nD τ) scG fullShare sg ∗ owns (c : Thread nD τ) scU fullShare su
        ∗ Pipeline.ΦT pre0 (tbl m) c
        ∗ (iprop(owns (c : Thread nD τ) (ms0 m hR t) fullShare (iblk m hR c 0 t) ∗ owns (c : Thread nD τ) (ms1 m hR t) fullShare (iblk m hR c 1 t)
          ∗ owns (c : Thread nD τ) (ms2 m hR t) fullShare (iblk m hR c 2 t) ∗ owns (c : Thread nD τ) (ms3 m hR t) fullShare (iblk m hR c 3 t)
          ∗ owns (c : Thread nD τ) (ms4 m hR t) fullShare (iblk m hR c 4 t)
          ∗ (dats m hR 0 c).leavesExact 5 t
          ∗ owns (c : Thread nD τ) scG fullShare (sG m hR c t) ∗ owns (c : Thread nD τ) scU fullShare (sU m hR c t)
          ∗ Pipeline.ΦT pre0 (tbl m) c) -∗ K ⟨⟩))
      ⊢ wp frame (wpE (defs₀ (F := F)) Variants.none c none) Set.univ (bodyAt m hR t) K := by
  rw [tables_eq]
  have hrun := (bodyRun c (grid0.coords t) (ms0 m hR t) (hs0 m hR t) (ms1 m hR t) (hs1 m hR t) (ms2 m hR t) (hs2 m hR t) (ms3 m hR t) (hs3 m hR t)
    (ms4 m hR t) (hs4 m hR t) (ms5 m hR t) (hs5 m hR t) scG (Memref.isWhole_whole _) scU (Memref.isWhole_whole _)
    (bx m hR c t) (bg m hR c t) (bu m hR c t) (ba m hR c t) (bb m hR c t) ((dats m hR 0 c).before 5 t d) sg su (tbl m 0) (tbl m 1)).2 Set.univ K
  rw [run_step m hR c t _ _ _ _ _ _ _ _ _ _ _ _ _ _ _ _ ((dats m hR 0 c).before 5 t d) sg su hs] at hrun
  iintro ⟨H0, H1, H2, H3, H4, H5, HG, HU, ⟨Ta, Tb⟩, Hk⟩
  iapply hrun
  isplitl [H0]; · iexact H0
  isplitl [H1]; · iexact H1
  isplitl [H2]; · iexact H2
  isplitl [H3]; · iexact H3
  isplitl [H4]; · iexact H4
  isplitl [H5]; · iexact H5
  isplitl [HG]; · iexact HG
  isplitl [HU]; · iexact HU
  isplitl [Ta]; · iexact Ta
  isplitl [Tb]; · iexact Tb
  iintro ⟨H0, H1, H2, H3, H4, H5, HG, HU, Ta, Tb⟩
  iapply Hk
  isplitl [H0]; · iexact H0
  isplitl [H1]; · iexact H1
  isplitl [H2]; · iexact H2
  isplitl [H3]; · iexact H3
  isplitl [H4]; · iexact H4
  isplitl [H5]
  · iapply (leaves_out m hR c t d _ rfl); iexact H5
  isplitl [HG]; · iexact HG
  isplitl [HU]; · iexact HU
  isplitl [Ta]; · iexact Ta
  iexact Tb

set_option maxHeartbeats 1600000 in
/-- The body at any point. -/
theorem sound_body (c : Dev nD) (t : Fin (cfgM m hR).N) :
    bodyPre m hR c t ⊢ wp frame (wpE (defs₀ (F := F)) Variants.none c none) Set.univ (bodyAt m hR t) (fun _ => bodyPost m hR c t) := by
  have h' : t.val - 1 < (cfgM m hR).N := Nat.lt_of_le_of_lt (Nat.sub_le _ _) t.isLt
  unfold bodyPre bodyPost
  simp only [before_0, before_1, before_2, before_3, before_4]
  rw [show (dats m hR 0 c).owesAt () t.succ = (dats m hR 0 c).owesAt () t.castSucc from rfl]
  rw [show (dats m hR 0 c).Φ t.succ = PhiS m hR c (t.val + 1) t.isLt from rfl, PhiS_pos m hR c (t.val + 1) _ (Nat.succ_ne_zero _) t.isLt]
  rw [leaves_0, leaves_1, leaves_2, leaves_3, leaves_4, Phi_at]
  by_cases hz : t.val = 0
  · rw [PhiS_zero m hR c _ _ hz, rest_eq]
    iintro ⟨⟨⟨⟨⟨%sg, HG⟩, ⟨%su, HU⟩⟩, Hg⟩, HT⟩, Ho, ⟨%d0, H0⟩, ⟨%d1, H1⟩, ⟨%d2, H2⟩, ⟨%d3, H3⟩, ⟨%d4, H4⟩, ⟨%d5, H5⟩⟩
    iapply (body_core m hR c t d5 sg su (fun h => absurd hz (kept m hR c t h h').1) _)
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HT]; · iexact HT
    iintro ⟨H0, H1, H2, H3, H4, H5, HG, HU, HT⟩
    isplitl [HG HU Hg HT]
    · isplitl [HG HU Hg]
      · isplitl [HG HU]
        · isplitl [HG]; · iexact HG
          iexact HU
        iexact Hg
      iexact HT
    isplitl [Ho]; · iexact Ho
    isplitl [H0]; · iexact H0
    isplitl [H1]; · iexact H1
    isplitl [H2]; · iexact H2
    isplitl [H3]; · iexact H3
    isplitl [H4]; · iexact H4
    iexact H5
  · rw [PhiS_pos m hR c t.val _ hz h']
    iintro ⟨⟨⟨⟨HG, HU⟩, Hg⟩, HT⟩, Ho, ⟨%d0, H0⟩, ⟨%d1, H1⟩, ⟨%d2, H2⟩, ⟨%d3, H3⟩, ⟨%d4, H4⟩, ⟨%d5, H5⟩⟩
    iapply (body_core m hR c t d5 _ _ (fun h => ⟨(kept m hR c t h h').2.1.symm, (kept m hR c t h h').2.2.symm⟩) _)
    isplitl [H0]; · iexact H0
    isplitl [H1]; · iexact H1
    isplitl [H2]; · iexact H2
    isplitl [H3]; · iexact H3
    isplitl [H4]; · iexact H4
    isplitl [H5]; · iexact H5
    isplitl [HG]; · iexact HG
    isplitl [HU]; · iexact HU
    isplitl [HT]; · iexact HT
    iintro ⟨H0, H1, H2, H3, H4, H5, HG, HU, HT⟩
    isplitl [HG HU Hg HT]
    · isplitl [HG HU Hg]
      · isplitl [HG HU]
        · isplitl [HG]; · iexact HG
          iexact HU
        iexact Hg
      iexact HT
    isplitl [Ho]; · iexact Ho
    isplitl [H0]; · iexact H0
    isplitl [H1]; · iexact H1
    isplitl [H2]; · iexact H2
    isplitl [H3]; · iexact H3
    isplitl [H4]; · iexact H4
    iexact H5

theorem row_eq (t : Fin (cfgM m hR).N) :
    defs₀ (F := F) .tc (cfgM m hR).body ((cfgM m hR).bodyArgs t ((cfgM m hR).slots t)) = bodyAt m hR t := by
  unfold defs₀; rw [Defs.onTc_tc]

set_option maxHeartbeats 1600000 in
theorem body_obligation (c : Dev nD) : BodyObligation (dats (F := F) m hR 0 c) (defs₀ (F := F)) Variants.none () Set.univ := fun t => by
  rw [bigSep_W0, bigSep_W0, row_eq m hR]
  exact triple_restated (sound_body m hR c t) rfl .rfl fun _ => .rfl

theorem hin (c : Dev nD) : iprop(Pipeline.ΦA spec0 c ∗ Pipeline.ΦT pre0 (tbl m) c) ⊢ (dats m hR 0 c).Φ 0 := by
  rw [show (dats m hR 0 c).Φ 0 = PhiS m hR c 0 (Nat.zero_le _) from rfl, PhiS_zero m hR c 0 _ rfl]
theorem hout (c : Dev nD) : (dats m hR 0 c).Φ (Fin.last (cfgM m hR).N) ⊢ Pipeline.ΦA spec0 c := by
  have hN : (cfgM m hR).N = 1152 := N_0
  rw [show (dats m hR 0 c).Φ (Fin.last (cfgM m hR).N) = PhiS m hR c (cfgM m hR).N (le_refl _) from rfl,
    PhiS_pos m hR c (cfgM m hR).N _ (by omega) (by omega), rest_eq]
  iintro ⟨⟨⟨HG, HU⟩, Hg⟩, -⟩
  isplitl [HG HU]
  · isplitl [HG]; · iexists _; iexact HG
    iexists _; iexact HU
  iexact Hg

set_option backward.isDefEq.respectTransparency.types false in
/-- The whole run: every array of the launch ends at what the points leave there, every other buffer as the launch found
    it, every counter at zero. -/
theorem run_all : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP_track_shared (Q' := _) pcfgs (fun _ => adm m hR) (dats m hR) (0 : Fin 1) launch₀0 defs₀ Variants.none m ρ main
    (hbody := fun c => (body_obligation m hR c).loose) (hq := fun _ _ _ => rfl)
    (howed := fun _ _ => rfl) (V := V m) (hmain := hmain m Variants.none) (hA := A_eq m hR) (hpf := V_pre m) (hin := hin m hR) (hout := hout m hR)

/-- The arguments end as they began, the result at what the points leave in it, every counter at zero. -/
theorem run_main : θ_run defs (onTc (τ := τ) (main (F := F))) ⟨m, fun _ => 0, ρ⟩ (fun r => (∀ c : Dev nD,
      r.2.mem ((c.tc : Thread nD τ).loc main_v2) = (dats m hR 0 c).arrAt 5 (cfgM m hR).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).1 0).trans (((dats m hR 0 c).arrAt_in 0 rfl _).trans ((A_eq m hR c 0).trans (V_arg2 m c))),
    ((h.1 c).2 main_arg3 (by decide : main_arg3 ∈ Pipeline.restRefs sig spec0)).trans (V_arg3 m c),
    ((h.1 c).2 main_arg4 (by decide : main_arg4 ∈ Pipeline.restRefs sig spec0)).trans (V_arg4 m c)⟩, h.2⟩) (run_all m ρ hR)

end Cert.Kernel2Ideal.Up
-- ==== Proof.UpRef.lean ====
module

public import proofs.«01_k».proof.Proof.RefValue
public import proofs.«01_k».proof.Proof.Gen.Reference2Ideal.Read

/-! # The second reference's result, entry by entry -/

@[expose] public section

noncomputable section

namespace Cert.Up

open Idealize.ShloMosaic hiding ix1 ix2 ix3 ix4 ix5
open Idealize.ShloMosaic.ValueIdx
open Cert.Reference2Ideal (S288 S147456x2048 S32x2048x4096 S32x4096 S288x512x2048 S288x512x4096)

abbrev Xs := FVec Ideal S147456x2048 .f32
abbrev Ws := FVec Ideal S32x2048x4096 .f32
abbrev Bs := FVec Ideal S32x4096 .f32

/-- The gate cut off at 7. -/
def gate (g : EReal) : EReal := FloatOps.minimumf (F := Ideal) (φ := .f32) g (Ideal.ofBits .f32 0x40E00000#32)
/-- The linear part kept between −7 and 7. -/
def lin (u : EReal) : EReal :=
  FloatOps.minimumf (F := Ideal) (φ := .f32) (Ideal.ofBits .f32 0x40E00000#32) (FloatOps.maximumf (F := Ideal) (φ := .f32) (Ideal.ofBits .f32 0xC0E00000#32) u)
/-- The activation: the linear part plus one, times the gate, times the logistic function of 1.702 gates. -/
def glu (g u : EReal) : EReal :=
  (lin u + Ideal.ofBits .f32 0x3F800000#32) * gate g
    * FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (-(Ideal.ofBits .f32 0x3FD9DB23#32 * gate g) : EReal)))

/-- One entry of a row's product with an expert's weights, the bias added. -/
def lay (x : Xs) (w : Ws) (b : Bs) (e : Fin 32) (r : Fin 147456) (n : Fin 4096) : EReal :=
  (∑ k : Fin 2048, x (ix2 (n0 := 147456) (n1 := 2048) r k) * w (ix3 (n0 := 32) (n1 := 2048) (n2 := 4096) e k n)) + b (ix2 (n0 := 32) (n1 := 4096) e n)

/-- One entry of the result: the activation of a gate column and the linear column 2048 after it. -/
def res (x : Xs) (w : Ws) (b : Bs) (e : Fin 32) (r : Fin 147456) (n : Fin 2048) : EReal :=
  glu (lay x w b e r ⟨n.val, by omega⟩) (lay x w b e r ⟨2048 + n.val, by omega⟩)

end Cert.Up

namespace Cert.Reference2Ideal.Value

open Idealize.ShloMosaic hiding ix1 ix2 ix3 ix4 ix5
open Idealize.ShloMosaic.ValueIdx
open Cert.Reference2Ideal Cert.Reference2Ideal.Read Cert.Reference2Ideal.Facts₀ Cert.Reference2Ideal.Facts
open Cert.Up

abbrev Te := IVec S288 32

theorem v35_at (te : Te) (x : Xs) (w : Ws) (b : Bs) (j : S288x512x2048.Idx) :
    val_main_v35 (F := Ideal) te x w b j = glu (val_main_v18 (F := Ideal) te x w b (idx_main_v19 j)) (val_main_v18 (F := Ideal) te x w b (idx_main_v20 j)) := by
  rw [val_main_v35_apply, val_main_v26_apply, val_main_v25_apply, val_main_v23_apply, val_main_call0_v4_apply, val_main_call0_v3_apply, val_main_cst_4_apply,
    val_main_call0_v2_apply, val_main_call0_v1_apply, val_main_call0_v0_apply, val_main_cst_3_apply, val_main_v24_apply, val_main_cst_5_apply,
    val_main_v34_apply, val_main_v33_apply, val_main_cst_8_apply, val_main_v32_apply, val_main_v31_apply, val_main_cst_7_apply,
    val_main_v30_apply, val_main_v29_apply, val_main_v28_apply, val_main_v27_apply, val_main_cst_6_apply,
    val_main_v22_apply, val_main_v21_apply, val_main_cst_apply, val_main_v19_apply, val_main_v20_apply]
  rfl

theorem v6_at (te : Te) (i : S288x1.Idx) (k : Fin 288) (hk : (i 0).val = k.val) (h : (te (ix1 (n := 288) k)).toNat < 32) :
    val_main_v6 (F := Ideal) te i = te (ix1 (n := 288) k) := by
  have e : idx_main_v6 i = ix1 (n := 288) k := by
    funext a
    match a with
    | ⟨0, _⟩ => exact Fin.ext hk
  rw [val_main_v6_apply, e, val_main_v5_apply, val_main_v2_apply, val_main_v1_apply, val_main_c_apply]
  exact Cert.ReferenceIdeal.Value.wrapped _ _ 0 (by omega)

theorem v14_at (te : Te) (i : S288x1.Idx) (k : Fin 288) (hk : (i 0).val = k.val) (h : (te (ix1 (n := 288) k)).toNat < 32) :
    val_main_v14 (F := Ideal) te i = te (ix1 (n := 288) k) := v6_at te i k hk h

theorem v7_at (te : Te) (w : Ws) (i : S288x2048x4096.Idx) (k : Fin 288) (hk : (i 0).val = k.val) (h : (te (ix1 (n := 288) k)).toNat < 32) (j : S32x2048x4096.Idx)
    (h0 : (j 0).val = (te (ix1 (n := 288) k)).toNat) (h1 : (j 1).val = (i 1).val) (h2 : (j 2).val = (i 2).val) :
    val_main_v7 (F := Ideal) te w i = w j := by
  unfold val_main_v7 Host.gather
  refine congrArg w (funext fun a => Fin.ext ?_)
  let D := gather_S32x2048x4096_S288x1_S288x2048x4096_12_0_n_n_0_1_120484096
  show D.start i (val_main_v6 (F := Ideal) te) a + D.batchCoord i a + D.offCoord i a = _
  rw [GatherDims.batchCoord_eq_zero _ _ _ List.not_mem_nil, Nat.add_zero]
  have e0 : D.start i (val_main_v6 (F := Ideal) te) 0 + D.offCoord i 0 = (te (ix1 (n := 288) k)).toNat := by
    rw [GatherDims.offCoord_eq_zero _ _ _ (fun h => ((GatherDims.mem_sKept _ _).mp h).1 (by decide)), Nat.add_zero]
    unfold GatherDims.start
    rw [dif_pos (show (0 : Fin 3) ∈ D.startIndexMap by decide)]
    rw [v6_at te (D.siIdx i ⟨List.idxOf (0 : Fin 3) D.startIndexMap, List.idxOf_lt_length_iff.2 (by decide)⟩) k hk h, BitVec.toInt_eq_toNat_of_lt (by omega)]
    show min (((te (ix1 (n := 288) k)).toNat : ℕ) : ℤ).toNat 31 = (te (ix1 (n := 288) k)).toNat
    rw [Int.toNat_natCast]; omega
  have e1 : D.start i (val_main_v6 (F := Ideal) te) 1 + D.offCoord i 1 = (i 1).val := by
    unfold GatherDims.start
    rw [dif_neg (show (1 : Fin 3) ∉ D.startIndexMap by decide), Nat.zero_add]
    unfold GatherDims.offCoord
    rw [dif_pos (show (1 : Fin 3) ∈ D.sKept by decide)]
    rfl
  have e2 : D.start i (val_main_v6 (F := Ideal) te) 2 + D.offCoord i 2 = (i 2).val := by
    unfold GatherDims.start
    rw [dif_neg (show (2 : Fin 3) ∉ D.startIndexMap by decide), Nat.zero_add]
    unfold GatherDims.offCoord
    rw [dif_pos (show (2 : Fin 3) ∈ D.sKept by decide)]
    rfl
  match a with
  | ⟨0, _⟩ => exact e0.trans h0.symm
  | ⟨1, _⟩ => exact e1.trans h1.symm
  | ⟨2, _⟩ => exact e2.trans h2.symm

theorem v15_at (te : Te) (b : Bs) (i : S288x4096.Idx) (k : Fin 288) (hk : (i 0).val = k.val) (h : (te (ix1 (n := 288) k)).toNat < 32) (j : S32x4096.Idx)
    (h0 : (j 0).val = (te (ix1 (n := 288) k)).toNat) (h1 : (j 1).val = (i 1).val) :
    val_main_v15 (F := Ideal) te b i = b j := by
  unfold val_main_v15 Host.gather
  refine congrArg b (funext fun a => Fin.ext ?_)
  let D := gather_S32x4096_S288x1_S288x4096_1_0_n_n_0_1_14096
  show D.start i (val_main_v14 (F := Ideal) te) a + D.batchCoord i a + D.offCoord i a = _
  rw [GatherDims.batchCoord_eq_zero _ _ _ List.not_mem_nil, Nat.add_zero]
  have e0 : D.start i (val_main_v14 (F := Ideal) te) 0 + D.offCoord i 0 = (te (ix1 (n := 288) k)).toNat := by
    rw [GatherDims.offCoord_eq_zero _ _ _ (fun h => ((GatherDims.mem_sKept _ _).mp h).1 (by decide)), Nat.add_zero]
    unfold GatherDims.start
    rw [dif_pos (show (0 : Fin 2) ∈ D.startIndexMap by decide)]
    rw [v14_at te (D.siIdx i ⟨List.idxOf (0 : Fin 2) D.startIndexMap, List.idxOf_lt_length_iff.2 (by decide)⟩) k hk h, BitVec.toInt_eq_toNat_of_lt (by omega)]
    show min (((te (ix1 (n := 288) k)).toNat : ℕ) : ℤ).toNat 31 = (te (ix1 (n := 288) k)).toNat
    rw [Int.toNat_natCast]; omega
  have e1 : D.start i (val_main_v14 (F := Ideal) te) 1 + D.offCoord i 1 = (i 1).val := by
    unfold GatherDims.start
    rw [dif_neg (show (1 : Fin 2) ∉ D.startIndexMap by decide), Nat.zero_add]
    unfold GatherDims.offCoord
    rw [dif_pos (show (1 : Fin 2) ∈ D.sKept by decide)]
    rfl
  match a with
  | ⟨0, _⟩ => exact e0.trans h0.symm
  | ⟨1, _⟩ => exact e1.trans h1.symm

theorem v18_at (te : Te) (x : Xs) (w : Ws) (b : Bs) (i : S288x512x4096.Idx) (k : Fin 288) (hk : (i 0).val = k.val) (e : Fin 32) (he : e.val = (te (ix1 (n := 288) k)).toNat)
    (r : Fin 147456) (hr : r.val = 512 * k.val + (i 1).val) (n : Fin 4096) (hn : n.val = (i 2).val) :
    val_main_v18 (F := Ideal) te x w b i = lay x w b e r n := by
  have hlt : (te (ix1 (n := 288) k)).toNat < 32 := he ▸ e.isLt
  rw [val_main_v18_apply, val_main_v8_apply, val_main_v17_apply, val_main_v16_apply]
  unfold lay
  refine congrArg₂ (fun a b : EReal => a + b) (Finset.sum_congr rfl fun d _ => congrArg₂ (fun a b : EReal => a * b) ?_ ?_) ?_
  · rw [val_main_v0_apply]
    refine congrArg x (funext fun a => Fin.ext ?_)
    have hi1 : (i 1).val < 512 := (i 1).isLt
    have hd := d.isLt
    match a with
    | ⟨0, _⟩ =>
      show ((((i 0).val * 512 + (i 1).val) * 2048 + d.val) / 2048 : ℕ) = r.val
      omega
    | ⟨1, _⟩ =>
      show ((((i 0).val * 512 + (i 1).val) * 2048 + d.val) % 2048 : ℕ) = d.val
      omega
  · exact v7_at te w _ k hk hlt _ he rfl hn
  · exact v15_at te b _ k hk hlt _ he hn

/-- The reference's result at a row and a column. -/
theorem ref_at (te : Te) (x : Xs) (w : Ws) (b : Bs) (i : S147456x2048.Idx) (k : Fin 288) (hk : (i 0).val / 512 = k.val) (e : Fin 32) (he : e.val = (te (ix1 (n := 288) k)).toNat) :
    val_main_v37 (F := Ideal) te x w b i = res x w b e (i 0) (i 1) := by
  rw [val_main_v37_apply, val_main_v36_apply, v35_at]
  have hi0 : (i 0).val < 147456 := (i 0).isLt
  have hi1 : (i 1).val < 2048 := (i 1).isLt
  have g0 : (idx_main_v36 i 0).val = (i 0).val / 512 := by
    show ((i 0).val * 2048 + (i 1).val) / 1048576 = _
    omega
  have g1 : (idx_main_v36 i 1).val = (i 0).val % 512 := by
    show ((i 0).val * 2048 + (i 1).val) / 2048 % 512 = _
    omega
  have g2 : (idx_main_v36 i 2).val = (i 1).val := by
    show ((i 0).val * 2048 + (i 1).val) % 2048 = _
    omega
  unfold res
  refine congrArg₂ glu (v18_at te x w b _ k (g0.trans hk) e he (i 0) ?_ _ g2.symm) (v18_at te x w b _ k (g0.trans hk) e he (i 0) ?_ _ ?_)
  · show (i 0).val = 512 * k.val + (idx_main_v36 i 1).val
    rw [g1]; omega
  · show (i 0).val = 512 * k.val + (idx_main_v36 i 1).val
    rw [g1]; omega
  · show 2048 + (i 1).val = 2048 + (idx_main_v36 i 2).val
    rw [g2]

end Cert.Reference2Ideal.Value
-- ==== Proof.UpValue.lean ====
module

public import proofs.«01_k».proof.Proof.UpFrame
public import proofs.«01_k».proof.Proof.UpRef
public import Idealize.ShloMosaic.Lib.MatmulPlain
public import Idealize.ShloMosaic.Lib.Pointwise.SelectCore
public import Idealize.ShloMosaic.Lib.Pipeline.ValueKit.Geometry
public import Idealize.ShloMosaic.Lib.Pipeline.Value
public import Idealize.ShloMosaic.Lib.KernelVsHost

/-! # The second launch's result, entry by entry -/

@[expose] public section

set_option maxRecDepth 16384

noncomputable section

namespace Cert.Kernel2Ideal.Up

open Idealize.ShloMosaic hiding ix1 ix2 ix3 ix4 ix5
open Idealize.ShloMosaic.ValueIdx
open Idealize.ShloMosaic.TcCoe Idealize.ShloMosaic.StableHlo
open Idealize.ShloMosaic.Pipeline (Dat)
open Cert.Kernel2Ideal Cert.Kernel2Ideal.Gen
open Cert.Up

/-! ## One block -/

theorem zero_word : Ideal.ofBits .f32 0x00000000#32 = 0 := by simp [Ideal.ofBits, Ideal.ieee]

theorem pay1_at (x : Vec Ideal S1x1x2048x512 .f32) (k : Fin 2048) (n : Fin 512) :
    k0_pay1 (F := Ideal) x (ix2 (n0 := 2048) (n1 := 512) k n) = (x (ix4 (n0 := 1) (n1 := 1) (n2 := 2048) (n3 := 512) 0 0 k n) : EReal) := by
  unfold k0_pay1
  refine (congrFun (shapeCast_self _ _) _).trans ?_
  refine shapeCast_apply _ _ _ (ix4 (n0 := 1) (n1 := 1) (n2 := 2048) (n3 := 512) 0 0 k n) ?_
  rw [Shape.rowMajor_val_four, Shape.rowMajor_val_two]
  show ((0 * 1 + 0) * 2048 + k.val) * 512 + n.val = k.val * 512 + n.val
  omega

theorem pay2_at (x : Vec Ideal S1x1x2048x512 .f32) (k : Fin 2048) (n : Fin 512) :
    k0_pay2 (F := Ideal) x (ix2 (n0 := 2048) (n1 := 512) k n) = (x (ix4 (n0 := 1) (n1 := 1) (n2 := 2048) (n3 := 512) 0 0 k n) : EReal) :=
  pay1_at x k n

/-- A row of biases under every row of a block. -/
theorem bias_at (x : Vec Ideal S1x1x1x512 .f32) (r n : Fin 512) :
    broadcastTo S512x512 (shapeCast S1x512 x shapeCasts_S1x1x1x512_S1x512) broadcasts_S1x512_S512x512 (ix2 (n0 := 512) (n1 := 512) r n)
      = (x (ix4 (n0 := 1) (n1 := 1) (n2 := 1) (n3 := 512) 0 0 0 n) : EReal) := by
  refine (broadcastTo_apply _ _ _ (ix2 (n0 := 1) (n1 := 512) 0 n) ?_).trans (shapeCast_apply _ _ _ (ix4 (n0 := 1) (n1 := 1) (n2 := 1) (n3 := 512) 0 0 0 n) ?_)
  · intro a
    match a with
    | ⟨0, _⟩ => rfl
    | ⟨1, _⟩ => rfl
  · rw [Shape.rowMajor_val_four, Shape.rowMajor_val_two]
    show ((0 * 1 + 0) * 1 + 0) * 512 + n.val = 0 * 512 + n.val
    omega

/-- A block's product with narrowed weights, a row of biases added. -/
theorem prod_at (x : Vec Ideal S512x2048 .f32) (w : Vec Ideal S2048x512 .bf16) (b : Vec Ideal S1x1x1x512 .f32) (r n : Fin 512) :
    addf (F := Ideal) (matmul (φ₂ := .bf16) dot_S512x2048_S2048x512_S512x512_1_0_0_1_n_n none (truncf .bf16 x bitsLt_bf16_f32) w (constant (F := Ideal) S512x512 .f32 0x00000000#32))
        (broadcastTo S512x512 (shapeCast S1x512 b shapeCasts_S1x1x1x512_S1x512) broadcasts_S1x512_S512x512) (ix2 (n0 := 512) (n1 := 512) r n)
      = ((∑ k : Fin 2048, (x (ix2 (n0 := 512) (n1 := 2048) r k) : EReal) * w (ix2 (n0 := 2048) (n1 := 512) k n))
          + b (ix4 (n0 := 1) (n1 := 1) (n2 := 1) (n3 := 512) 0 0 0 n) : EReal) := by
  refine congrArg₂ (fun a b : EReal => a + b) ?_ (bias_at b r n)
  refine (Ideal.matmul_plain_apply (M := 512) (K := 2048) (N := 512) none (truncf .bf16 x bitsLt_bf16_f32) w (constant (F := Ideal) S512x512 .f32 0x00000000#32) r n).trans ?_
  exact (congrArg (fun z : EReal => z + _) zero_word).trans (zero_add _)

/-- The kernel's activation is the reference's: subtracting from zero is negation. -/
theorem pay3_glu (x : Vec Ideal S512x2048 .f32) (wg : Vec Ideal S2048x512 .bf16) (ba : Vec Ideal S1x1x1x512 .f32) (wu : Vec Ideal S2048x512 .bf16) (bb : Vec Ideal S1x1x1x512 .f32)
    (y : S512x512.Idx) :
    (k0_pay3 (F := Ideal) x wg ba wu bb y : EReal)
      = glu (addf (F := Ideal) (matmul (φ₂ := .bf16) dot_S512x2048_S2048x512_S512x512_1_0_0_1_n_n none (truncf .bf16 x bitsLt_bf16_f32) wg (constant (F := Ideal) S512x512 .f32 0x00000000#32))
            (broadcastTo S512x512 (shapeCast S1x512 ba shapeCasts_S1x1x1x512_S1x512) broadcasts_S1x512_S512x512) y)
          (addf (F := Ideal) (matmul (φ₂ := .bf16) dot_S512x2048_S2048x512_S512x512_1_0_0_1_n_n none (truncf .bf16 x bitsLt_bf16_f32) wu (constant (F := Ideal) S512x512 .f32 0x00000000#32))
            (broadcastTo S512x512 (shapeCast S1x512 bb shapeCasts_S1x1x1x512_S1x512) broadcasts_S1x512_S512x512) y) := by
  unfold k0_pay3 glu
  generalize addf (F := Ideal) (matmul (φ₂ := .bf16) dot_S512x2048_S2048x512_S512x512_1_0_0_1_n_n none (truncf .bf16 x bitsLt_bf16_f32) wg (constant (F := Ideal) S512x512 .f32 0x00000000#32))
            (broadcastTo S512x512 (shapeCast S1x512 ba shapeCasts_S1x1x1x512_S1x512) broadcasts_S1x512_S512x512) = g
  generalize addf (F := Ideal) (matmul (φ₂ := .bf16) dot_S512x2048_S2048x512_S512x512_1_0_0_1_n_n none (truncf .bf16 x bitsLt_bf16_f32) wu (constant (F := Ideal) S512x512 .f32 0x00000000#32))
            (broadcastTo S512x512 (shapeCast S1x512 bb shapeCasts_S1x1x1x512_S1x512) broadcasts_S1x512_S512x512) = u
  have h : ∀ z : EReal, Ideal.ofBits .f32 0x00000000#32 - z = -z := fun z => by rw [zero_word, zero_sub]
  rw [← h]
  rfl

/-! ## The arrays the windows cut blocks of -/

variable (m : (ℓ : Loc nD τ sig) → Buf (Elt Ideal) ℓ)

abbrev teA (c : Dev nD) : IVec S288 32 := m ((c : Thread nD τ).loc main_arg0)
abbrev xA (c : Dev nD) : Xs := m ((c : Thread nD τ).loc main_arg2)
abbrev wA (c : Dev nD) : Ws := m ((c : Thread nD τ).loc main_arg3)
abbrev bA (c : Dev nD) : Bs := m ((c : Thread nD τ).loc main_arg4)

theorem V_v0 (c : Dev nD) : V m c main_v0 = broadcastInDim S1x32x2048x4096 ![1, 2, 3] bcast_S32x2048x4096_S1x32x2048x4096_1_2_3 (wA m c) := by
  show StableHlo.after stretches.flatten _ (Proc.devRef .tc main_v0) = _
  simp only [List.flatten_cons, List.flatten_nil, List.append_nil]
  after_reads_simp
  try rfl

theorem V_v1 (c : Dev nD) : V m c main_v1 = broadcastInDim S1x32x1x4096 ![1, 3] bcast_S32x4096_S1x32x1x4096_1_3 (bA m c) := by
  show StableHlo.after stretches.flatten _ (Proc.devRef .tc main_v1) = _
  simp only [List.flatten_cons, List.flatten_nil, List.append_nil]
  after_reads_simp
  try rfl

theorem w_at (c : Dev nD) (i : S1x32x2048x4096.Idx) (e : Fin 32) (k : Fin 2048) (n : Fin 4096) (h1 : (i 1).val = e.val) (h2 : (i 2).val = k.val) (h3 : (i 3).val = n.val) :
    V m c main_v0 i = wA m c (ix3 (n0 := 32) (n1 := 2048) (n2 := 4096) e k n) := by
  refine (congrFun (V_v0 m c) i).trans (broadcastInDim_apply _ _ _ _ _ fun a => ?_)
  match a with
  | ⟨0, _⟩ => exact h1.symm
  | ⟨1, _⟩ => exact h2.symm
  | ⟨2, _⟩ => exact h3.symm

theorem b_at (c : Dev nD) (i : S1x32x1x4096.Idx) (e : Fin 32) (n : Fin 4096) (h1 : (i 1).val = e.val) (h3 : (i 3).val = n.val) :
    V m c main_v1 i = bA m c (ix2 (n0 := 32) (n1 := 4096) e n) := by
  refine (congrFun (V_v1 m c) i).trans (broadcastInDim_apply _ _ _ _ _ fun a => ?_)
  match a with
  | ⟨0, _⟩ => exact h1.symm
  | ⟨1, _⟩ => exact h3.symm

variable (hR : InRange (tbl m))

theorem emb0_val (t : Fin (cfgM m hR).N) (y : S512x2048.Idx) (a : Fin 2) :
    ((((cfgM m hR).win 0).rect t).emb y a).val
      = (![min (grid0.coords t 1).val (nOf (tbl m) - 1), 0] : Fin 2 → ℕ) a * S512x2048.size a + (y a).val := by
  rw [← tr0 hR (grid0.coords t)]
  exact Pipeline.Window.rect_emb_val ((cfgM m hR).win 0) t y a rfl
theorem emb3_val (t : Fin (cfgM m hR).N) (y : S1x1x1x512.Idx) (a : Fin 4) :
    ((((cfgM m hR).win 3).rect t).emb y a).val
      = (![0, eOf (tbl m) (grid0.coords t 1), 0, (grid0.coords t 0).val] : Fin 4 → ℕ) a * S1x1x1x512.size a + (y a).val := by
  rw [← tr3 hR (grid0.coords t)]
  exact Pipeline.Window.rect_emb_val ((cfgM m hR).win 3) t y a rfl
theorem emb4_val (t : Fin (cfgM m hR).N) (y : S1x1x1x512.Idx) (a : Fin 4) :
    ((((cfgM m hR).win 4).rect t).emb y a).val
      = (![0, eOf (tbl m) (grid0.coords t 1), 0, 4 + (grid0.coords t 0).val] : Fin 4 → ℕ) a * S1x1x1x512.size a + (y a).val := by
  rw [← tr4 hR (grid0.coords t)]
  exact Pipeline.Window.rect_emb_val ((cfgM m hR).win 4) t y a rfl
theorem emb5_val (t : Fin (cfgM m hR).N) (y : S512x512.Idx) (a : Fin 2) :
    ((((cfgM m hR).win 5).rect t).emb y a).val
      = (![min (grid0.coords t 1).val (nOf (tbl m) - 1), (grid0.coords t 0).val] : Fin 2 → ℕ) a * S512x512.size a + (y a).val := by
  rw [← tr5 hR (grid0.coords t)]
  exact Pipeline.Window.rect_emb_val ((cfgM m hR).win 5) t y a rfl

/-! ## A point's blocks -/

theorem bx_at (c : Dev nD) (t : Fin (cfgM m hR).N) (r : Fin 512) (k : Fin 2048) (R : Fin 147456)
    (h : R.val = min (grid0.coords t 1).val (nOf (tbl m) - 1) * 512 + r.val) :
    bx m hR c t (ix2 (n0 := 512) (n1 := 2048) r k) = xA m c (ix2 (n0 := 147456) (n1 := 2048) R k) := by
  refine Eq.trans (b := V m c main_arg2 (ix2 (n0 := 147456) (n1 := 2048) R k)) (congrArg (V m c main_arg2) (funext fun a => Fin.ext ?_)) (congrFun (V_arg2 m c) _)
  refine (emb0_val m hR t (ix2 (n0 := 512) (n1 := 2048) r k) a).trans ?_
  match a with
  | ⟨0, _⟩ => exact h.symm
  | ⟨1, _⟩ => show 0 * 2048 + k.val = k.val; omega

theorem sG_at (c : Dev nD) (t : Fin (cfgM m hR).N) (k : Fin 2048) (y : Fin 512) (e : Fin 32) (n : Fin 4096)
    (he : eOf (tbl m) (grid0.coords t 1) = e.val) (hn : n.val = (grid0.coords t 0).val * 512 + y.val) :
    sG m hR c t (ix2 (n0 := 2048) (n1 := 512) k y) = wA m c (ix3 (n0 := 32) (n1 := 2048) (n2 := 4096) e k n) := by
  refine (pay1_at (bg m hR c t) k y).trans (w_at m c _ e k n ?_ ?_ ?_)
  · refine (emb1_val m hR t _ (1 : Fin 4)).trans ?_
    show eOf (tbl m) (grid0.coords t 1) * 1 + 0 = e.val
    omega
  · refine (emb1_val m hR t _ (2 : Fin 4)).trans ?_
    show 0 * 2048 + k.val = k.val
    omega
  · exact (emb1_val m hR t _ (3 : Fin 4)).trans hn.symm

theorem sU_at (c : Dev nD) (t : Fin (cfgM m hR).N) (k : Fin 2048) (y : Fin 512) (e : Fin 32) (n : Fin 4096)
    (he : eOf (tbl m) (grid0.coords t 1) = e.val) (hn : n.val = (4 + (grid0.coords t 0).val) * 512 + y.val) :
    sU m hR c t (ix2 (n0 := 2048) (n1 := 512) k y) = wA m c (ix3 (n0 := 32) (n1 := 2048) (n2 := 4096) e k n) := by
  refine (pay2_at (bu m hR c t) k y).trans (w_at m c _ e k n ?_ ?_ ?_)
  · refine (emb2_val m hR t _ (1 : Fin 4)).trans ?_
    show eOf (tbl m) (grid0.coords t 1) * 1 + 0 = e.val
    omega
  · refine (emb2_val m hR t _ (2 : Fin 4)).trans ?_
    show 0 * 2048 + k.val = k.val
    omega
  · exact (emb2_val m hR t _ (3 : Fin 4)).trans hn.symm

theorem ba_at (c : Dev nD) (t : Fin (cfgM m hR).N) (y : Fin 512) (e : Fin 32) (n : Fin 4096)
    (he : eOf (tbl m) (grid0.coords t 1) = e.val) (hn : n.val = (grid0.coords t 0).val * 512 + y.val) :
    ba m hR c t (ix4 (n0 := 1) (n1 := 1) (n2 := 1) (n3 := 512) 0 0 0 y) = bA m c (ix2 (n0 := 32) (n1 := 4096) e n) := by
  refine b_at m c _ e n ?_ ?_
  · refine (emb3_val m hR t _ (1 : Fin 4)).trans ?_
    show eOf (tbl m) (grid0.coords t 1) * 1 + 0 = e.val
    omega
  · exact (emb3_val m hR t _ (3 : Fin 4)).trans hn.symm

theorem bb_at (c : Dev nD) (t : Fin (cfgM m hR).N) (y : Fin 512) (e : Fin 32) (n : Fin 4096)
    (he : eOf (tbl m) (grid0.coords t 1) = e.val) (hn : n.val = (4 + (grid0.coords t 0).val) * 512 + y.val) :
    bb m hR c t (ix4 (n0 := 1) (n1 := 1) (n2 := 1) (n3 := 512) 0 0 0 y) = bA m c (ix2 (n0 := 32) (n1 := 4096) e n) := by
  refine b_at m c _ e n ?_ ?_
  · refine (emb4_val m hR t _ (1 : Fin 4)).trans ?_
    show eOf (tbl m) (grid0.coords t 1) * 1 + 0 = e.val
    omega
  · exact (emb4_val m hR t _ (3 : Fin 4)).trans hn.symm

/-- The reference's result of the launch's arguments. -/
abbrev refA (c : Dev nD) : S147456x2048.Idx → EReal := Cert.Reference2Ideal.Read.val_main_v37 (F := Ideal) (teA m c) (xA m c) (wA m c) (bA m c)

/-- The block a point in use computes is the reference's there. -/
theorem out_at (c : Dev nD) (t : Fin (cfgM m hR).N) (hu : (grid0.coords t 1).val < nOf (tbl m)) (y : S512x512.Idx) (i : S147456x2048.Idx)
    (h0 : (i 0).val = (grid0.coords t 1).val * 512 + (y 0).val) (h1 : (i 1).val = (grid0.coords t 0).val * 512 + (y 1).val) :
    (outS m hR c t y : EReal) = refA m c i := by
  have hy0 : (y 0).val < 512 := (y 0).isLt
  have hy1 : (y 1).val < 512 := (y 1).isLt
  have hi1 : (i 1).val < 2048 := (i 1).isLt
  have hte : tbl m 0 = teA m c := (V_pre m c 0).symm.trans (V_arg0 m c)
  have hmin : min (grid0.coords t 1).val (nOf (tbl m) - 1) = (grid0.coords t 1).val := by omega
  obtain ⟨e, he⟩ : ∃ e : Fin 32, eOf (tbl m) (grid0.coords t 1) = e.val := ⟨⟨_, hR.e (grid0.coords t 1)⟩, rfl⟩
  have he' : e.val = (teA m c (ix1 (n := 288) (grid0.coords t 1))).toNat := by rw [← hte]; exact he.symm
  refine Eq.trans ?_ (Cert.Reference2Ideal.Value.ref_at (teA m c) (xA m c) (wA m c) (bA m c) i (grid0.coords t 1) (by rw [h0]; omega) e he').symm
  have ey : y = ix2 (n0 := 512) (n1 := 512) (y 0) (y 1) := by
    funext a
    match a with
    | ⟨0, _⟩ => rfl
    | ⟨1, _⟩ => rfl
  rw [ey]
  unfold outS
  refine (pay3_glu (bx m hR c t) (sG m hR c t) (ba m hR c t) (sU m hR c t) (bb m hR c t) _).trans ?_
  refine (congrArg₂ glu (prod_at (bx m hR c t) (sG m hR c t) (ba m hR c t) (y 0) (y 1)) (prod_at (bx m hR c t) (sU m hR c t) (bb m hR c t) (y 0) (y 1))).trans ?_
  unfold res lay
  refine congrArg₂ glu (congrArg₂ (fun a b : EReal => a + b) (Finset.sum_congr rfl fun k _ => ?_) ?_) (congrArg₂ (fun a b : EReal => a + b) (Finset.sum_congr rfl fun k _ => ?_) ?_)
  · exact congrArg₂ (fun a b : EReal => a * b) (bx_at m hR c t (y 0) k (i 0) (by rw [hmin]; exact h0)) (sG_at m hR c t k (y 1) e _ he h1)
  · exact ba_at m hR c t (y 1) e _ he h1
  · exact congrArg₂ (fun a b : EReal => a * b) (bx_at m hR c t (y 0) k (i 0) (by rw [hmin]; exact h0))
      (sU_at m hR c t k (y 1) e _ he (by show 2048 + (i 1).val = _; omega))
  · exact bb_at m hR c t (y 1) e _ he (by show 2048 + (i 1).val = _; omega)

/-! ## The launch's result -/

/-- A strip's result of a tile in use is written back: after the tile, or after the strip's last point for the last tile in use. -/
theorem flush_at (t : Fin (cfgM m hR).N) (h : t.val % 288 + 1 < nOf (tbl m) ∨ t.val % 288 = 287) : ((cfgM m hR).win 5).flush t = true := by
  have hN : grid0.N = 1152 := N_0
  have ht : t.val < 1152 := Nat.lt_of_lt_of_eq t.isLt N_0
  have hc := count_pos m hR
  rw [Pipeline.Window.flush_eq_flushF]
  unfold Pipeline.Window.flushF
  rw [Bool.and_eq_true, Bool.or_eq_true]
  refine ⟨rfl, ?_⟩
  by_cases hl : t.val + 1 = 1152
  · exact .inl (decide_eq_true (hl.trans hN.symm))
  have hk : t.val + 1 < grid0.N := by omega
  rcases h with h | h
  · refine .inr (decide_eq_true ⟨hk, (0 : Fin 2), fun he => ?_⟩)
    have a1 := congrFun (tr5 hR (grid0.coords ⟨t.val + 1, hk⟩)) (0 : Fin 2)
    have a2 := congrFun (tr5 hR (grid0.coords t)) (0 : Fin 2)
    rw [coord0, coord1] at a1 a2
    have e : min ((t.val + 1) % 288) (nOf (tbl m) - 1) = min (t.val % 288) (nOf (tbl m) - 1) := a1.symm.trans (he.trans a2)
    omega
  · refine .inr (decide_eq_true ⟨hk, (1 : Fin 2), fun he => ?_⟩)
    have a1 := congrFun (tr5 hR (grid0.coords ⟨t.val + 1, hk⟩)) (1 : Fin 2)
    have a2 := congrFun (tr5 hR (grid0.coords t)) (1 : Fin 2)
    rw [coord0, coord1] at a1 a2
    have e : (t.val + 1) / 288 = t.val / 288 := a1.symm.trans (he.trans a2)
    omega

/-- What a point leaves in the result's buffer is the reference's block at the place it is written back to. -/
theorem left_at (c : Dev nD) (t : Fin (cfgM m hR).N) (y : S512x512.Idx) (i : S147456x2048.Idx)
    (h0 : (i 0).val = min (grid0.coords t 1).val (nOf (tbl m) - 1) * 512 + (y 0).val) (h1 : (i 1).val = (grid0.coords t 0).val * 512 + (y 1).val) :
    (outS m hR c (base m hR t) y : EReal) = refA m c i := by
  have hc := count_pos m hR
  have b0 : (grid0.coords (base m hR t) 0).val = t.val / 288 := by
    rw [coord0]; show (288 * (t.val / 288) + min (t.val % 288) (nOf (tbl m) - 1)) / 288 = _; omega
  have b1 : (grid0.coords (base m hR t) 1).val = min (t.val % 288) (nOf (tbl m) - 1) := by
    rw [coord1]; show (288 * (t.val / 288) + min (t.val % 288) (nOf (tbl m) - 1)) % 288 = _; omega
  rw [coord1] at h0
  rw [coord0] at h1
  exact out_at m hR c (base m hR t) (by rw [b1]; omega) y i (by rw [b1]; exact h0) (by rw [b0]; exact h1)

/-- THE LAUNCH'S RESULT IS THE REFERENCE'S, of the same arguments, at every row of a tile in use. -/
theorem result (c : Dev nD) (i : S147456x2048.Idx) (hi : (i 0).val < 512 * nOf (tbl m)) :
    (dats m hR 0 c).arrAt 5 (cfgM m hR).N i = refA m c i := by
  have hi0 : (i 0).val < 147456 := (i 0).isLt
  have hi1 : (i 1).val < 2048 := (i 1).isLt
  have hc := count_pos m hR
  have hN : grid0.N = 1152 := N_0
  obtain ⟨q, hq, hq0, hq1⟩ : ∃ q, q < 288 ∧ (q + 1 < nOf (tbl m) ∨ q = 287) ∧ min q (nOf (tbl m) - 1) = (i 0).val / 512 := by
    by_cases hl : (i 0).val / 512 + 1 < nOf (tbl m)
    · exact ⟨(i 0).val / 512, by omega, .inl hl, by omega⟩
    · exact ⟨287, by omega, .inr rfl, by omega⟩
  have hn : 288 * ((i 1).val / 512) + q < grid0.N := by omega
  have m0 : (288 * ((i 1).val / 512) + q) / 288 = (i 1).val / 512 := by omega
  have m1 : (288 * ((i 1).val / 512) + q) % 288 = q := by omega
  let y : S512x512.Idx := ix2 (n0 := 512) (n1 := 512) ⟨(i 0).val % 512, Nat.mod_lt _ (by decide)⟩ ⟨(i 1).val % 512, Nat.mod_lt _ (by decide)⟩
  have ei : ((((cfgM m hR).win 5).blk ⟨288 * ((i 1).val / 512) + q, hn⟩).view.emb y) = i := by
    funext a
    match a with
    | ⟨0, _⟩ =>
      apply Fin.ext
      refine (emb5_val m hR ⟨288 * ((i 1).val / 512) + q, hn⟩ y (0 : Fin 2)).trans ?_
      show min (grid0.coords (⟨288 * ((i 1).val / 512) + q, hn⟩ : Fin grid0.N) 1).val (nOf (tbl m) - 1) * 512 + (i 0).val % 512 = (i 0).val
      rw [coord1, m1, hq1]; omega
    | ⟨1, _⟩ =>
      apply Fin.ext
      refine (emb5_val m hR ⟨288 * ((i 1).val / 512) + q, hn⟩ y (1 : Fin 2)).trans ?_
      show (grid0.coords (⟨288 * ((i 1).val / 512) + q, hn⟩ : Fin grid0.N) 0).val * 512 + (i 1).val % 512 = (i 1).val
      rw [coord0, m0]; omega
  refine (dats m hR 0 c).arrAt_apply_of_mem 5 (refA m c) (fun t _ => funext fun (y : S512x512.Idx) => ?_) (cfgM m hR).N ⟨288 * ((i 1).val / 512) + q, hn⟩ i hn
    (flush_at m hR _ (by show (288 * ((i 1).val / 512) + q) % 288 + 1 < _ ∨ (288 * ((i 1).val / 512) + q) % 288 = 287; rw [m1]; exact hq0)) ?_
  · exact (congrFun (after_5 m hR c t) y).trans (left_at m hR c t y (((cfgM m hR).win 5).blk t |>.view.emb y) (emb5_val m hR t y (0 : Fin 2)) (emb5_val m hR t y (1 : Fin 2)))
  · have hm := View.emb_mem_set (((cfgM m hR).win 5).blk ⟨288 * ((i 1).val / 512) + q, hn⟩).view y
    rw [ei] at hm
    exact hm

end Cert.Kernel2Ideal.Up
-- ==== Proof.UpPre.lean ====
module

public import proofs.«01_k».proof.Proof.AttPre
public import proofs.«01_k».proof.Pre_tiles_in_range
public import proofs.«01_k».proof.On_rows_used

/-! # What the second call's precondition and its choice of rows say, entry by entry -/

@[expose] public section

namespace Cert.Up

open Idealize.ShloMosaic hiding ix1 ix2 ix3 ix4 ix5
open Idealize.ShloMosaic.ValueIdx

variable {F : FTy → Type} [FloatOps F]

theorem of_ge (x y : BitVec 32) (hy : y.toNat < 2 ^ 31) (h : IntOp.cmpi .sge x y = 1#1) : x.toNat < 2 ^ 31 ∧ y.toNat ≤ x.toNat := by
  change BitVec.ofBool (y.sle x) = 1#1 at h
  have h' : y.toInt ≤ x.toInt := by
    by_contra hc
    simp [BitVec.sle, hc] at h
  have e := BitVec.toInt_eq_toNat_cond x
  have hx := x.isLt
  rw [BitVec.toInt_eq_toNat_of_lt (by omega)] at h'
  split at e <;> omega

theorem of_lt (x y : BitVec 32) (hx : x.toNat < 2 ^ 31) (hy : y.toNat < 2 ^ 31) (h : IntOp.cmpi .slt x y = 1#1) : x.toNat < y.toNat := by
  change BitVec.ofBool (x.slt y) = 1#1 at h
  have h' : x.toInt < y.toInt := by
    by_contra hc
    simp [BitVec.slt, hc] at h
  rw [BitVec.toInt_eq_toNat_of_lt (by omega), BitVec.toInt_eq_toNat_of_lt (by omega)] at h'
  omega

theorem of_le (x y : BitVec 32) (hx : x.toNat < 2 ^ 31) (hy : y.toNat < 2 ^ 31) (h : IntOp.cmpi .sle x y = 1#1) : x.toNat ≤ y.toNat := by
  change BitVec.ofBool (x.sle y) = 1#1 at h
  have h' : x.toInt ≤ y.toInt := by
    by_contra hc
    simp [BitVec.sle, hc] at h
  rw [BitVec.toInt_eq_toNat_of_lt (by omega), BitVec.toInt_eq_toNat_of_lt (by omega)] at h'
  omega

section
variable [Cert.Pre_tiles_in_range.Facts]
open Cert.Pre_tiles_in_range Cert.Pre_tiles_in_range.Facts

/-- Every tile's expert is one of the experts, and at least one tile and no more than there are is in use. -/
theorem range_of_pre (te : IVec S288 32) (nu : IVec S1 32) (xs : FVec F S147456x2048 .f32) (w : FVec F S32x2048x4096 .f32) (b : FVec F S32x4096 .f32)
    (h : Cert.Pre_tiles_in_range.fn (F := F) te nu xs w b = fun _ => 1#1) :
    (∀ k : Fin 288, (te (ix1 (n := 288) k)).toNat < 32) ∧ 1 ≤ (nu (ix1 (n := 1) 0)).toNat ∧ (nu (ix1 (n := 1) 0)).toNat ≤ 288 := by
  replace h := congrFun h (Shape.Idx.first h_S_)
  haveI : Subsingleton S_.Idx := ⟨fun a b => funext fun x => x.elim0⟩
  unfold Cert.Pre_tiles_in_range.fn at h
  obtain ⟨h1, h2⟩ := (Cert.Att.and1 _ _).mp h
  refine ⟨fun k => ?_, ?_⟩
  · obtain ⟨a, b⟩ := (Cert.Att.and1 _ _).mp (Host.reduce_andi_all _ _ _ _ _ h1 (ix1 (n := 288) k))
    have a' := of_ge (te (ix1 (n := 288) k)) 0#32 (by decide) a
    exact of_lt (te (ix1 (n := 288) k)) 32#32 a'.1 (by decide) b
  · obtain ⟨a, b⟩ := (Cert.Att.and1 _ _).mp (Host.reduce_andi_all _ _ _ _ _ h2 (ix1 (n := 1) 0))
    have a' := of_ge (nu (ix1 (n := 1) 0)) 1#32 (by decide) a
    exact ⟨a'.2, of_le (nu (ix1 (n := 1) 0)) 288#32 a'.1 (by decide) b⟩
end

section
variable [Cert.On_rows_used.Facts]
open Cert.On_rows_used Cert.On_rows_used.Facts

/-- The chosen rows are those of the tiles in use. -/
theorem row_of_mask (te : IVec S288 32) (nu : IVec S1 32) (xs : FVec F S147456x2048 .f32) (w : FVec F S32x2048x4096 .f32) (b : FVec F S32x4096 .f32)
    (hn : (nu (ix1 (n := 1) 0)).toNat ≤ 288) (i : S147456x2048.Idx) (h : Cert.On_rows_used.fn (F := F) te nu xs w b i = 1#1) :
    (i 0).val < 512 * (nu (ix1 (n := 1) 0)).toNat := by
  have hi : (i 0).val < 147456 := (i 0).isLt
  have h' : IntOp.cmpi .slt (BitVec.ofNat 32 (i 0).val) (nu (ix1 (n := 1) 0) * 512#32) = 1#1 := by
    refine Eq.trans ?_ h
    unfold Cert.On_rows_used.fn
    refine congrArg (fun z => IntOp.cmpi .slt (BitVec.ofNat 32 (i 0).val) z) ?_
    refine Eq.symm ((broadcastInDim_apply _ _ _ _ (fun a : Fin 0 => a.elim0) (fun a => a.elim0)).trans ?_)
    refine congrArg (fun z => z * 512#32) ?_
    unfold shapeCast
    refine congrArg nu (funext fun a => ?_)
    match a with
    | ⟨0, _⟩ => exact Subsingleton.elim (α := Fin 1) _ _
  have e1 : (BitVec.ofNat 32 (i 0).val).toNat = (i 0).val := by rw [BitVec.toNat_ofNat]; omega
  have e2 : (nu (ix1 (n := 1) 0) * 512#32).toNat = (nu (ix1 (n := 1) 0)).toNat * 512 := by
    rw [BitVec.toNat_mul, show (512#32 : BitVec 32).toNat = 512 from rfl]; omega
  have := of_lt _ _ (by rw [e1]; omega) (by rw [e2]; omega) h'
  rw [e1, e2] at this
  omega
end

end Cert.Up
-- ==== Proof.DownRun.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.ValueIdxCore
public import Idealize.ShloMosaic.Lib.Pipeline.Value

@[expose] public section

set_option maxRecDepth 16384

noncomputable section

namespace Cert.Kernel3Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-- The two tables as the body is handed them: the expert of each tile, and the number of tiles in use. -/
abbrev tabE : Memref sig .tc .smem S288 .i32 := Memref.whole main_arg0
/-- The number of tiles in use. -/
abbrev tabN : Memref sig .tc .smem S1 .i32 := Memref.whole main_arg1
abbrev wholeE : tabE.IsWhole := Memref.isWhole_whole _
abbrev wholeN : tabN.IsWhole := Memref.isWhole_whole _

/-- A table's contents on core `c`. -/
abbrev TabBuf (c : Dev nD) {S : Shape} {e : EltTy} (M : Memref sig .tc .smem S e) : Type := Buf (Elt F) (M.view.loc (c : Thread nD τ))
/-- Half of a table held at given contents on core `c`. -/
abbrev tabPt (c : Dev nD) {S : Shape} {e : EltTy} (M : Memref sig .tc .smem S e) (f : TabBuf (F := F) c M) : sProp 𝕄 :=
  M.view.loc (c : Thread nD τ) ↦{fullShare.right} f

set_option maxHeartbeats 4000000 in
/-- One grid point of the down projection: the body, whichever of its two conditionals it takes, turns the narrowed weight
    block and the result's block from the contents it is handed into the contents `W` names, and gives the inputs and the
    tables back. -/
def bodyRun (c : Dev nD) (i : grid0.Coords)
    (arg4 : Memref sig .tc .vmem S512x2048 .bf16) (harg4 : arg4.IsWhole)
    (arg5 : Memref sig .tc .vmem S1x1x2048x1024 .f32) (harg5 : arg5.IsWhole)
    (arg6 : Memref sig .tc .vmem S1x1x1x1024 .f32) (harg6 : arg6.IsWhole)
    (arg7 : Memref sig .tc .vmem S512x1024 .f32) (harg7 : arg7.IsWhole)
    (arg8 : Memref sig .tc .vmem S2048x1024 .bf16) (harg8 : arg8.IsWhole)
    (xs : Vec F S512x2048 .bf16) (xw : Vec F S1x1x2048x1024 .f32) (xb : Vec F S1x1x1x1024 .f32) (xo : Vec F S512x1024 .f32)
    (sw : Vec F S2048x1024 .bf16)
    (te : TabBuf (F := F) c tabE) (tn : TabBuf (F := F) c tabN) :
    { W : Vec F S2048x1024 .bf16 × Vec F S512x1024 .f32 //
      ∀ (E : Set ℕ) (K : PUnit → sProp 𝕄),
        iprop(owns (c : Thread nD τ) arg4 fullShare xs ∗ owns (c : Thread nD τ) arg5 fullShare xw
            ∗ owns (c : Thread nD τ) arg6 fullShare xb ∗ owns (c : Thread nD τ) arg7 fullShare xo
            ∗ owns (c : Thread nD τ) arg8 fullShare sw
            ∗ tabPt c tabE te ∗ tabPt c tabN tn
            ∗ (iprop(owns (c : Thread nD τ) arg4 fullShare xs ∗ owns (c : Thread nD τ) arg5 fullShare xw
            ∗ owns (c : Thread nD τ) arg6 fullShare xb ∗ owns (c : Thread nD τ) arg7 fullShare W.2
            ∗ owns (c : Thread nD τ) arg8 fullShare W.1
            ∗ tabPt c tabE te ∗ tabPt c tabN tn) -∗ K ⟨⟩))
          ⊢ wp frame (wpE (defs₀ (F := F)) Variants.none c none) E
              (cc0_expert_down i tabE wholeE tabN wholeN arg4 harg4 arg5 harg5 arg6 harg6 arg7 harg7 arg8 harg8) K } := by
  refine ⟨(?_, ?_), fun E K => ?run⟩
  case run =>
    dsimp only
    simp only [cc0_expert_down_eq_skeleton]; unfold cc0_expert_down_skel
    unfold owns
    iintro ⟨⟨%f0, %hf0, H0⟩, ⟨%f1, %hf1, H1⟩, ⟨%f2, %hf2, H2⟩, ⟨%f3, %hf3, H3⟩, ⟨%fw, %hfw, HW⟩, HT0, HT1, Hk⟩
    obtain rfl := harg4.eq_unread hf0; obtain rfl := harg5.eq_unread hf1; obtain rfl := harg6.eq_unread hf2; obtain rfl := harg7.eq_unread hf3
    obtain rfl := harg8.eq_unread hfw
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; swap; · iexact H3
      ipureintro; rfl
    isplitl [HW]
    · iexists _; isplitr; swap; · iexact HW
      ipureintro; rfl
    isplitl [HT0]; · iexact HT0
    iexact HT1

end Cert.Kernel3Ideal.Down

end
-- ==== Proof.DownStep.lean ====
module

public import proofs.«01_k».proof.Proof.UpTables
public import proofs.«01_k».proof.Proof.DownRun

@[expose] public section

set_option maxRecDepth 16384

noncomputable section

namespace Cert.Kernel3Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

/-! ## One point in closed form -/

/-- A block filled when the condition holds, and left alone otherwise, read back. -/
theorem read_filled {p : Prop} [Decidable p] {e : EltTy} {a b : ℕ} (v : View sig .tc .vmem ⟨2, ![a, b]⟩ e) (f : v.ty.Contents (Elt F))
    (inb : ∀ x, (![0, 0] : Fin 2 → ℕ) x + (⟨2, ![a, b]⟩ : Shape).size x ≤ (⟨2, ![a, b]⟩ : Shape).size x) (w : Vec F ⟨2, ![a, b]⟩ e) :
    v.read (Elt F) (if h : p then v.writes (Elt F) f [⟨Rect.unit ![0, 0] (⟨2, ![a, b]⟩ : Shape).size inb, w⟩] else f) = if p then w else v.read (Elt F) f := by
  split
  · exact View.read_writes_full v f inb w []
  · rfl

/-- The point meets an expert other than the point before it, by the first table's words, or opens a column strip. -/
def isNew (c : Dev nD) (i : grid0.Coords) (te : TabBuf (F := F) c tabE) : Prop :=
  Scalar.cmpi .ne (Scalar.extui (Scalar.ori (Scalar.cmpi .eq (BitVec.ofNat 32 (i 1).val) 0#32) (Scalar.cmpi .ne (bodyRun.sl.r c i te) (bodyRun.sl.r_1 c i te))) : BitVec 32) 0#32 = 1#1
instance (c : Dev nD) (i : grid0.Coords) (te : TabBuf (F := F) c tabE) : Decidable (isNew c i te) := by unfold isNew; infer_instance
/-- The point's tile is in use, by the second table's word. -/
def isUsed (c : Dev nD) (i : grid0.Coords) (tn : TabBuf (F := F) c tabN) : Prop := k0_cond2 i (bodyRun.sl.r_2 c tn) = 1#1
instance (c : Dev nD) (i : grid0.Coords) (tn : TabBuf (F := F) c tabN) : Decidable (isUsed c i tn) := by unfold isUsed; infer_instance

/-- What a point leaves, given that a buffer not refilled already holds its filling. -/
theorem step_of {A C : Type} (p q r : Prop) [Decidable p] [Decidable q] [Decidable r] (g sw : A) (xo : C) (f : A → C)
    (hs : ¬ p → sw = g) (hq : q ↔ r) :
    ((if p then g else sw, if q then f (if p then g else sw) else xo) : A × C) = (g, if r then f g else xo) := by
  have e1 : (if p then g else sw) = g := by
    by_cases h : p
    · exact if_pos h
    · exact (if_neg h).trans (hs h)
  rw [e1]
  exact congrArg (fun z => (g, z)) (if_congr hq rfl rfl)

section
variable (c : Dev nD) (i : grid0.Coords)
    (arg4 : Memref sig .tc .vmem S512x2048 .bf16) (harg4 : arg4.IsWhole)
    (arg5 : Memref sig .tc .vmem S1x1x2048x1024 .f32) (harg5 : arg5.IsWhole)
    (arg6 : Memref sig .tc .vmem S1x1x1x1024 .f32) (harg6 : arg6.IsWhole)
    (arg7 : Memref sig .tc .vmem S512x1024 .f32) (harg7 : arg7.IsWhole)
    (arg8 : Memref sig .tc .vmem S2048x1024 .bf16) (harg8 : arg8.IsWhole)
    (xs : Vec F S512x2048 .bf16) (xw : Vec F S1x1x2048x1024 .f32) (xb : Vec F S1x1x1x1024 .f32) (xo : Vec F S512x1024 .f32)
    (sw : Vec F S2048x1024 .bf16)
    (te : TabBuf (F := F) c tabE) (tn : TabBuf (F := F) c tabN)

theorem read_W : arg8.view.read (Elt F) (if hc : isNew c i te then arg8.view.writes (Elt F) (harg8.unread sw)
      [⟨Rect.unit ![0, 0] S2048x1024.size inb_S2048x1024_S2048x1024_0_0, k0_pay1 (arg5.view.readAt (Elt F) (Rect.unit ![0, 0, 0, 0] S1x1x2048x1024.size inb_S1x1x2048x1024_S1x1x2048x1024_0_0_0_0).toLoadRect (harg5.unread xw))⟩] else harg8.unread sw)
    = if isNew c i te then k0_pay1 xw else sw := by
  refine (read_filled (p := isNew c i te) arg8.view _ _ _).trans ?_
  rw [harg8.read_unread]
  exact if_congr Iff.rfl (congrArg k0_pay1 ((View.readAt_full _ _ _).trans (harg5.read_unread _))) rfl

/-- One point in closed form: at a new expert the narrowed weight block is taken from the weights' block, and while the
    tile is in use the result's block is computed from it; otherwise each stays as it was. -/
theorem bodyRun_val :
    (bodyRun c i arg4 harg4 arg5 harg5 arg6 harg6 arg7 harg7 arg8 harg8 xs xw xb xo sw te tn).1
      = (if isNew c i te then k0_pay1 xw else sw,
          if isUsed c i tn then k0_pay2 xs (if isNew c i te then k0_pay1 xw else sw) xb else xo) := by
  refine Prod.ext ?_ ?_
  · exact read_W c i arg5 harg5 arg8 harg8 xw sw te
  · refine (read_filled (p := isUsed c i tn) arg7.view _ _ _).trans ?_
    rw [harg7.read_unread]
    refine if_congr Iff.rfl ?_ rfl
    congr 1
    · exact (View.readAt_full _ _ _).trans (harg4.read_unread _)
    · exact (View.readAt_full _ _ _).trans (read_W c i arg5 harg5 arg8 harg8 xw sw te)
    · exact (View.readAt_full _ _ _).trans (harg6.read_unread _)

/-- One point from a buffer that already holds the narrowed weights whenever it meets no new expert. -/
theorem bodyRun_kept {r : Prop} [Decidable r] (hs : ¬ isNew c i te → sw = k0_pay1 xw) (hq : isUsed c i tn ↔ r) :
    (bodyRun c i arg4 harg4 arg5 harg5 arg6 harg6 arg7 harg7 arg8 harg8 xs xw xb xo sw te tn).1
      = (k0_pay1 xw, if r then k0_pay2 xs (k0_pay1 xw) xb else xo) :=
  (bodyRun_val ..).trans (step_of _ _ _ _ _ _ (k0_pay2 xs · xb) hs hq)

end

end Cert.Kernel3Ideal.Down

end
-- ==== Proof.DownTables.lean ====
module

public import proofs.«01_k».proof.Proof.DownStep

@[expose] public section

set_option maxRecDepth 16384

noncomputable section

namespace Cert.Kernel3Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel3Ideal.Gen
open Cert.Kernel2Ideal.Up (off_word off_prev less_one either_iff wide_iff small_min at_idx at_only words_eq)

variable {F : FTy → Type} [FloatOps F]

local notation "𝕄" => MT nD τ sig Unit (Elt F) ℕ (UR sig nD τ) ℕ

/-! ## The two tables -/

theorem col_word : ∀ n : Fin 2, (BitVec.ofNat 32 n.val).toNat = n.val := by decide +kernel

/-- The words a point reads of the tables. -/
theorem word_here (c : Dev nD) (i : grid0.Coords) (te : TabBuf (F := F) c tabE) : bodyRun.sl.r c i te = te (ix1 (n := 288) (i 1)) :=
  congrArg te (at_idx _ _ (off_word (i 1)) _ _)
theorem word_prev (c : Dev nD) (i : grid0.Coords) (te : TabBuf (F := F) c tabE) :
    bodyRun.sl.r_1 c i te = te (ix1 (n := 288) ⟨(i 1).val - 1, lt_of_le_of_lt (Nat.sub_le _ _) (i 1).isLt⟩) :=
  congrArg te (at_idx _ ⟨(i 1).val - 1, lt_of_le_of_lt (Nat.sub_le _ _) (i 1).isLt⟩ (off_prev (i 1)) _ _)
theorem word_count (c : Dev nD) (tn : TabBuf (F := F) c tabN) : bodyRun.sl.r_2 c tn = tn (ix1 (n := 1) 0) :=
  congrArg tn (at_only _ _)

/-- A point that meets no new expert is not a strip's first, and its tile's expert is the tile before's. -/
theorem not_new (c : Dev nD) (i : grid0.Coords) (te : TabBuf (F := F) c tabE) (h : ¬ isNew c i te) :
    (i 1).val ≠ 0 ∧ te (ix1 (n := 288) (i 1)) = te (ix1 (n := 288) ⟨(i 1).val - 1, lt_of_le_of_lt (Nat.sub_le _ _) (i 1).isLt⟩) := by
  unfold isNew at h
  rw [either_iff, not_or, word_here, word_prev] at h
  refine ⟨fun h0 => h.1 (by rw [h0]; decide), ?_⟩
  exact words_eq _ _ h.2

/-- The tables' words are in range: an expert per tile, and at least one tile in use and no more than there are. -/
structure InRange (pf : pre0.Contents (Elt F)) : Prop where
  e : ∀ k : Fin 288, BitVec.toNat (pf 0 (ix1 (n := 288) k)) < 32
  n : 1 ≤ BitVec.toNat (pf 1 (ix1 (n := 1) 0)) ∧ BitVec.toNat (pf 1 (ix1 (n := 1) 0)) ≤ 288

/-- The expert of a tile, and the number of tiles in use. -/
def eOf (pf : pre0.Contents (Elt F)) (k : Fin 288) : ℕ := BitVec.toNat (pf 0 (ix1 (n := 288) k))
def nOf (pf : pre0.Contents (Elt F)) : ℕ := BitVec.toNat (pf 1 (ix1 (n := 1) 0))

theorem cond2_iff (i : grid0.Coords) (w : BitVec 32) (hw : w.toNat ≤ 288) : k0_cond2 i w = 1#1 ↔ (i 1).val < w.toNat := by
  have hi : (i 1).val < 288 := (i 1).isLt
  unfold k0_cond2
  refine (wide_iff _).trans ?_
  have e : w = BitVec.ofNat 32 w.toNat := BitVec.eq_of_toNat_eq (by rw [BitVec.toNat_ofNat, Nat.mod_eq_of_lt w.isLt])
  show IntOp.cmpi .slt (BitVec.ofNat 32 (i 1).val) w = 1#1 ↔ _
  rw [show IntOp.cmpi .slt (BitVec.ofNat 32 (i 1).val) w = IntOp.cmpi .slt (BitVec.ofNat 32 (i 1).val) (BitVec.ofNat 32 w.toNat) from congrArg _ e]
  exact WordCmp.cmpi_slt_ofNat_eq_one_iff (by omega) (by omega)

variable {pf : pre0.Contents (Elt F)} (hR : InRange pf)
include hR

/-- A point's tile is in use exactly when it comes before the count. -/
theorem used_iff (c : Dev nD) (i : grid0.Coords) : isUsed (F := F) c i (pf 1) ↔ (i 1).val < nOf pf := by
  unfold isUsed
  rw [show bodyRun.sl.r_2 c (pf 1) = pf 1 (ix1 (n := 1) 0) from word_count c (pf 1)]
  exact cond2_iff i _ hR.n.2

theorem at_e (i : grid0.Coords) (h1 : S1.numel = 1) (h) :
    pf.at 0 (Rect.unit (s := S288) ![(Scalar.indexCast (BitVec.ofNat 32 (i 1).val)).toNat] S1.size h) h1 = pf 0 (ix1 (n := 288) (i 1)) :=
  congrArg (pf 0) (at_idx _ _ (off_word (i 1)) _ _)
theorem at_n (h1 : S1.numel = 1) (h) : pf.at 1 (Rect.unit (s := S1) ![0] S1.size h) h1 = pf 1 (ix1 (n := 1) 0) :=
  congrArg (pf 1) (at_only _ _)

theorem min_word (i : grid0.Coords) (w : BitVec 32) (h1 : 1 ≤ w.toNat) (h2 : w.toNat ≤ 288) :
    (Scalar.minsi (BitVec.ofNat 32 (i 1).val) (Scalar.subi w 1#32)).toNat = min (i 1).val (w.toNat - 1) := by
  have hi : (i 1).val < 288 := (i 1).isLt
  have e : Scalar.subi w 1#32 = BitVec.ofNat 32 (w.toNat - 1) := by
    refine Eq.trans ?_ (less_one ⟨w.toNat - 1, by omega⟩)
    refine congrArg (fun v => Scalar.subi v 1#32) ?_
    show w = BitVec.ofNat 32 (w.toNat - 1 + 1)
    rw [Nat.sub_add_cancel h1]
    exact BitVec.eq_of_toNat_eq (by rw [BitVec.toNat_ofNat, Nat.mod_eq_of_lt w.isLt])
  rw [e]
  exact small_min _ _ hi (by omega)

/-- Where each window's block lies. -/
theorem tr0 (i : grid0.Coords) : cc0_transform_0 inb_S1_S1_0 numel1_S1 pf i = ![min (i 1).val (nOf pf - 1), 0] := by
  refine (congrArg (fun w => ![(Scalar.minsi (BitVec.ofNat 32 (i 1).val) (Scalar.subi w 1#32)).toNat, 0]) (at_n hR _ _)).trans ?_
  exact congrArg (fun n => ![n, 0]) (min_word hR i _ hR.n.1 hR.n.2)
theorem tr3 (i : grid0.Coords) : cc0_transform_3 inb_S1_S1_0 numel1_S1 pf i = ![min (i 1).val (nOf pf - 1), (i 0).val] := by
  refine (congrArg (fun w => ![(Scalar.minsi (BitVec.ofNat 32 (i 1).val) (Scalar.subi w 1#32)).toNat, (BitVec.ofNat 32 (i 0).val).toNat]) (at_n hR _ _)).trans ?_
  exact congrArg₂ (fun n k => ![n, k]) (min_word hR i _ hR.n.1 hR.n.2) (col_word (i 0))
theorem tr1 (i : grid0.Coords) : cc0_transform_1 k0_off1_inb numel1_S1 pf i = ![0, eOf pf (i 1), 0, (i 0).val] :=
  congrArg₂ (fun (w : BitVec 32) k => ![0, w.toNat, 0, k]) (at_e hR i _ _) (col_word (i 0))
theorem tr2 (i : grid0.Coords) : cc0_transform_2 k0_off1_inb numel1_S1 pf i = ![0, eOf pf (i 1), 0, (i 0).val] := tr1 hR i

/-- Every window's block lies inside its array at every point. -/
theorem ok_of_range : ok0 (F := F) pf := by
  have hj : ∀ i : grid0.Coords, (i 0).val < 2 := fun i => (i 0).isLt
  have hn : ∀ i : grid0.Coords, min (i 1).val (nOf pf - 1) < 288 := fun i => lt_of_le_of_lt (Nat.min_le_left _ _) (i 1).isLt
  have he : ∀ i : grid0.Coords, eOf pf (i 1) < 32 := fun i => hR.e (i 1)
  refine ⟨fun i => ?_, fun i => ?_, fun i => ?_, fun i => ?_⟩
  · have h : ∀ a, (cc0_transform_0 inb_S1_S1_0 numel1_S1 pf i a + 1) * S512x2048.size a ≤ S147456x2048.size a := by
      rw [tr0 hR]; have := hn i
      refine Fin.forall_fin_two.2 ⟨?_, ?_⟩
      · show (min (i 1).val (nOf pf - 1) + 1) * 512 ≤ 147456; omega
      · show (0 + 1) * 2048 ≤ 2048; omega
    exact ⟨h, Or.inr (Affine.block_words_dvd (by decide) (by decide))⟩
  · have h : ∀ a, (cc0_transform_1 k0_off1_inb numel1_S1 pf i a + 1) * S1x1x2048x1024.size a ≤ S1x32x2048x2048.size a := by
      rw [tr1 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 2048 ≤ 2048; omega
      · show ((i 0).val + 1) * 1024 ≤ 2048; omega
    exact ⟨h, Or.inl rfl⟩
  · have h : ∀ a, (cc0_transform_2 k0_off1_inb numel1_S1 pf i a + 1) * S1x1x1x1024.size a ≤ S1x32x1x2048.size a := by
      rw [tr2 hR]; have := hj i; have := he i
      refine Fin.forall_fin_succ.2 ⟨?_, Fin.forall_fin_succ.2 ⟨?_, Fin.forall_fin_two.2 ⟨?_, ?_⟩⟩⟩
      · show (0 + 1) * 1 ≤ 1; omega
      · show (eOf pf (i 1) + 1) * 1 ≤ 32; omega
      · show (0 + 1) * 1 ≤ 1; omega
      · show ((i 0).val + 1) * 1024 ≤ 2048; omega
    exact ⟨h, Or.inl rfl⟩
  · have h : ∀ a, (cc0_transform_3 inb_S1_S1_0 numel1_S1 pf i a + 1) * S512x1024.size a ≤ S147456x2048.size a := by
      rw [tr3 hR]; have := hn i; have := hj i
      refine Fin.forall_fin_two.2 ⟨?_, ?_⟩
      · show (min (i 1).val (nOf pf - 1) + 1) * 512 ≤ 147456; omega
      · show ((i 0).val + 1) * 1024 ≤ 2048; omega
    exact ⟨h, Or.inl rfl⟩

/-- The result's window is left alone where the tile is not in use. -/
theorem idle_out (i : grid0.Coords) : idle0 pf 3 i = !decide ((i 1).val < nOf pf) := by
  have hw : pf.atD 1 ![0] = pf 1 (ix1 (n := 1) 0) := by
    have h : ∀ a, (![0] : Fin 1 → ℕ) a + 1 ≤ S1.size a := fun a => by rw [Fin.fin_one_eq_zero a]; exact le_refl _
    exact (dif_pos h).trans (congrArg (pf 1) (by
      funext a
      match a with
      | ⟨0, _⟩ => rfl))
  show (!(k0_cond2 i (pf.atD 1 ![0]) == 1#1)) = _
  rw [hw, Bool.beq_eq_decide_eq]
  exact congrArg (!·) (decide_eq_decide.2 (cond2_iff i _ hR.n.2))

end Cert.Kernel3Ideal.Down
-- ==== Proof.DownFrame.lean ====
module

public import proofs.«01_k».proof.Proof.DownTables
public import Idealize.ShloMosaic.Lib.Claim
public import Idealize.ShloMosaic.Lib.Pipeline.TableIdle
public import Idealize.ShloMosaic.Lib.StableHlo.RunRead

@[expose] public section

set_option maxRecDepth 16384

noncomputable section

namespace Cert.Kernel3Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)
open Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the launch -/

/-- The one stretch of host operations: the weights and biases given the leading axes the blocks have. -/
abbrev stretches : List (List (HloOp τ sig (Elt F))) := [hostOps0]

/-- What each buffer of core `c` holds when the launch begins. -/
abbrev V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  hostOps0_sub

theorem stretches_fresh : (stretches : List (List (HloOp τ sig (Elt F)))).Forall fun ops => ops.Forall fun op => op.fresh = ∅ := by
  simp only [List.Forall]; repeat' constructor

set_option maxHeartbeats 1600000 in
/-- The program is its host operations followed by the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main stretches stretches_sub stretches_fresh main_chain

/-- The buffers the host operations write, in order. -/
abbrev written : List (Ref sig .tc) := [main_v0, main_v1]

theorem written_eq : (stretches : List (List (HloOp τ sig (Elt F)))).flatten.map HloOp.writes = written.map fun w => {Proc.devRef (τ := τ) .tc w} := rfl

/-- The arguments are as launched. -/
theorem V_arg0 (c : Dev nD) : V m c main_arg0 = m ((c : Thread nD τ).loc main_arg0) := StableHlo.after_unwritten written written_eq (by decide) _
theorem V_arg1 (c : Dev nD) : V m c main_arg1 = m ((c : Thread nD τ).loc main_arg1) := StableHlo.after_unwritten written written_eq (by decide) _
theorem V_arg2 (c : Dev nD) : V m c main_arg2 = m ((c : Thread nD τ).loc main_arg2) := StableHlo.after_unwritten written written_eq (by decide) _
theorem V_arg3 (c : Dev nD) : V m c main_arg3 = m ((c : Thread nD τ).loc main_arg3) := StableHlo.after_unwritten written written_eq (by decide) _
theorem V_arg4 (c : Dev nD) : V m c main_arg4 = m ((c : Thread nD τ).loc main_arg4) := StableHlo.after_unwritten written written_eq (by decide) _

/-! ## The tables -/

/-- The tables' contents at the launch. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

variable (hR : InRange (tbl m))

/-- The tables as admitted contents, and the launch at them. -/
abbrev adm : (pcfg0 (F := F)).Adm := ⟨tbl m, ok_of_range hR⟩
abbrev cfgM : Pipeline.Cfg sig Λ₀ := cfg0 (adm m hR)

theorem tables_eq (c : Dev nD) : (Pipeline.ΦT pre0 (tbl m) c : sProp 𝕄)
    = iprop(tabPt c tabE (tbl m 0) ∗ tabPt c tabN (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t` of its array at the launch. -/
def iblk (c : Dev nD) (w : Fin (cfgM m hR).W) (t : Fin (cfgM m hR).N) : (((cfgM m hR).win w).xblock ((cfgM m hR).grid.coords t)).Idx → Elt F ((cfgM m hR).win w).elt :=
  (((cfgM m hR).win w).blk t).view.read (Elt F) (V m c (Pipeline.arrRef spec0 w))

theorem before_of_0 {c : Dev nD} (dat : Dat τ (Elt F) Unit ℕ (UR sig nD τ) ℕ (cfgM m hR) c) (hA : dat.A 0 = V m c (Pipeline.arrRef spec0 0))
    (hafter : ∀ t, dat.after 0 t = iblk m hR c 0 t) (t : Fin (cfgM m hR).N) (d) : dat.before 0 t d = iblk m hR c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_of_1 {c : Dev nD} (dat : Dat τ (Elt F) Unit ℕ (UR sig nD τ) ℕ (cfgM m hR) c) (hA : dat.A 1 = V m c (Pipeline.arrRef spec0 1))
    (hafter : ∀ t, dat.after 1 t = iblk m hR c 1 t) (t : Fin (cfgM m hR).N) (d) : dat.before 1 t d = iblk m hR c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_of_2 {c : Dev nD} (dat : Dat τ (Elt F) Unit ℕ (UR sig nD τ) ℕ (cfgM m hR) c) (hA : dat.A 2 = V m c (Pipeline.arrRef spec0 2))
    (hafter : ∀ t, dat.after 2 t = iblk m hR c 2 t) (t : Fin (cfgM m hR).N) (d) : dat.before 2 t d = iblk m hR c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem live_0 (t : Fin (cfgM m hR).N) : (cfgM m hR).idle 0 (grid0.coords t) = false := rfl
theorem live_1 (t : Fin (cfgM m hR).N) : (cfgM m hR).idle 1 (grid0.coords t) = false := rfl
theorem live_2 (t : Fin (cfgM m hR).N) : (cfgM m hR).idle 2 (grid0.coords t) = false := rfl
set_option maxHeartbeats 1600000 in
theorem idle_3 (t : Fin (cfgM m hR).N) : (cfgM m hR).idle 3 (grid0.coords t) = !decide ((grid0.coords t 1).val < nOf (tbl m)) :=
  idle_out hR (grid0.coords t)

/-- The points' coordinates: the column strip, and the tile. -/
theorem coord0 (t : Fin grid0.N) : (grid0.coords t 0).val = t.val / 288 := by
  have ht : t.val < 576 := Nat.lt_of_lt_of_eq t.isLt N_0
  have e : (grid0.coords t 0).val = t.val / 288 % 2 := Pipeline.Grid.coords_val t 0 (by decide) rfl
  rw [e]; omega
theorem coord1 (t : Fin grid0.N) : (grid0.coords t 1).val = t.val % 288 := by
  have e : (grid0.coords t 1).val = t.val / 1 % 288 := Pipeline.Grid.coords_val t 1 (by decide) rfl
  rw [e, Nat.div_one]

include hR in
theorem count_pos : 1 ≤ nOf (tbl m) ∧ nOf (tbl m) ≤ 288 := hR.n

/-- The point whose result a tile's buffer holds: the point itself while tiles are in use, and the strip's last point in
    use after that. -/
def base (t : Fin (cfgM m hR).N) : Fin (cfgM m hR).N :=
  ⟨288 * (t.val / 288) + min (t.val % 288) (nOf (tbl m) - 1), by have ht : t.val < (cfgM m hR).N := t.isLt; omega⟩

theorem base_used (t : Fin (cfgM m hR).N) (h : (grid0.coords t 1).val < nOf (tbl m)) : base m hR t = t := by
  rw [coord1] at h
  apply Fin.ext
  show 288 * (t.val / 288) + min (t.val % 288) (nOf (tbl m) - 1) = t.val
  omega
theorem base_prev (t : Fin (cfgM m hR).N) (h : ¬ (grid0.coords t 1).val < nOf (tbl m)) (h' : t.val - 1 < (cfgM m hR).N) :
    base m hR t = base m hR ⟨t.val - 1, h'⟩ := by
  rw [coord1] at h
  have hn := (count_pos m hR).1
  have e1 : (t.val - 1) / 288 = t.val / 288 := by omega
  have e2 : (t.val - 1) % 288 = t.val % 288 - 1 := by omega
  apply Fin.ext
  show 288 * (t.val / 288) + min (t.val % 288) (nOf (tbl m) - 1) = 288 * ((t.val - 1) / 288) + min ((t.val - 1) % 288) (nOf (tbl m) - 1)
  rw [e1, e2]; omega

/-- Before a tile that is not in use nothing is written back. -/
theorem flush_before (n : ℕ) (hn : n < (cfgM m hR).N) (hn1 : n + 1 < (cfgM m hR).N)
    (h : ¬ (grid0.coords (⟨n + 1, hn1⟩ : Fin grid0.N) 1).val < nOf (tbl m)) : ((cfgM m hR).win 3).flush ⟨n, hn⟩ = false := by
  rw [coord1] at h
  have hc := (count_pos m hR).1
  have h0 : ¬ (n + 1) % 288 < nOf (tbl m) := h
  rw [Pipeline.Window.flush_eq_flushF]
  by_contra hf
  rw [Bool.not_eq_false] at hf
  unfold Pipeline.Window.flushF at hf
  rw [Bool.and_eq_true, Bool.or_eq_true] at hf
  rcases hf.2 with hf | hf
  · have hf := of_decide_eq_true hf
    have hN : grid0.N = 576 := N_0
    have e : n + 1 = grid0.N := hf
    have h1 : n + 1 < grid0.N := hn1
    omega
  · obtain ⟨hk, a, ha⟩ := of_decide_eq_true hf
    refine ha (congrFun ?_ a)
    refine (tr3 hR (grid0.coords ⟨n + 1, hk⟩)).trans (Eq.trans ?_ (tr3 hR (grid0.coords ⟨n, hn⟩)).symm)
    rw [coord0, coord1, coord0, coord1]
    have e1 : (n + 1) / 288 = n / 288 := by omega
    have e2 : min ((n + 1) % 288) (nOf (tbl m) - 1) = min (n % 288) (nOf (tbl m) - 1) := by omega
    show ![min ((n + 1) % 288) (nOf (tbl m) - 1), (n + 1) / 288] = ![min (n % 288) (nOf (tbl m) - 1), n / 288]
    rw [e1, e2]

/-- At a tile that is not in use the result's buffer still holds what an earlier point left. -/
theorem not_fresh : ∀ (n : ℕ) (hn : n < (cfgM m hR).N), ¬ (grid0.coords (⟨n, hn⟩ : Fin grid0.N) 1).val < nOf (tbl m) → (cfgM m hR).fresh 3 n = false
  | 0, hn, h => absurd (by rw [coord1]; exact (count_pos m hR).1) h
  | n + 1, hn, h => by
    have hn' : n < (cfgM m hR).N := Nat.lt_of_succ_lt hn
    rw [Pipeline.Cfg.fresh_succ _ _ _ hn', flush_before m hR n hn' hn h, Bool.false_or]
    by_cases hu : (grid0.coords (⟨n, hn'⟩ : Fin grid0.N) 1).val < nOf (tbl m)
    · rw [show (cfgM m hR).idle 3 ((cfgM m hR).grid.coords ⟨n, hn'⟩) = false from (idle_3 m hR ⟨n, hn'⟩).trans (by rw [decide_eq_true hu]; rfl), Bool.false_and]
    · rw [not_fresh n hn' hu, Bool.and_false]

abbrev ms0 (t : Fin (cfgM m hR).N) : Memref sig .tc .vmem S512x2048 .bf16 := spec0_0.stage ((cfgM m hR).slots t 0)
abbrev hs0 (t : Fin (cfgM m hR).N) : (ms0 m hR t).IsWhole := hstage0_0 (((cfgM m hR).slots t 0).cast nbuf0_0)
abbrev ms1 (t : Fin (cfgM m hR).N) : Memref sig .tc .vmem S1x1x2048x1024 .f32 := spec0_1.stage ((cfgM m hR).slots t 1)
abbrev hs1 (t : Fin (cfgM m hR).N) : (ms1 m hR t).IsWhole := hstage0_1 (((cfgM m hR).slots t 1).cast nbuf0_1)
abbrev ms2 (t : Fin (cfgM m hR).N) : Memref sig .tc .vmem S1x1x1x1024 .f32 := spec0_2.stage ((cfgM m hR).slots t 2)
abbrev hs2 (t : Fin (cfgM m hR).N) : (ms2 m hR t).IsWhole := hstage0_2 (((cfgM m hR).slots t 2).cast nbuf0_2)
abbrev ms3 (t : Fin (cfgM m hR).N) : Memref sig .tc .vmem S512x1024 .f32 := spec0_3.stage ((cfgM m hR).slots t 3)
abbrev hs3 (t : Fin (cfgM m hR).N) : (ms3 m hR t).IsWhole := hstage0_3 (((cfgM m hR).slots t 3).cast nbuf0_3)
abbrev scW : Memref sig .tc .vmem S2048x1024 .bf16 := Memref.whole cc0_scratch0

/-- The body at point `t`, at the memrefs the launch hands it. -/
abbrev bodyAt (t : Fin (cfgM m hR).N) : Prog (TpuEff nD τ sig (Elt F) Λ₀ .tc) PUnit :=
  cc0_expert_down (grid0.coords t) tabE wholeE tabN wholeN (ms0 m hR t) (hs0 m hR t) (ms1 m hR t) (hs1 m hR t) (ms2 m hR t) (hs2 m hR t)
    (ms3 m hR t) (hs3 m hR t) scW (Memref.isWhole_whole _)

theorem rest_eq (c : Dev nD) : (Pipeline.ΦA spec0 c : sProp 𝕄)
    = iprop((∃ d, owns (c : Thread nD τ) scW fullShare d) ∗ (∃ r, prngReg c r)) := by
  unfold Pipeline.ΦA; rw [scopedRest0_eq]; simp only [scW, owns_whole]; try rfl

/-! ## The running state -/

/-- The three input blocks of point `t`, at their shapes: the activations, the weights, the biases. -/
abbrev bx (c : Dev nD) (t : Fin (cfgM m hR).N) : Vec F S512x2048 .bf16 := iblk m hR c 0 t
abbrev bw (c : Dev nD) (t : Fin (cfgM m hR).N) : Vec F S1x1x2048x1024 .f32 := iblk m hR c 1 t
abbrev bb (c : Dev nD) (t : Fin (cfgM m hR).N) : Vec F S1x1x1x1024 .f32 := iblk m hR c 2 t

/-- The narrowed weights of point `t`, and the result's block computed there. -/
def sW (c : Dev nD) (t : Fin (cfgM m hR).N) : Vec F S2048x1024 .bf16 := k0_pay1 (bw m hR c t)
def outS (c : Dev nD) (t : Fin (cfgM m hR).N) : Vec F S512x1024 .f32 := k0_pay2 (bx m hR c t) (sW m hR c t) (bb m hR c t)

theorem emb1_val (t : Fin (cfgM m hR).N) (y : S1x1x2048x1024.Idx) (a : Fin 4) :
    ((((cfgM m hR).win 1).rect t).emb y a).val
      = (![0, eOf (tbl m) (grid0.coords t 1), 0, (grid0.coords t 0).val] : Fin 4 → ℕ) a * S1x1x2048x1024.size a + (y a).val := by
  rw [← tr1 hR (grid0.coords t)]
  exact Pipeline.Window.rect_emb_val ((cfgM m hR).win 1) t y a rfl
/-- Two points of one strip whose tiles have one expert have the same weights. -/
theorem same_W (c : Dev nD) (t t' : Fin (cfgM m hR).N) (hj : (grid0.coords t 0).val = (grid0.coords t' 0).val)
    (he : eOf (tbl m) (grid0.coords t 1) = eOf (tbl m) (grid0.coords t' 1)) : sW m hR c t = sW m hR c t' := by
  refine congrArg k0_pay1 (funext fun y => ?_)
  refine congrArg (V m c main_v0) (funext fun a => Fin.ext ?_)
  exact (emb1_val m hR t y a).trans ((by rw [hj, he] : _ = _).trans (emb1_val m hR t' y a).symm)
/-- A point that meets no new expert has the weights of the point before. -/
theorem kept (c : Dev nD) (t : Fin (cfgM m hR).N) (h : ¬ isNew c (grid0.coords t) (tbl m 0)) (h' : t.val - 1 < (cfgM m hR).N) :
    t.val ≠ 0 ∧ sW m hR c t = sW m hR c ⟨t.val - 1, h'⟩ := by
  obtain ⟨h0, he⟩ := not_new c (grid0.coords t) (tbl m 0) h
  have h0' : t.val % 288 ≠ 0 := by rw [← coord1]; exact h0
  have hj : (grid0.coords t 0).val = (grid0.coords (⟨t.val - 1, h'⟩ : Fin grid0.N) 0).val := by
    rw [coord0, coord0]; show t.val / 288 = (t.val - 1) / 288; omega
  have hi : (⟨(grid0.coords t 1).val - 1, lt_of_le_of_lt (Nat.sub_le _ _) (grid0.coords t 1).isLt⟩ : Fin 288) = grid0.coords (⟨t.val - 1, h'⟩ : Fin grid0.N) 1 := by
    apply Fin.ext
    refine Eq.trans ?_ (coord1 _).symm
    have e := coord1 t
    show (grid0.coords t 1).val - 1 = (t.val - 1) % 288
    omega
  have hE : eOf (tbl m) (grid0.coords t 1) = eOf (tbl m) (grid0.coords (⟨t.val - 1, h'⟩ : Fin grid0.N) 1) := by
    rw [← hi]; exact congrArg BitVec.toNat he
  exact ⟨fun hz => h0' (by rw [hz]), same_W m hR c t _ hj hE⟩

/-- A point's run from a buffer that holds the point before's narrowed weights whenever the point meets no new expert. -/
theorem run_step (c : Dev nD) (t : Fin (cfgM m hR).N) (a4 h4 a5 h5 a6 h6 a7 h7 a8 h8) (xo : Vec F S512x1024 .f32) (sw : Vec F S2048x1024 .bf16)
    (hs : ¬ isNew c (grid0.coords t) (tbl m 0) → sw = sW m hR c t) :
    (bodyRun c (grid0.coords t) a4 h4 a5 h5 a6 h6 a7 h7 a8 h8 (bx m hR c t) (bw m hR c t) (bb m hR c t) xo sw (tbl m 0) (tbl m 1)).1
      = (sW m hR c t, if (grid0.coords t 1).val < nOf (tbl m) then outS m hR c t else xo) :=
  bodyRun_kept (hs := hs) (hq := used_iff hR c (grid0.coords t)) ..

/-- The invariant before point `n`. -/
def PhiS (c : Dev nD) : (n : ℕ) → n ≤ (cfgM m hR).N → sProp 𝕄
  | 0, _ => iprop(Pipeline.ΦA spec0 c ∗ Pipeline.ΦT pre0 (tbl m) c)
  | n + 1, hn => iprop((owns (c : Thread nD τ) scW fullShare (sW m hR c ⟨n, hn⟩)
      ∗ (∃ r, prngReg c r)) ∗ Pipeline.ΦT pre0 (tbl m) c)

theorem PhiS_zero (c : Dev nD) (n : ℕ) (h : n ≤ (cfgM m hR).N) (hz : n = 0) : PhiS m hR c n h = iprop(Pipeline.ΦA spec0 c ∗ Pipeline.ΦT pre0 (tbl m) c) := by
  subst hz; rfl
theorem PhiS_pos (c : Dev nD) (n : ℕ) (h : n ≤ (cfgM m hR).N) (hz : n ≠ 0) (h' : n - 1 < (cfgM m hR).N) :
    PhiS m hR c n h = iprop((owns (c : Thread nD τ) scW fullShare (sW m hR c ⟨n - 1, h'⟩)
      ∗ (∃ r, prngReg c r)) ∗ Pipeline.ΦT pre0 (tbl m) c) := by
  cases n with
  | zero => exact absurd rfl hz
  | succ n => rfl

/-- The launch's proof data. -/
def dats (_ : Fin 1) (c : Dev nD) : Dat τ (Elt F) Unit ℕ (UR sig nD τ) ℕ (cfgM m hR) c where
  A w := V m c (Pipeline.arrRef spec0 w)
  after w t := match w with
    | ⟨0, _⟩ => iblk m hR c 0 t
    | ⟨1, _⟩ => iblk m hR c 1 t
    | ⟨2, _⟩ => iblk m hR c 2 t
    | ⟨3, _⟩ => outS m hR c (base m hR t)
  Φ t := PhiS m hR c t.val (Nat.le_of_lt_succ t.isLt)
  q _ := fullShare
  owed _ := 0

theorem A_eq (c : Dev nD) (w : Fin (cfgM m hR).W) : (dats m hR 0 c).A w = V m c (Pipeline.arrRef spec0 w) := by
  dsimp only [dats]
theorem Phi_at (c : Dev nD) (t : Fin (cfgM m hR).N) : (dats m hR 0 c).Φ t.castSucc = PhiS m hR c t.val (Nat.le_of_lt t.isLt) := by
  dsimp only [dats]; exact Pipeline.Dat.Φ_castSucc (PhiS m hR c) t
theorem after_0 (c : Dev nD) (t : Fin (cfgM m hR).N) : (dats m hR 0 c).after 0 t = iblk m hR c 0 t := by dsimp only [dats]; try rfl
theorem after_1 (c : Dev nD) (t : Fin (cfgM m hR).N) : (dats m hR 0 c).after 1 t = iblk m hR c 1 t := by dsimp only [dats]; try rfl
theorem after_2 (c : Dev nD) (t : Fin (cfgM m hR).N) : (dats m hR 0 c).after 2 t = iblk m hR c 2 t := by dsimp only [dats]; try rfl
theorem after_3 (c : Dev nD) (t : Fin (cfgM m hR).N) : (dats m hR 0 c).after 3 t = outS m hR c (base m hR t) := by dsimp only [dats]; try rfl
theorem before_0 (c : Dev nD) (t : Fin (cfgM m hR).N) (d) : (dats m hR 0 c).before 0 t d = iblk m hR c 0 t :=
  before_of_0 m hR (dats m hR 0 c) (A_eq m hR c 0) (after_0 m hR c) t d
theorem before_1 (c : Dev nD) (t : Fin (cfgM m hR).N) (d) : (dats m hR 0 c).before 1 t d = iblk m hR c 1 t :=
  before_of_1 m hR (dats m hR 0 c) (A_eq m hR c 1) (after_1 m hR c) t d
theorem before_2 (c : Dev nD) (t : Fin (cfgM m hR).N) (d) : (dats m hR 0 c).before 2 t d = iblk m hR c 2 t :=
  before_of_2 m hR (dats m hR 0 c) (A_eq m hR c 2) (after_2 m hR c) t d
theorem leaves_0 (c : Dev nD) (t : Fin (cfgM m hR).N) : (dats m hR 0 c).leavesExact 0 t = owns (c : Thread nD τ) (ms0 m hR t) fullShare (iblk m hR c 0 t) := by
  unfold Dat.leavesExact; rw [live_0 m hR t]; exact congrArg (owns (c : Thread nD τ) (ms0 m hR t) fullShare) (after_0 m hR c t)
theorem leaves_1 (c : Dev nD) (t : Fin (cfgM m hR).N) : (dats m hR 0 c).leavesExact 1 t = owns (c : Thread nD τ) (ms1 m hR t) fullShare (iblk m hR c 1 t) := by
  unfold Dat.leavesExact; rw [live_1 m hR t]; exact congrArg (owns (c : Thread nD τ) (ms1 m hR t) fullShare) (after_1 m hR c t)
theorem leaves_2 (c : Dev nD) (t : Fin (cfgM m hR).N) : (dats m hR 0 c).leavesExact 2 t = owns (c : Thread nD τ) (ms2 m hR t) fullShare (iblk m hR c 2 t) := by
  unfold Dat.leavesExact; rw [live_2 m hR t]; exact congrArg (owns (c : Thread nD τ) (ms2 m hR t) fullShare) (after_2 m hR c t)
/-- At a tile that is not in use the result's buffer holds the strip's last result. -/
theorem before_3 (c : Dev nD) (t : Fin (cfgM m hR).N) (h : ¬ (grid0.coords t 1).val < nOf (tbl m)) (d) :
    (dats m hR 0 c).before 3 t d = outS m hR c (base m hR t) := by
  have h' : t.val - 1 < (cfgM m hR).N := Nat.lt_of_le_of_lt (Nat.sub_le _ _) t.isLt
  refine ((dats m hR 0 c).before_out_traj 3 rfl (fun _ _ => rfl) ?_ t.val t rfl d).trans ?_
  · intro t' ht' hi hf
    have hu : ¬ (grid0.coords t' 1).val < nOf (tbl m) := fun hu => by
      have e := (idle_3 m hR t').symm.trans hi
      rw [decide_eq_true hu] at e
      exact absurd e (by decide)
    rw [after_3, after_3]
    exact congrArg (outS m hR c) (base_prev m hR t' hu _)
  · rw [not_fresh m hR t.val t.isLt h, if_neg Bool.false_ne_true, after_3]
    exact congrArg (outS m hR c) (base_prev m hR t h _).symm

/-- At a tile in use the result's block is as the body leaves it. -/
theorem leaves_used (c : Dev nD) (t : Fin (cfgM m hR).N) (h : (grid0.coords t 1).val < nOf (tbl m)) :
    (dats m hR 0 c).leavesExact 3 t = owns (c : Thread nD τ) (ms3 m hR t) fullShare (outS m hR c t) := by
  unfold Dat.leavesExact; rw [idle_3 m hR t, decide_eq_true h]
  exact congrArg (owns (c : Thread nD τ) (ms3 m hR t) fullShare) ((after_3 m hR c t).trans (congrArg (outS m hR c) (base_used m hR t h)))

/-! ## The body -/

def bodyPre (c : Dev nD) (t : Fin (cfgM m hR).N) : sProp 𝕄 :=
  iprop((dats m hR 0 c).Φ t.castSucc ∗ (dats m hR 0 c).owesAt () t.castSucc
    ∗ (∃ d, owns (c : Thread nD τ) (ms0 m hR t) fullShare ((dats m hR 0 c).before 0 t d))
    ∗ (∃ d, owns (c : Thread nD τ) (ms1 m hR t) fullShare ((dats m hR 0 c).before 1 t d))
    ∗ (∃ d, owns (c : Thread nD τ) (ms2 m hR t) fullShare ((dats m hR 0 c).before 2 t d))
    ∗ (∃ d, owns (c : Thread nD τ) (ms3 m hR t) fullShare ((dats m hR 0 c).before 3 t d)))
def bodyPost (c : Dev nD) (t : Fin (cfgM m hR).N) : sProp 𝕄 :=
  iprop((dats m hR 0 c).Φ t.succ ∗ (dats m hR 0 c).owesAt () t.succ
    ∗ (dats m hR 0 c).leavesExact 0 t ∗ (dats m hR 0 c).leavesExact 1 t ∗ (dats m hR 0 c).leavesExact 2 t ∗ (dats m hR 0 c).leavesExact 3 t)

/-- What the body leaves in the result's buffer is what the launch expects of it. -/
theorem leaves_out (c : Dev nD) (t : Fin (cfgM m hR).N) (d) (xo : Vec F S512x1024 .f32) (hx : xo = (dats m hR 0 c).before 3 t d) :
    owns (c : Thread nD τ) (ms3 m hR t) fullShare (if (grid0.coords t 1).val < nOf (tbl m) then outS m hR c t else xo)
      ⊢ (dats m hR 0 c).leavesExact 3 t := by
  by_cases h : (grid0.coords t 1).val < nOf (tbl m)
  · rw [if_pos h, leaves_used m hR c t h]
  · rw [if_neg h]
    have hi : (cfgM m hR).idle 3 ((cfgM m hR).grid.coords t) = true := (idle_3 m hR t).trans (by rw [decide_eq_false h]; rfl)
    by_cases hf : ((cfgM m hR).win 3).flush t = true
    · rw [hx, before_3 m hR c t h d, ← after_3]
      unfold Dat.leavesExact; rw [hi, hf]; exact .rfl
    · rw [(dats m hR 0 c).leavesExact_idle 3 t hi (Bool.eq_false_iff.2 hf), hx]
      iintro H; iexists d; iexact H

/-- The point's run from the buffers' contents to the next state, the inputs and the tables given back. -/
theorem body_core (c : Dev nD) (t : Fin (cfgM m hR).N) (d : _) (sw : Vec F S2048x1024 .bf16)
    (hs : ¬ isNew c (grid0.coords t) (tbl m 0) → sw = sW m hR c t) (K : PUnit → sProp 𝕄) :
    iprop(owns (c : Thread nD τ) (ms0 m hR t) fullShare (iblk m hR c 0 t) ∗ owns (c : Thread nD τ) (ms1 m hR t) fullShare (iblk m hR c 1 t)
        ∗ owns (c : Thread nD τ) (ms2 m hR t) fullShare (iblk m hR c 2 t)
        ∗ owns (c : Thread nD τ) (ms3 m hR t) fullShare ((dats m hR 0 c).before 3 t d)
        ∗ owns (c : Thread nD τ) scW fullShare sw
        ∗ Pipeline.ΦT pre0 (tbl m) c
        ∗ (iprop(owns (c : Thread nD τ) (ms0 m hR t) fullShare (iblk m hR c 0 t) ∗ owns (c : Thread nD τ) (ms1 m hR t) fullShare (iblk m hR c 1 t)
          ∗ owns (c : Thread nD τ) (ms2 m hR t) fullShare (iblk m hR c 2 t)
          ∗ (dats m hR 0 c).leavesExact 3 t
          ∗ owns (c : Thread nD τ) scW fullShare (sW m hR c t)
          ∗ Pipeline.ΦT pre0 (tbl m) c) -∗ K ⟨⟩))
      ⊢ wp frame (wpE (defs₀ (F := F)) Variants.none c none) Set.univ (bodyAt m hR t) K := by
  rw [tables_eq]
  have hrun := (bodyRun c (grid0.coords t) (ms0 m hR t) (hs0 m hR t) (ms1 m hR t) (hs1 m hR t) (ms2 m hR t) (hs2 m hR t) (ms3 m hR t) (hs3 m hR t)
    scW (Memref.isWhole_whole _)
    (bx m hR c t) (bw m hR c t) (bb m hR c t) ((dats m hR 0 c).before 3 t d) sw (tbl m 0) (tbl m 1)).2 Set.univ K
  rw [run_step m hR c t _ _ _ _ _ _ _ _ _ _ ((dats m hR 0 c).before 3 t d) sw hs] at hrun
  iintro ⟨H0, H1, H2, H3, HW, ⟨Ta, Tb⟩, Hk⟩
  iapply hrun
  isplitl [H0]; · iexact H0
  isplitl [H1]; · iexact H1
  isplitl [H2]; · iexact H2
  isplitl [H3]; · iexact H3
  isplitl [HW]; · iexact HW
  isplitl [Ta]; · iexact Ta
  isplitl [Tb]; · iexact Tb
  iintro ⟨H0, H1, H2, H3, HW, Ta, Tb⟩
  iapply Hk
  isplitl [H0]; · iexact H0
  isplitl [H1]; · iexact H1
  isplitl [H2]; · iexact H2
  isplitl [H3]
  · iapply (leaves_out m hR c t d _ rfl); iexact H3
  isplitl [HW]; · iexact HW
  isplitl [Ta]; · iexact Ta
  iexact Tb

set_option maxHeartbeats 1600000 in
/-- The body at any point. -/
theorem sound_body (c : Dev nD) (t : Fin (cfgM m hR).N) :
    bodyPre m hR c t ⊢ wp frame (wpE (defs₀ (F := F)) Variants.none c none) Set.univ (bodyAt m hR t) (fun _ => bodyPost m hR c t) := by
  have h' : t.val - 1 < (cfgM m hR).N := Nat.lt_of_le_of_lt (Nat.sub_le _ _) t.isLt
  unfold bodyPre bodyPost
  simp only [before_0, before_1, before_2]
  rw [show (dats m hR 0 c).owesAt () t.succ = (dats m hR 0 c).owesAt () t.castSucc from rfl]
  rw [show (dats m hR 0 c).Φ t.succ = PhiS m hR c (t.val + 1) t.isLt from rfl, PhiS_pos m hR c (t.val + 1) _ (Nat.succ_ne_zero _) t.isLt]
  rw [leaves_0, leaves_1, leaves_2, Phi_at]
  by_cases hz : t.val = 0
  · rw [PhiS_zero m hR c _ _ hz, rest_eq]
    iintro ⟨⟨⟨⟨%sw, HW⟩, Hg⟩, HT⟩, Ho, ⟨%d0, H0⟩, ⟨%d1, H1⟩, ⟨%d2, H2⟩, ⟨%d3, H3⟩⟩
    iapply (body_core m hR c t d3 sw (fun h => absurd hz (kept m hR c t h h').1) _)
    isplitl [H0]; · iexact H0
    isplitl [H1]; · iexact H1
    isplitl [H2]; · iexact H2
    isplitl [H3]; · iexact H3
    isplitl [HW]; · iexact HW
    isplitl [HT]; · iexact HT
    iintro ⟨H0, H1, H2, H3, HW, HT⟩
    isplitl [HW Hg HT]
    · isplitl [HW Hg]
      · isplitl [HW]; · iexact HW
        iexact Hg
      iexact HT
    isplitl [Ho]; · iexact Ho
    isplitl [H0]; · iexact H0
    isplitl [H1]; · iexact H1
    isplitl [H2]; · iexact H2
    iexact H3
  · rw [PhiS_pos m hR c t.val _ hz h']
    iintro ⟨⟨⟨HW, Hg⟩, HT⟩, Ho, ⟨%d0, H0⟩, ⟨%d1, H1⟩, ⟨%d2, H2⟩, ⟨%d3, H3⟩⟩
    iapply (body_core m hR c t d3 _ (fun h => (kept m hR c t h h').2.symm) _)
    isplitl [H0]; · iexact H0
    isplitl [H1]; · iexact H1
    isplitl [H2]; · iexact H2
    isplitl [H3]; · iexact H3
    isplitl [HW]; · iexact HW
    isplitl [HT]; · iexact HT
    iintro ⟨H0, H1, H2, H3, HW, HT⟩
    isplitl [HW Hg HT]
    · isplitl [HW Hg]
      · isplitl [HW]; · iexact HW
        iexact Hg
      iexact HT
    isplitl [Ho]; · iexact Ho
    isplitl [H0]; · iexact H0
    isplitl [H1]; · iexact H1
    isplitl [H2]; · iexact H2
    iexact H3

theorem row_eq (t : Fin (cfgM m hR).N) :
    defs₀ (F := F) .tc (cfgM m hR).body ((cfgM m hR).bodyArgs t ((cfgM m hR).slots t)) = bodyAt m hR t := by
  unfold defs₀; rw [Defs.onTc_tc]

set_option maxHeartbeats 1600000 in
theorem body_obligation (c : Dev nD) : BodyObligation (dats (F := F) m hR 0 c) (defs₀ (F := F)) Variants.none () Set.univ := fun t => by
  rw [bigSep_W0, bigSep_W0, row_eq m hR]
  exact triple_restated (sound_body m hR c t) rfl .rfl fun _ => .rfl

theorem hin (c : Dev nD) : iprop(Pipeline.ΦA spec0 c ∗ Pipeline.ΦT pre0 (tbl m) c) ⊢ (dats m hR 0 c).Φ 0 := by
  rw [show (dats m hR 0 c).Φ 0 = PhiS m hR c 0 (Nat.zero_le _) from rfl, PhiS_zero m hR c 0 _ rfl]
theorem hout (c : Dev nD) : (dats m hR 0 c).Φ (Fin.last (cfgM m hR).N) ⊢ Pipeline.ΦA spec0 c := by
  have hN : (cfgM m hR).N = 576 := N_0
  rw [show (dats m hR 0 c).Φ (Fin.last (cfgM m hR).N) = PhiS m hR c (cfgM m hR).N (le_refl _) from rfl,
    PhiS_pos m hR c (cfgM m hR).N _ (by omega) (by omega), rest_eq]
  iintro ⟨⟨HW, Hg⟩, -⟩
  isplitl [HW]; · iexists _; iexact HW
  iexact Hg

set_option backward.isDefEq.respectTransparency.types false in
/-- The whole run: every array of the launch ends at what the points leave there, every other buffer as the launch found
    it, every counter at zero. -/
theorem run_all : θ_run defs (onTc (τ := τ) (main (F := F))) (s₀ m ρ)
    (fun r => Pipeline.FramePost (Pipeline.pin pcfgs fun _ => adm m hR) (dats m hR) 0 (V m) r ∧ r.2.sem = fun _ => 0) :=
  Pipeline.θ_run_frameP_track (Q' := _) pcfgs (fun _ => adm m hR) (dats m hR) (0 : Fin 1) launch0 defs₀ Variants.none m ρ main
    (hbody := fun c => (body_obligation m hR c).loose) (hshare := fun c => (dats m hR 0 c).share_full fun _ => rfl)
    (howed := fun _ _ => rfl) (V := V m) (hmain := hmain m Variants.none) (hA := A_eq m hR) (hpf := V_pre m) (hin := hin m hR) (hout := hout m hR)

/-- The arguments end as they began, the result at what the points leave in it, every counter at zero. -/
theorem run_main : θ_run defs (onTc (τ := τ) (main (F := F))) ⟨m, fun _ => 0, ρ⟩ (fun r => (∀ c : Dev nD,
      r.2.mem ((c.tc : Thread nD τ).loc main_v2) = (dats m hR 0 c).arrAt 3 (cfgM m hR).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
    ((h.1 c).2 main_arg0 (by decide : main_arg0 ∈ Pipeline.restRefs sig spec0)).trans (V_arg0 m c),
    ((h.1 c).2 main_arg1 (by decide : main_arg1 ∈ Pipeline.restRefs sig spec0)).trans (V_arg1 m c),
    ((h.1 c).1 0).trans (((dats m hR 0 c).arrAt_in 0 rfl _).trans ((A_eq m hR c 0).trans (V_arg2 m c))),
    ((h.1 c).2 main_arg3 (by decide : main_arg3 ∈ Pipeline.restRefs sig spec0)).trans (V_arg3 m c),
    ((h.1 c).2 main_arg4 (by decide : main_arg4 ∈ Pipeline.restRefs sig spec0)).trans (V_arg4 m c)⟩, h.2⟩) (run_all m ρ hR)

end Cert.Kernel3Ideal.Down
-- ==== Proof.DownRef.lean ====
module

public import proofs.«01_k».proof.Proof.RefValue
public import proofs.«01_k».proof.Proof.Gen.Reference3Ideal.Read

/-! # The third reference's result, entry by entry -/

@[expose] public section

noncomputable section

namespace Cert.Down

open Idealize.ShloMosaic hiding ix1 ix2 ix3 ix4 ix5
open Idealize.ShloMosaic.ValueIdx
open Cert.Reference3Ideal (S288 S147456x2048 S32x2048x2048 S32x2048)

abbrev Xs := FVec Ideal S147456x2048 .bf16
abbrev Ws := FVec Ideal S32x2048x2048 .f32
abbrev Bs := FVec Ideal S32x2048 .f32

/-- One entry of a row's product with an expert's weights, the bias added. -/
def lay (x : Xs) (w : Ws) (b : Bs) (e : Fin 32) (r : Fin 147456) (n : Fin 2048) : EReal :=
  (∑ k : Fin 2048, x (ix2 (n0 := 147456) (n1 := 2048) r k) * w (ix3 (n0 := 32) (n1 := 2048) (n2 := 2048) e k n)) + b (ix2 (n0 := 32) (n1 := 2048) e n)

end Cert.Down

namespace Cert.Reference3Ideal.Value

open Idealize.ShloMosaic hiding ix1 ix2 ix3 ix4 ix5
open Idealize.ShloMosaic.ValueIdx
open Cert.Reference3Ideal Cert.Reference3Ideal.Read Cert.Reference3Ideal.Facts₀ Cert.Reference3Ideal.Facts
open Cert.Down

abbrev Te := IVec S288 32

theorem v7_at (te : Te) (i : S288x1.Idx) (k : Fin 288) (hk : (i 0).val = k.val) (h : (te (ix1 (n := 288) k)).toNat < 32) :
    val_main_v7 (F := Ideal) te i = te (ix1 (n := 288) k) := by
  have e : idx_main_v7 i = ix1 (n := 288) k := by
    funext a
    match a with
    | ⟨0, _⟩ => exact Fin.ext hk
  rw [val_main_v7_apply, e, val_main_v6_apply, val_main_v3_apply, val_main_v2_apply, val_main_c_apply]
  exact Cert.ReferenceIdeal.Value.wrapped _ _ 0 (by omega)

theorem v15_at (te : Te) (i : S288x1.Idx) (k : Fin 288) (hk : (i 0).val = k.val) (h : (te (ix1 (n := 288) k)).toNat < 32) :
    val_main_v15 (F := Ideal) te i = te (ix1 (n := 288) k) := v7_at te i k hk h

theorem v8_at (te : Te) (w : Ws) (i : S288x2048x2048.Idx) (k : Fin 288) (hk : (i 0).val = k.val) (h : (te (ix1 (n := 288) k)).toNat < 32) (j : S32x2048x2048.Idx)
    (h0 : (j 0).val = (te (ix1 (n := 288) k)).toNat) (h1 : (j 1).val = (i 1).val) (h2 : (j 2).val = (i 2).val) :
    val_main_v8 (F := Ideal) te w i = w j := by
  unfold val_main_v8 Host.gather
  refine congrArg w (funext fun a => Fin.ext ?_)
  let D := gather_S32x2048x2048_S288x1_S288x2048x2048_12_0_n_n_0_1_120482048
  show D.start i (val_main_v7 (F := Ideal) te) a + D.batchCoord i a + D.offCoord i a = _
  rw [GatherDims.batchCoord_eq_zero _ _ _ List.not_mem_nil, Nat.add_zero]
  have e0 : D.start i (val_main_v7 (F := Ideal) te) 0 + D.offCoord i 0 = (te (ix1 (n := 288) k)).toNat := by
    rw [GatherDims.offCoord_eq_zero _ _ _ (fun h => ((GatherDims.mem_sKept _ _).mp h).1 (by decide)), Nat.add_zero]
    unfold GatherDims.start
    rw [dif_pos (show (0 : Fin 3) ∈ D.startIndexMap by decide)]
    rw [v7_at te (D.siIdx i ⟨List.idxOf (0 : Fin 3) D.startIndexMap, List.idxOf_lt_length_iff.2 (by decide)⟩) k hk h, BitVec.toInt_eq_toNat_of_lt (by omega)]
    show min (((te (ix1 (n := 288) k)).toNat : ℕ) : ℤ).toNat 31 = (te (ix1 (n := 288) k)).toNat
    rw [Int.toNat_natCast]; omega
  have e1 : D.start i (val_main_v7 (F := Ideal) te) 1 + D.offCoord i 1 = (i 1).val := by
    unfold GatherDims.start
    rw [dif_neg (show (1 : Fin 3) ∉ D.startIndexMap by decide), Nat.zero_add]
    unfold GatherDims.offCoord
    rw [dif_pos (show (1 : Fin 3) ∈ D.sKept by decide)]
    rfl
  have e2 : D.start i (val_main_v7 (F := Ideal) te) 2 + D.offCoord i 2 = (i 2).val := by
    unfold GatherDims.start
    rw [dif_neg (show (2 : Fin 3) ∉ D.startIndexMap by decide), Nat.zero_add]
    unfold GatherDims.offCoord
    rw [dif_pos (show (2 : Fin 3) ∈ D.sKept by decide)]
    rfl
  match a with
  | ⟨0, _⟩ => exact e0.trans h0.symm
  | ⟨1, _⟩ => exact e1.trans h1.symm
  | ⟨2, _⟩ => exact e2.trans h2.symm

theorem v16_at (te : Te) (b : Bs) (i : S288x2048.Idx) (k : Fin 288) (hk : (i 0).val = k.val) (h : (te (ix1 (n := 288) k)).toNat < 32) (j : S32x2048.Idx)
    (h0 : (j 0).val = (te (ix1 (n := 288) k)).toNat) (h1 : (j 1).val = (i 1).val) :
    val_main_v16 (F := Ideal) te b i = b j := by
  unfold val_main_v16 Host.gather
  refine congrArg b (funext fun a => Fin.ext ?_)
  let D := gather_S32x2048_S288x1_S288x2048_1_0_n_n_0_1_12048
  show D.start i (val_main_v15 (F := Ideal) te) a + D.batchCoord i a + D.offCoord i a = _
  rw [GatherDims.batchCoord_eq_zero _ _ _ List.not_mem_nil, Nat.add_zero]
  have e0 : D.start i (val_main_v15 (F := Ideal) te) 0 + D.offCoord i 0 = (te (ix1 (n := 288) k)).toNat := by
    rw [GatherDims.offCoord_eq_zero _ _ _ (fun h => ((GatherDims.mem_sKept _ _).mp h).1 (by decide)), Nat.add_zero]
    unfold GatherDims.start
    rw [dif_pos (show (0 : Fin 2) ∈ D.startIndexMap by decide)]
    rw [v15_at te (D.siIdx i ⟨List.idxOf (0 : Fin 2) D.startIndexMap, List.idxOf_lt_length_iff.2 (by decide)⟩) k hk h, BitVec.toInt_eq_toNat_of_lt (by omega)]
    show min (((te (ix1 (n := 288) k)).toNat : ℕ) : ℤ).toNat 31 = (te (ix1 (n := 288) k)).toNat
    rw [Int.toNat_natCast]; omega
  have e1 : D.start i (val_main_v15 (F := Ideal) te) 1 + D.offCoord i 1 = (i 1).val := by
    unfold GatherDims.start
    rw [dif_neg (show (1 : Fin 2) ∉ D.startIndexMap by decide), Nat.zero_add]
    unfold GatherDims.offCoord
    rw [dif_pos (show (1 : Fin 2) ∈ D.sKept by decide)]
    rfl
  match a with
  | ⟨0, _⟩ => exact e0.trans h0.symm
  | ⟨1, _⟩ => exact e1.trans h1.symm

theorem v19_at (te : Te) (x : Xs) (w : Ws) (b : Bs) (i : S288x512x2048.Idx) (k : Fin 288) (hk : (i 0).val = k.val) (e : Fin 32) (he : e.val = (te (ix1 (n := 288) k)).toNat)
    (r : Fin 147456) (hr : r.val = 512 * k.val + (i 1).val) (n : Fin 2048) (hn : n.val = (i 2).val) :
    val_main_v19 (F := Ideal) te x w b i = lay x w b e r n := by
  have hlt : (te (ix1 (n := 288) k)).toNat < 32 := he ▸ e.isLt
  rw [val_main_v19_apply, val_main_v9_apply, val_main_v18_apply, val_main_v17_apply]
  unfold lay
  refine congrArg₂ (fun a b : EReal => a + b) (Finset.sum_congr rfl fun d _ => congrArg₂ (fun a b : EReal => a * b) ?_ ?_) ?_
  · rw [val_main_v1_apply, val_main_v0_apply]
    refine congrArg x (funext fun a => Fin.ext ?_)
    have hi1 : (i 1).val < 512 := (i 1).isLt
    have hd := d.isLt
    match a with
    | ⟨0, _⟩ =>
      show ((((i 0).val * 512 + (i 1).val) * 2048 + d.val) / 2048 : ℕ) = r.val
      omega
    | ⟨1, _⟩ =>
      show ((((i 0).val * 512 + (i 1).val) * 2048 + d.val) % 2048 : ℕ) = d.val
      omega
  · exact v8_at te w _ k hk hlt _ he rfl hn
  · exact v16_at te b _ k hk hlt _ he hn

/-- The reference's result at a row and a column. -/
theorem ref_at (te : Te) (x : Xs) (w : Ws) (b : Bs) (i : S147456x2048.Idx) (k : Fin 288) (hk : (i 0).val / 512 = k.val) (e : Fin 32) (he : e.val = (te (ix1 (n := 288) k)).toNat) :
    val_main_v20 (F := Ideal) te x w b i = lay x w b e (i 0) (i 1) := by
  rw [val_main_v20_apply]
  have hi0 : (i 0).val < 147456 := (i 0).isLt
  have hi1 : (i 1).val < 2048 := (i 1).isLt
  have g0 : (idx_main_v20 i 0).val = (i 0).val / 512 := by
    show ((i 0).val * 2048 + (i 1).val) / 1048576 = _
    omega
  have g1 : (idx_main_v20 i 1).val = (i 0).val % 512 := by
    show ((i 0).val * 2048 + (i 1).val) / 2048 % 512 = _
    omega
  have g2 : (idx_main_v20 i 2).val = (i 1).val := by
    show ((i 0).val * 2048 + (i 1).val) % 2048 = _
    omega
  refine v19_at te x w b _ k (g0.trans hk) e he (i 0) ?_ _ g2.symm
  show (i 0).val = 512 * k.val + (idx_main_v20 i 1).val
  rw [g1]; omega

end Cert.Reference3Ideal.Value
-- ==== Proof.DownValue.lean ====
module

public import proofs.«01_k».proof.Proof.DownFrame
public import proofs.«01_k».proof.Proof.DownRef
public import Idealize.ShloMosaic.Lib.MatmulPlain
public import Idealize.ShloMosaic.Lib.Pointwise.SelectCore
public import Idealize.ShloMosaic.Lib.Pipeline.ValueKit.Geometry
public import Idealize.ShloMosaic.Lib.Pipeline.Value
public import Idealize.ShloMosaic.Lib.KernelVsHost

/-! # The third launch's result, entry by entry -/

@[expose] public section

set_option maxRecDepth 16384

noncomputable section

namespace Cert.Kernel3Ideal.Down

open Idealize.ShloMosaic hiding ix1 ix2 ix3 ix4 ix5
open Idealize.ShloMosaic.ValueIdx
open Idealize.ShloMosaic.TcCoe Idealize.ShloMosaic.StableHlo
open Idealize.ShloMosaic.Pipeline (Dat)
open Cert.Kernel3Ideal Cert.Kernel3Ideal.Gen
open Cert.Down

/-! ## One block -/

theorem zero_word : Ideal.ofBits .f32 0x00000000#32 = 0 := by simp [Ideal.ofBits, Ideal.ieee]

theorem pay1_at (x : Vec Ideal S1x1x2048x1024 .f32) (k : Fin 2048) (n : Fin 1024) :
    k0_pay1 (F := Ideal) x (ix2 (n0 := 2048) (n1 := 1024) k n) = (x (ix4 (n0 := 1) (n1 := 1) (n2 := 2048) (n3 := 1024) 0 0 k n) : EReal) := by
  unfold k0_pay1
  refine (congrFun (shapeCast_self _ _) _).trans ?_
  refine shapeCast_apply _ _ _ (ix4 (n0 := 1) (n1 := 1) (n2 := 2048) (n3 := 1024) 0 0 k n) ?_
  rw [Shape.rowMajor_val_four, Shape.rowMajor_val_two]
  show ((0 * 1 + 0) * 2048 + k.val) * 1024 + n.val = k.val * 1024 + n.val
  omega

/-- A row of biases under every row of a block. -/
theorem bias_at (x : Vec Ideal S1x1x1x1024 .f32) (r : Fin 512) (n : Fin 1024) :
    broadcastTo S512x1024 (shapeCast S1x1024 x shapeCasts_S1x1x1x1024_S1x1024) broadcasts_S1x1024_S512x1024 (ix2 (n0 := 512) (n1 := 1024) r n)
      = (x (ix4 (n0 := 1) (n1 := 1) (n2 := 1) (n3 := 1024) 0 0 0 n) : EReal) := by
  refine (broadcastTo_apply _ _ _ (ix2 (n0 := 1) (n1 := 1024) 0 n) ?_).trans (shapeCast_apply _ _ _ (ix4 (n0 := 1) (n1 := 1) (n2 := 1) (n3 := 1024) 0 0 0 n) ?_)
  · intro a
    match a with
    | ⟨0, _⟩ => rfl
    | ⟨1, _⟩ => rfl
  · rw [Shape.rowMajor_val_four, Shape.rowMajor_val_two]
    show ((0 * 1 + 0) * 1 + 0) * 1024 + n.val = 0 * 1024 + n.val
    omega

/-- A block's product with narrowed weights, a row of biases added. -/
theorem pay2_at (x : Vec Ideal S512x2048 .bf16) (w : Vec Ideal S2048x1024 .bf16) (b : Vec Ideal S1x1x1x1024 .f32) (r : Fin 512) (n : Fin 1024) :
    (k0_pay2 (F := Ideal) x w b (ix2 (n0 := 512) (n1 := 1024) r n) : EReal)
      = ((∑ k : Fin 2048, (x (ix2 (n0 := 512) (n1 := 2048) r k) : EReal) * w (ix2 (n0 := 2048) (n1 := 1024) k n))
          + b (ix4 (n0 := 1) (n1 := 1) (n2 := 1) (n3 := 1024) 0 0 0 n) : EReal) := by
  unfold k0_pay2
  refine congrArg₂ (fun a b : EReal => a + b) ?_ (bias_at b r n)
  refine (Ideal.matmul_plain_apply (φ₁ := .bf16) (φ₂ := .bf16) (M := 512) (K := 2048) (N := 1024) none x w (constant (F := Ideal) S512x1024 .f32 0x00000000#32) r n).trans ?_
  exact (congrArg (fun z : EReal => z + _) zero_word).trans (zero_add _)

/-! ## The arrays the windows cut blocks of -/

variable (m : (ℓ : Loc nD τ sig) → Buf (Elt Ideal) ℓ)

abbrev teA (c : Dev nD) : IVec S288 32 := m ((c : Thread nD τ).loc main_arg0)
abbrev xA (c : Dev nD) : Xs := m ((c : Thread nD τ).loc main_arg2)
abbrev wA (c : Dev nD) : Ws := m ((c : Thread nD τ).loc main_arg3)
abbrev bA (c : Dev nD) : Bs := m ((c : Thread nD τ).loc main_arg4)

theorem V_v0 (c : Dev nD) : V m c main_v0 = broadcastInDim S1x32x2048x2048 ![1, 2, 3] bcast_S32x2048x2048_S1x32x2048x2048_1_2_3 (wA m c) := by
  show StableHlo.after stretches.flatten _ (Proc.devRef .tc main_v0) = _
  simp only [List.flatten_cons, List.flatten_nil, List.append_nil]
  after_reads_simp
  try rfl

theorem V_v1 (c : Dev nD) : V m c main_v1 = broadcastInDim S1x32x1x2048 ![1, 3] bcast_S32x2048_S1x32x1x2048_1_3 (bA m c) := by
  show StableHlo.after stretches.flatten _ (Proc.devRef .tc main_v1) = _
  simp only [List.flatten_cons, List.flatten_nil, List.append_nil]
  after_reads_simp
  try rfl

theorem w_at (c : Dev nD) (i : S1x32x2048x2048.Idx) (e : Fin 32) (k : Fin 2048) (n : Fin 2048) (h1 : (i 1).val = e.val) (h2 : (i 2).val = k.val) (h3 : (i 3).val = n.val) :
    V m c main_v0 i = wA m c (ix3 (n0 := 32) (n1 := 2048) (n2 := 2048) e k n) := by
  refine (congrFun (V_v0 m c) i).trans (broadcastInDim_apply _ _ _ _ _ fun a => ?_)
  match a with
  | ⟨0, _⟩ => exact h1.symm
  | ⟨1, _⟩ => exact h2.symm
  | ⟨2, _⟩ => exact h3.symm

theorem b_at (c : Dev nD) (i : S1x32x1x2048.Idx) (e : Fin 32) (n : Fin 2048) (h1 : (i 1).val = e.val) (h3 : (i 3).val = n.val) :
    V m c main_v1 i = bA m c (ix2 (n0 := 32) (n1 := 2048) e n) := by
  refine (congrFun (V_v1 m c) i).trans (broadcastInDim_apply _ _ _ _ _ fun a => ?_)
  match a with
  | ⟨0, _⟩ => exact h1.symm
  | ⟨1, _⟩ => exact h3.symm

variable (hR : InRange (tbl m))

theorem emb0_val (t : Fin (cfgM m hR).N) (y : S512x2048.Idx) (a : Fin 2) :
    ((((cfgM m hR).win 0).rect t).emb y a).val
      = (![min (grid0.coords t 1).val (nOf (tbl m) - 1), 0] : Fin 2 → ℕ) a * S512x2048.size a + (y a).val := by
  rw [← tr0 hR (grid0.coords t)]
  exact Pipeline.Window.rect_emb_val ((cfgM m hR).win 0) t y a rfl
theorem emb2_val (t : Fin (cfgM m hR).N) (y : S1x1x1x1024.Idx) (a : Fin 4) :
    ((((cfgM m hR).win 2).rect t).emb y a).val
      = (![0, eOf (tbl m) (grid0.coords t 1), 0, (grid0.coords t 0).val] : Fin 4 → ℕ) a * S1x1x1x1024.size a + (y a).val := by
  rw [← tr2 hR (grid0.coords t)]
  exact Pipeline.Window.rect_emb_val ((cfgM m hR).win 2) t y a rfl
theorem emb3_val (t : Fin (cfgM m hR).N) (y : S512x1024.Idx) (a : Fin 2) :
    ((((cfgM m hR).win 3).rect t).emb y a).val
      = (![min (grid0.coords t 1).val (nOf (tbl m) - 1), (grid0.coords t 0).val] : Fin 2 → ℕ) a * S512x1024.size a + (y a).val := by
  rw [← tr3 hR (grid0.coords t)]
  exact Pipeline.Window.rect_emb_val ((cfgM m hR).win 3) t y a rfl

/-! ## A point's blocks -/

theorem bx_at (c : Dev nD) (t : Fin (cfgM m hR).N) (r : Fin 512) (k : Fin 2048) (R : Fin 147456)
    (h : R.val = min (grid0.coords t 1).val (nOf (tbl m) - 1) * 512 + r.val) :
    bx m hR c t (ix2 (n0 := 512) (n1 := 2048) r k) = xA m c (ix2 (n0 := 147456) (n1 := 2048) R k) := by
  refine Eq.trans (b := V m c main_arg2 (ix2 (n0 := 147456) (n1 := 2048) R k)) (congrArg (V m c main_arg2) (funext fun a => Fin.ext ?_)) (congrFun (V_arg2 m c) _)
  refine (emb0_val m hR t (ix2 (n0 := 512) (n1 := 2048) r k) a).trans ?_
  match a with
  | ⟨0, _⟩ => exact h.symm
  | ⟨1, _⟩ => show 0 * 2048 + k.val = k.val; omega

theorem sW_at (c : Dev nD) (t : Fin (cfgM m hR).N) (k : Fin 2048) (y : Fin 1024) (e : Fin 32) (n : Fin 2048)
    (he : eOf (tbl m) (grid0.coords t 1) = e.val) (hn : n.val = (grid0.coords t 0).val * 1024 + y.val) :
    sW m hR c t (ix2 (n0 := 2048) (n1 := 1024) k y) = wA m c (ix3 (n0 := 32) (n1 := 2048) (n2 := 2048) e k n) := by
  refine (pay1_at (bw m hR c t) k y).trans (w_at m c _ e k n ?_ ?_ ?_)
  · refine (emb1_val m hR t _ (1 : Fin 4)).trans ?_
    show eOf (tbl m) (grid0.coords t 1) * 1 + 0 = e.val
    omega
  · refine (emb1_val m hR t _ (2 : Fin 4)).trans ?_
    show 0 * 2048 + k.val = k.val
    omega
  · exact (emb1_val m hR t _ (3 : Fin 4)).trans hn.symm

theorem bb_at (c : Dev nD) (t : Fin (cfgM m hR).N) (y : Fin 1024) (e : Fin 32) (n : Fin 2048)
    (he : eOf (tbl m) (grid0.coords t 1) = e.val) (hn : n.val = (grid0.coords t 0).val * 1024 + y.val) :
    bb m hR c t (ix4 (n0 := 1) (n1 := 1) (n2 := 1) (n3 := 1024) 0 0 0 y) = bA m c (ix2 (n0 := 32) (n1 := 2048) e n) := by
  refine b_at m c _ e n ?_ ?_
  · refine (emb2_val m hR t _ (1 : Fin 4)).trans ?_
    show eOf (tbl m) (grid0.coords t 1) * 1 + 0 = e.val
    omega
  · exact (emb2_val m hR t _ (3 : Fin 4)).trans hn.symm

/-- The reference's result of the launch's arguments. -/
abbrev refA (c : Dev nD) : S147456x2048.Idx → EReal := Cert.Reference3Ideal.Read.val_main_v20 (F := Ideal) (teA m c) (xA m c) (wA m c) (bA m c)

/-- The block a point in use computes is the reference's there. -/
theorem out_at (c : Dev nD) (t : Fin (cfgM m hR).N) (hu : (grid0.coords t 1).val < nOf (tbl m)) (y : S512x1024.Idx) (i : S147456x2048.Idx)
    (h0 : (i 0).val = (grid0.coords t 1).val * 512 + (y 0).val) (h1 : (i 1).val = (grid0.coords t 0).val * 1024 + (y 1).val) :
    (outS m hR c t y : EReal) = refA m c i := by
  have hy0 : (y 0).val < 512 := (y 0).isLt
  have hy1 : (y 1).val < 1024 := (y 1).isLt
  have hi1 : (i 1).val < 2048 := (i 1).isLt
  have hte : tbl m 0 = teA m c := (V_pre m c 0).symm.trans (V_arg0 m c)
  have hmin : min (grid0.coords t 1).val (nOf (tbl m) - 1) = (grid0.coords t 1).val := by omega
  obtain ⟨e, he⟩ : ∃ e : Fin 32, eOf (tbl m) (grid0.coords t 1) = e.val := ⟨⟨_, hR.e (grid0.coords t 1)⟩, rfl⟩
  have he' : e.val = (teA m c (ix1 (n := 288) (grid0.coords t 1))).toNat := by rw [← hte]; exact he.symm
  refine Eq.trans ?_ (Cert.Reference3Ideal.Value.ref_at (teA m c) (xA m c) (wA m c) (bA m c) i (grid0.coords t 1) (by rw [h0]; omega) e he').symm
  have ey : y = ix2 (n0 := 512) (n1 := 1024) (y 0) (y 1) := by
    funext a
    match a with
    | ⟨0, _⟩ => rfl
    | ⟨1, _⟩ => rfl
  rw [ey]
  unfold outS
  refine (pay2_at (bx m hR c t) (sW m hR c t) (bb m hR c t) (y 0) (y 1)).trans ?_
  unfold lay
  refine congrArg₂ (fun a b : EReal => a + b) (Finset.sum_congr rfl fun k _ => ?_) ?_
  · exact congrArg₂ (fun a b : EReal => a * b) (bx_at m hR c t (y 0) k (i 0) (by rw [hmin]; exact h0)) (sW_at m hR c t k (y 1) e _ he h1)
  · exact bb_at m hR c t (y 1) e _ he h1

/-! ## The launch's result -/

/-- A strip's result of a tile in use is written back: after the tile, or after the strip's last point for the last tile in use. -/
theorem flush_at (t : Fin (cfgM m hR).N) (h : t.val % 288 + 1 < nOf (tbl m) ∨ t.val % 288 = 287) : ((cfgM m hR).win 3).flush t = true := by
  have hN : grid0.N = 576 := N_0
  have ht : t.val < 576 := Nat.lt_of_lt_of_eq t.isLt N_0
  have hc := count_pos m hR
  rw [Pipeline.Window.flush_eq_flushF]
  unfold Pipeline.Window.flushF
  rw [Bool.and_eq_true, Bool.or_eq_true]
  refine ⟨rfl, ?_⟩
  by_cases hl : t.val + 1 = 576
  · exact .inl (decide_eq_true (hl.trans hN.symm))
  have hk : t.val + 1 < grid0.N := by omega
  rcases h with h | h
  · refine .inr (decide_eq_true ⟨hk, (0 : Fin 2), fun he => ?_⟩)
    have a1 := congrFun (tr3 hR (grid0.coords ⟨t.val + 1, hk⟩)) (0 : Fin 2)
    have a2 := congrFun (tr3 hR (grid0.coords t)) (0 : Fin 2)
    rw [coord0, coord1] at a1 a2
    have e : min ((t.val + 1) % 288) (nOf (tbl m) - 1) = min (t.val % 288) (nOf (tbl m) - 1) := a1.symm.trans (he.trans a2)
    omega
  · refine .inr (decide_eq_true ⟨hk, (1 : Fin 2), fun he => ?_⟩)
    have a1 := congrFun (tr3 hR (grid0.coords ⟨t.val + 1, hk⟩)) (1 : Fin 2)
    have a2 := congrFun (tr3 hR (grid0.coords t)) (1 : Fin 2)
    rw [coord0, coord1] at a1 a2
    have e : (t.val + 1) / 288 = t.val / 288 := a1.symm.trans (he.trans a2)
    omega

/-- What a point leaves in the result's buffer is the reference's block at the place it is written back to. -/
theorem left_at (c : Dev nD) (t : Fin (cfgM m hR).N) (y : S512x1024.Idx) (i : S147456x2048.Idx)
    (h0 : (i 0).val = min (grid0.coords t 1).val (nOf (tbl m) - 1) * 512 + (y 0).val) (h1 : (i 1).val = (grid0.coords t 0).val * 1024 + (y 1).val) :
    (outS m hR c (base m hR t) y : EReal) = refA m c i := by
  have hc := count_pos m hR
  have b0 : (grid0.coords (base m hR t) 0).val = t.val / 288 := by
    rw [coord0]; show (288 * (t.val / 288) + min (t.val % 288) (nOf (tbl m) - 1)) / 288 = _; omega
  have b1 : (grid0.coords (base m hR t) 1).val = min (t.val % 288) (nOf (tbl m) - 1) := by
    rw [coord1]; show (288 * (t.val / 288) + min (t.val % 288) (nOf (tbl m) - 1)) % 288 = _; omega
  rw [coord1] at h0
  rw [coord0] at h1
  exact out_at m hR c (base m hR t) (by rw [b1]; omega) y i (by rw [b1]; exact h0) (by rw [b0]; exact h1)

/-- THE LAUNCH'S RESULT IS THE REFERENCE'S, of the same arguments, at every row of a tile in use. -/
theorem result (c : Dev nD) (i : S147456x2048.Idx) (hi : (i 0).val < 512 * nOf (tbl m)) :
    (dats m hR 0 c).arrAt 3 (cfgM m hR).N i = refA m c i := by
  have hi0 : (i 0).val < 147456 := (i 0).isLt
  have hi1 : (i 1).val < 2048 := (i 1).isLt
  have hc := count_pos m hR
  have hN : grid0.N = 576 := N_0
  obtain ⟨q, hq, hq0, hq1⟩ : ∃ q, q < 288 ∧ (q + 1 < nOf (tbl m) ∨ q = 287) ∧ min q (nOf (tbl m) - 1) = (i 0).val / 512 := by
    by_cases hl : (i 0).val / 512 + 1 < nOf (tbl m)
    · exact ⟨(i 0).val / 512, by omega, .inl hl, by omega⟩
    · exact ⟨287, by omega, .inr rfl, by omega⟩
  have hn : 288 * ((i 1).val / 1024) + q < grid0.N := by omega
  have m0 : (288 * ((i 1).val / 1024) + q) / 288 = (i 1).val / 1024 := by omega
  have m1 : (288 * ((i 1).val / 1024) + q) % 288 = q := by omega
  let y : S512x1024.Idx := ix2 (n0 := 512) (n1 := 1024) ⟨(i 0).val % 512, Nat.mod_lt _ (by decide)⟩ ⟨(i 1).val % 1024, Nat.mod_lt _ (by decide)⟩
  have ei : ((((cfgM m hR).win 3).blk ⟨288 * ((i 1).val / 1024) + q, hn⟩).view.emb y) = i := by
    funext a
    match a with
    | ⟨0, _⟩ =>
      apply Fin.ext
      refine (emb3_val m hR ⟨288 * ((i 1).val / 1024) + q, hn⟩ y (0 : Fin 2)).trans ?_
      show min (grid0.coords (⟨288 * ((i 1).val / 1024) + q, hn⟩ : Fin grid0.N) 1).val (nOf (tbl m) - 1) * 512 + (i 0).val % 512 = (i 0).val
      rw [coord1, m1, hq1]; omega
    | ⟨1, _⟩ =>
      apply Fin.ext
      refine (emb3_val m hR ⟨288 * ((i 1).val / 1024) + q, hn⟩ y (1 : Fin 2)).trans ?_
      show (grid0.coords (⟨288 * ((i 1).val / 1024) + q, hn⟩ : Fin grid0.N) 0).val * 1024 + (i 1).val % 1024 = (i 1).val
      rw [coord0, m0]; omega
  refine (dats m hR 0 c).arrAt_apply_of_mem 3 (refA m c) (fun t _ => funext fun (y : S512x1024.Idx) => ?_) (cfgM m hR).N ⟨288 * ((i 1).val / 1024) + q, hn⟩ i hn
    (flush_at m hR _ (by show (288 * ((i 1).val / 1024) + q) % 288 + 1 < _ ∨ (288 * ((i 1).val / 1024) + q) % 288 = 287; rw [m1]; exact hq0)) ?_
  · exact (congrFun (after_3 m hR c t) y).trans (left_at m hR c t y (((cfgM m hR).win 3).blk t |>.view.emb y) (emb3_val m hR t y (0 : Fin 2)) (emb3_val m hR t y (1 : Fin 2)))
  · have hm := View.emb_mem_set (((cfgM m hR).win 3).blk ⟨288 * ((i 1).val / 1024) + q, hn⟩).view y
    rw [ei] at hm
    exact hm

end Cert.Kernel3Ideal.Down
-- ==== Proof.DownPre.lean ====
module

public import proofs.«01_k».proof.Proof.UpPre
public import proofs.«01_k».proof.Pre_down_tiles_in_range
public import proofs.«01_k».proof.On_down_rows_used

/-! # What the third call's precondition and its choice of rows say, entry by entry -/

@[expose] public section

namespace Cert.Down

open Idealize.ShloMosaic hiding ix1 ix2 ix3 ix4 ix5
open Idealize.ShloMosaic.ValueIdx
open Cert.Up (of_ge of_lt of_le)

variable {F : FTy → Type} [FloatOps F]

section
variable [Cert.Pre_down_tiles_in_range.Facts]
open Cert.Pre_down_tiles_in_range Cert.Pre_down_tiles_in_range.Facts

/-- Every tile's expert is one of the experts, and at least one tile and no more than there are is in use. -/
theorem range_of_pre (te : IVec S288 32) (nu : IVec S1 32) (xs : FVec F S147456x2048 .bf16) (w : FVec F S32x2048x2048 .f32) (b : FVec F S32x2048 .f32)
    (h : Cert.Pre_down_tiles_in_range.fn (F := F) te nu xs w b = fun _ => 1#1) :
    (∀ k : Fin 288, (te (ix1 (n := 288) k)).toNat < 32) ∧ 1 ≤ (nu (ix1 (n := 1) 0)).toNat ∧ (nu (ix1 (n := 1) 0)).toNat ≤ 288 := by
  replace h := congrFun h (Shape.Idx.first h_S_)
  haveI : Subsingleton S_.Idx := ⟨fun a b => funext fun x => x.elim0⟩
  unfold Cert.Pre_down_tiles_in_range.fn at h
  obtain ⟨h1, h2⟩ := (Cert.Att.and1 _ _).mp h
  refine ⟨fun k => ?_, ?_⟩
  · obtain ⟨a, b⟩ := (Cert.Att.and1 _ _).mp (Host.reduce_andi_all _ _ _ _ _ h1 (ix1 (n := 288) k))
    have a' := of_ge (te (ix1 (n := 288) k)) 0#32 (by decide) a
    exact of_lt (te (ix1 (n := 288) k)) 32#32 a'.1 (by decide) b
  · obtain ⟨a, b⟩ := (Cert.Att.and1 _ _).mp (Host.reduce_andi_all _ _ _ _ _ h2 (ix1 (n := 1) 0))
    have a' := of_ge (nu (ix1 (n := 1) 0)) 1#32 (by decide) a
    exact ⟨a'.2, of_le (nu (ix1 (n := 1) 0)) 288#32 a'.1 (by decide) b⟩
end

section
variable [Cert.On_down_rows_used.Facts]
open Cert.On_down_rows_used Cert.On_down_rows_used.Facts

/-- The chosen rows are those of the tiles in use. -/
theorem row_of_mask (te : IVec S288 32) (nu : IVec S1 32) (xs : FVec F S147456x2048 .bf16) (w : FVec F S32x2048x2048 .f32) (b : FVec F S32x2048 .f32)
    (hn : (nu (ix1 (n := 1) 0)).toNat ≤ 288) (i : S147456x2048.Idx) (h : Cert.On_down_rows_used.fn (F := F) te nu xs w b i = 1#1) :
    (i 0).val < 512 * (nu (ix1 (n := 1) 0)).toNat := by
  have hi : (i 0).val < 147456 := (i 0).isLt
  have h' : IntOp.cmpi .slt (BitVec.ofNat 32 (i 0).val) (nu (ix1 (n := 1) 0) * 512#32) = 1#1 := by
    refine Eq.trans ?_ h
    unfold Cert.On_down_rows_used.fn
    refine congrArg (fun z => IntOp.cmpi .slt (BitVec.ofNat 32 (i 0).val) z) ?_
    refine Eq.symm ((broadcastInDim_apply _ _ _ _ (fun a : Fin 0 => a.elim0) (fun a => a.elim0)).trans ?_)
    refine congrArg (fun z => z * 512#32) ?_
    unfold shapeCast
    refine congrArg nu (funext fun a => ?_)
    match a with
    | ⟨0, _⟩ => exact Subsingleton.elim (α := Fin 1) _ _
  have e1 : (BitVec.ofNat 32 (i 0).val).toNat = (i 0).val := by rw [BitVec.toNat_ofNat]; omega
  have e2 : (nu (ix1 (n := 1) 0) * 512#32).toNat = (nu (ix1 (n := 1) 0)).toNat * 512 := by
    rw [BitVec.toNat_mul, show (512#32 : BitVec 32).toNat = 512 from rfl]; omega
  have := of_lt _ _ (by rw [e1]; omega) (by rw [e2]; omega) h'
  rw [e1, e2] at this
  omega
end

end Cert.Down
-- ==== Proof.lean ====
/- The proof of the certificate's claims: the frames of the three calls and of their references, and that each call agrees with its reference. -/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_attendable
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_tiles_in_range
public import proofs.«01_k».proof.Proof.Gen.On_rows_used
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_down_tiles_in_range
public import proofs.«01_k».proof.Proof.Gen.On_down_rows_used
import proofs.«01_k».proof.Proof.AttFrame
public import proofs.«01_k».proof.Proof.BitFrame
import proofs.«01_k».proof.Proof.AttValue
public import proofs.«01_k».proof.Proof.UpFrame
public import proofs.«01_k».proof.Proof.BitUpFrame
import proofs.«01_k».proof.Proof.UpValue
public import proofs.«01_k».proof.Proof.UpPre
public import proofs.«01_k».proof.Proof.DownFrame
public import proofs.«01_k».proof.Proof.BitDownFrame
import proofs.«01_k».proof.Proof.DownValue
public import proofs.«01_k».proof.Proof.DownPre
public import Idealize.ShloMosaic.Lib.Quiescent
public import Idealize.ShloMosaic.Adequacy
public import Idealize.ShloMosaic.Init

@[expose] public section

noncomputable section

namespace Cert.Proof

open Idealize.ShloMosaic Idealize.SL.Sem

/-- The kernel as compiled runs, leaves its arguments alone and ends with every counter at zero. -/
theorem frame_kernel : Cert.quiescent_Kernel := fun m ρ _ =>
  (θ_run Cert.Kernel.defs _ _).mono (fun _ h => ⟨fun c => (h.1 c).2, h.2⟩) (Cert.Kernel.Att.run_main (F := Bits) m ρ)

/-- The same of the kernel over the extended reals. -/
theorem frame_ideal : Cert.quiescent_KernelIdeal := fun m ρ _ =>
  (θ_run Cert.KernelIdeal.defs _ _).mono (fun _ h => ⟨fun c => (h.1 c).2, h.2⟩) (Cert.KernelIdeal.Att.run_main (F := Ideal) m ρ)

/-- The same of the reference. -/
theorem frame_ref : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Where the arguments are `attendable`, the attention call's result is the reference's, entry by entry. -/
theorem same_result : Cert.algebraic_KernelIdeal_ReferenceIdeal_pre_attendable := by
  intro m g m' g' hpre hargs
  refine ⟨fun c => (Cert.KernelIdeal.Att.dats m 0 c).arrAt 4 (Cert.KernelIdeal.Att.cfgM m).N,
    (θ_run Cert.KernelIdeal.defs _ _).mono (fun _ h => h.1) (Cert.KernelIdeal.Att.run_main (F := Ideal) m g),
    (θ_run Cert.ReferenceIdeal.defs _ _).mono (fun _ h c => ⟨(h c).1.trans ?_, (h c).2⟩) (Cert.ReferenceIdeal.Value.run (F := Ideal) m' g')⟩
  obtain ⟨h0, h1, h2, h3⟩ := hargs c
  refine (Cert.ReferenceIdeal.Read.val_main_v56_eq m' c).trans ?_
  rw [h0, h1, h2, h3]
  exact (Cert.KernelIdeal.Att.result m c (Cert.Att.ok_of_pre _ _ _ _ (hpre c))).symm

section
variable [Cert.Pre_tiles_in_range.Facts]

theorem up_range_kernel (m : (ℓ : Loc Cert.Kernel2.nD Cert.Kernel2.τ Cert.Kernel2.sig) → Buf (Elt Bits) ℓ) (h : Cert.Pre_Kernel2 m) :
    Cert.Kernel2.Up.InRange (Cert.Kernel2.Up.tbl (F := Bits) m) := by
  obtain ⟨he, hn⟩ := Cert.Up.range_of_pre (F := Bits) _ _ _ _ _ (h 0)
  have e0 := Cert.Kernel2.Up.V_arg0 (F := Bits) m 0
  have e1 := Cert.Kernel2.Up.V_arg1 (F := Bits) m 0
  refine ⟨fun k => ?_, ?_⟩
  · exact lt_of_eq_of_lt (congrArg BitVec.toNat (congrFun e0 _)) (he k)
  · have e := congrArg BitVec.toNat (congrFun e1 (ValueIdx.ix1 (n := 1) 0))
    exact ⟨le_of_le_of_eq hn.1 e.symm, le_of_eq_of_le e hn.2⟩

theorem up_range (m : (ℓ : Loc Cert.Kernel2Ideal.nD Cert.Kernel2Ideal.τ Cert.Kernel2Ideal.sig) → Buf (Elt Ideal) ℓ) (h : Cert.Pre_Kernel2Ideal m) :
    Cert.Kernel2Ideal.Up.InRange (Cert.Kernel2Ideal.Up.tbl (F := Ideal) m) := by
  obtain ⟨he, hn⟩ := Cert.Up.range_of_pre (F := Ideal) _ _ _ _ _ (h 0)
  have e0 := Cert.Kernel2Ideal.Up.V_arg0 (F := Ideal) m 0
  have e1 := Cert.Kernel2Ideal.Up.V_arg1 (F := Ideal) m 0
  refine ⟨fun k => ?_, ?_⟩
  · exact lt_of_eq_of_lt (congrArg BitVec.toNat (congrFun e0 _)) (he k)
  · have e := congrArg BitVec.toNat (congrFun e1 (ValueIdx.ix1 (n := 1) 0))
    exact ⟨le_of_le_of_eq hn.1 e.symm, le_of_eq_of_le e hn.2⟩

/-- The experts' first call as compiled runs, leaves its arguments alone and ends with every counter at zero. -/
theorem frame_up_kernel : Cert.quiescent_Kernel2 := fun m ρ h =>
  (θ_run Cert.Kernel2.defs _ _).mono (fun _ h => ⟨fun c => (h.1 c).2, h.2⟩) (Cert.Kernel2.Up.run_main (F := Bits) m ρ (up_range_kernel m h))

/-- The same of the call over the extended reals. -/
theorem frame_up_ideal : Cert.quiescent_Kernel2Ideal := fun m ρ h =>
  (θ_run Cert.Kernel2Ideal.defs _ _).mono (fun _ h => ⟨fun c => (h.1 c).2, h.2⟩) (Cert.Kernel2Ideal.Up.run_main (F := Ideal) m ρ (up_range m h))

/-- The same of its reference. -/
theorem frame_up_ref : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

variable [Cert.On_rows_used.Facts]

/-- Where the tables are `tiles_in_range`, the call's result is the reference's at every entry of `rows_used`. -/
theorem same_up_result : Cert.algebraic_Kernel2Ideal_Reference2Ideal_on_rows_used := by
  intro m g m' g' hpre hargs
  have hR := up_range m hpre
  refine ⟨fun c => (Cert.Kernel2Ideal.Up.dats m hR 0 c).arrAt 5 (Cert.Kernel2Ideal.Up.cfgM m hR).N,
    (θ_run Cert.Kernel2Ideal.defs _ _).mono (fun _ h c => ⟨fun i _ => congrFun (h.1 c).1 i, (h.1 c).2⟩) (Cert.Kernel2Ideal.Up.run_main (F := Ideal) m g hR),
    (θ_run Cert.Reference2Ideal.defs _ _).mono (fun _ h c => ⟨fun i hi => (congrFun (h c).1 i).trans ?_, (h c).2⟩) (Cert.Reference2Ideal.Value.run (F := Ideal) m' g')⟩
  obtain ⟨h0, h1, h2, h3, h4⟩ := hargs c
  obtain rfl : c = 0 := Subsingleton.elim _ _
  refine (congrFun (Cert.Reference2Ideal.Read.val_main_v37_eq m' 0) i).trans ?_
  rw [h0, h2, h3, h4]
  have hn := (Cert.Up.range_of_pre (F := Ideal) _ _ _ _ _ (hpre 0)).2.2
  have hr := Cert.Up.row_of_mask (F := Ideal) _ _ _ _ _ hn i hi
  have e := congrArg BitVec.toNat (congrFun (Cert.Kernel2Ideal.Up.V_arg1 (F := Ideal) m 0) (ValueIdx.ix1 (n := 1) 0))
  exact (Cert.Kernel2Ideal.Up.result m hR 0 i (lt_of_lt_of_eq hr (congrArg (fun n => 512 * n) e.symm))).symm

end

section
variable [Cert.Pre_down_tiles_in_range.Facts]

theorem down_range_kernel (m : (ℓ : Loc Cert.Kernel3.nD Cert.Kernel3.τ Cert.Kernel3.sig) → Buf (Elt Bits) ℓ) (h : Cert.Pre_Kernel3 m) :
    Cert.Kernel3.Down.InRange (Cert.Kernel3.Down.tbl (F := Bits) m) := by
  obtain ⟨he, hn⟩ := Cert.Down.range_of_pre (F := Bits) _ _ _ _ _ (h 0)
  have e0 := Cert.Kernel3.Down.V_arg0 (F := Bits) m 0
  have e1 := Cert.Kernel3.Down.V_arg1 (F := Bits) m 0
  refine ⟨fun k => ?_, ?_⟩
  · exact lt_of_eq_of_lt (congrArg BitVec.toNat (congrFun e0 _)) (he k)
  · have e := congrArg BitVec.toNat (congrFun e1 (ValueIdx.ix1 (n := 1) 0))
    exact ⟨le_of_le_of_eq hn.1 e.symm, le_of_eq_of_le e hn.2⟩

theorem down_range (m : (ℓ : Loc Cert.Kernel3Ideal.nD Cert.Kernel3Ideal.τ Cert.Kernel3Ideal.sig) → Buf (Elt Ideal) ℓ) (h : Cert.Pre_Kernel3Ideal m) :
    Cert.Kernel3Ideal.Down.InRange (Cert.Kernel3Ideal.Down.tbl (F := Ideal) m) := by
  obtain ⟨he, hn⟩ := Cert.Down.range_of_pre (F := Ideal) _ _ _ _ _ (h 0)
  have e0 := Cert.Kernel3Ideal.Down.V_arg0 (F := Ideal) m 0
  have e1 := Cert.Kernel3Ideal.Down.V_arg1 (F := Ideal) m 0
  refine ⟨fun k => ?_, ?_⟩
  · exact lt_of_eq_of_lt (congrArg BitVec.toNat (congrFun e0 _)) (he k)
  · have e := congrArg BitVec.toNat (congrFun e1 (ValueIdx.ix1 (n := 1) 0))
    exact ⟨le_of_le_of_eq hn.1 e.symm, le_of_eq_of_le e hn.2⟩

/-- The experts' second call as compiled runs, leaves its arguments alone and ends with every counter at zero. -/
theorem frame_down_kernel : Cert.quiescent_Kernel3 := fun m ρ h =>
  (θ_run Cert.Kernel3.defs _ _).mono (fun _ h => ⟨fun c => (h.1 c).2, h.2⟩) (Cert.Kernel3.Down.run_main (F := Bits) m ρ (down_range_kernel m h))

/-- The same of the call over the extended reals. -/
theorem frame_down_ideal : Cert.quiescent_Kernel3Ideal := fun m ρ h =>
  (θ_run Cert.Kernel3Ideal.defs _ _).mono (fun _ h => ⟨fun c => (h.1 c).2, h.2⟩) (Cert.Kernel3Ideal.Down.run_main (F := Ideal) m ρ (down_range m h))

/-- The same of its reference. -/
theorem frame_down_ref : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

variable [Cert.On_down_rows_used.Facts]

/-- Where the tables are `down_tiles_in_range`, the call's result is the reference's at every entry of `down_rows_used`. -/
theorem same_down_result : Cert.algebraic_Kernel3Ideal_Reference3Ideal_on_down_rows_used := by
  intro m g m' g' hpre hargs
  have hR := down_range m hpre
  refine ⟨fun c => (Cert.Kernel3Ideal.Down.dats m hR 0 c).arrAt 3 (Cert.Kernel3Ideal.Down.cfgM m hR).N,
    (θ_run Cert.Kernel3Ideal.defs _ _).mono (fun _ h c => ⟨fun i _ => congrFun (h.1 c).1 i, (h.1 c).2⟩) (Cert.Kernel3Ideal.Down.run_main (F := Ideal) m g hR),
    (θ_run Cert.Reference3Ideal.defs _ _).mono (fun _ h c => ⟨fun i hi => (congrFun (h c).1 i).trans ?_, (h c).2⟩) (Cert.Reference3Ideal.Value.run (F := Ideal) m' g')⟩
  obtain ⟨h0, h1, h2, h3, h4⟩ := hargs c
  obtain rfl : c = 0 := Subsingleton.elim _ _
  refine (congrFun (Cert.Reference3Ideal.Read.val_main_v20_eq (F := Ideal) _ _ _ _) i).trans ?_
  rw [h0, h2, h3, h4]
  have hn := (Cert.Down.range_of_pre (F := Ideal) _ _ _ _ _ (hpre 0)).2.2
  have hr := Cert.Down.row_of_mask (F := Ideal) _ _ _ _ _ hn i hi
  have e := congrArg BitVec.toNat (congrFun (Cert.Kernel3Ideal.Down.V_arg1 (F := Ideal) m 0) (ValueIdx.ix1 (n := 1) 0))
  exact (Cert.Kernel3Ideal.Down.result m hR 0 i (lt_of_lt_of_eq hr (congrArg (fun n => 512 * n) e.symm))).symm

end

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Pre_attendable.Gen.facts, Cert.Pre_tiles_in_range.Gen.facts, Cert.Pre_down_tiles_in_range.Gen.facts, Cert.On_rows_used.Gen.facts, Cert.On_down_rows_used.Gen.facts,
  frame_kernel, frame_ideal, fun m g _ => frame_ideal m g trivial, frame_ref, fun m g _ => frame_ref m g trivial,
  frame_up_kernel, frame_up_ideal, frame_up_ref, fun m g _ => frame_up_ref m g trivial,
  frame_down_kernel, frame_down_ideal, frame_down_ref, fun m g _ => frame_down_ref m g trivial,
  trivial, same_result, trivial, same_up_result, trivial, same_down_result⟩

end Cert.Proof

end
